-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .bf16 0x3DB5#16 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![4, 1024, 1024]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![1, 1024, 1024]⟩ ⟨3, ![4, 1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S1x1024x1024 .f32) (main_arg1 : FVec F S1024x1024 .f32) (main_arg2 : FVec F S4x1024x32x128 .f32) (main_arg3 : FVec F S4x1024x32x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Pre_finite_ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4x1024x32x128 : S_.BroadcastsInDim S4x1024x32x128 (![] : Fin 0 → Fin S4x1024x32x128.rank)
  reducesTo_S4x1024x32x128_S_d0_1_2_3 : S4x1024x32x128.ReducesTo [0, 1, 2, 3] S_

variable [Facts]

def fn {F : FTy → Type} [FloatOps F] (main_arg0 : FVec F S4x1024x1024 .f32) (main_arg1 : FVec F S1024x4096 .f32) (main_arg2 : FVec F S4x1024x32x128 .f32) (main_arg3 : FVec F S4x1024x32x128 .f32) (main_arg4 : FVec F S4096x1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4x1024x32x128 .f32 := Host.absf main_arg2
  let main_cst_2 : FVec F S_ .f32 := constant S_ .f32 0x7F800000#32
  let main_v10 : FVec F S4x1024x32x128 .f32 := broadcastInDim S4x1024x32x128 ![] bcast_S_S4x1024x32x128 main_cst_2
  let main_v11 : IVec S4x1024x32x128 1 := cmpf .olt main_v9 main_v10
  let main_c_3 : IVec S_ 1 := constantI S_ 1 1#1
  let main_v12 : IVec S_ 1 := (fun x v => Host.reduce IntOp.andi x v reducesTo_S4x1024x32x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S4x1024x32x128 : Shape := ⟨4, ![4, 1024, 32, 128]⟩
abbrev S4x1024x1024 : Shape := ⟨3, ![4, 1024, 1024]⟩
abbrev S3x1024x1024 : Shape := ⟨3, ![3, 1024, 1024]⟩
abbrev S2x1024x8x128 : Shape := ⟨4, ![2, 1024, 8, 128]⟩
abbrev S4 : Shape := ⟨1, ![4]⟩
abbrev S_ : Shape := ⟨0, ![]⟩
abbrev S2 : Shape := ⟨1, ![2]⟩
abbrev S1 : Shape := ⟨1, ![1]⟩
abbrev S1x1024x8x128 : Shape := ⟨4, ![1, 1024, 8, 128]⟩
abbrev S1024x8x128 : Shape := ⟨3, ![1024, 8, 128]⟩
abbrev S1x1024x1x128 : Shape := ⟨4, ![1, 1024, 1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S4x1024x32x128, .f32⟩
  | .hbm, ⟨3, _⟩ => ⟨S4x1024x32x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S4x1024x1024, .bf16⟩
  | .local _ .vmem, ⟨2, _⟩ => ⟨S4x1024x1024, .bf16⟩
  | .local _ .vmem, ⟨3, _⟩ => ⟨S3x1024x1024, .bf16⟩
  | .local _ .vmem, ⟨4, _⟩ => ⟨S2x1024x8x128, .f32⟩
  | .local _ .vmem, ⟨5, _⟩ => ⟨S2x1024x8x128, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_23 : BitVec 32 := 1#32
  let v62 : BitVec 32 := Scalar.addi v2 c1_i32_23
  let c4_i32_24 : BitVec 32 := 4#32
  let v63 : BitVec 32 := Scalar.remsi v62 c4_i32_24
  let c1_i32_26 : BitVec 32 := 1#32
  let v64 : BitVec 32 := Scalar.muli v63 c1_i32_26
  let v65 : BitVec 32 := Scalar.addi c0_i32_27 v64
  v65.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v66 : BitVec 32 := Scalar.addi v2 c2_i32_28
  let c4_i32_29 : BitVec 32 := 4#32
  let v67 : BitVec 32 := Scalar.remsi v66 c4_i32_29
  let c1_i32_31 : BitVec 32 := 1#32
  let v68 : BitVec 32 := Scalar.muli v67 c1_i32_31
  let v69 : BitVec 32 := Scalar.addi c0_i32_32 v68
  v69.toNat
def k0_dev3 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_33 : BitVec 32 := 3#32
  let v70 : BitVec 32 := Scalar.addi v2 c3_i32_33
  let c4_i32_34 : BitVec 32 := 4#32
  let v71 : BitVec 32 := Scalar.remsi v70 c4_i32_34
  let c1_i32_36 : BitVec 32 := 1#32
  let v72 : BitVec 32 := Scalar.muli v71 c1_i32_36
  let v73 : BitVec 32 := Scalar.addi c0_i32_37 v72
  v73.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v86 : Index := Scalar.indexCast v2
  let c0_54 : Index := 0#32
  let c0_55 : Index := 0#32
  ![v86.toNat, 0, 0]
def k0_off2 (d0 : Dev nD) (c1_i32_56 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v90 : BitVec 32 := Scalar.addi v2 c1_i32_56
  let c4_i32_57 : BitVec 32 := 4#32
  let v91 : BitVec 32 := Scalar.remsi v90 c4_i32_57
  ![v91.toNat]
def k0_off3 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_60 : BitVec 32 := 0#32
  let c0_i32_61 : BitVec 32 := 0#32
  ![v2.toNat, 0, 0]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_56 : BitVec 32 := 1#32
  let v90 : BitVec 32 := Scalar.addi v2 c1_i32_56
  let c4_i32_57 : BitVec 32 := 4#32
  let v91 : BitVec 32 := Scalar.remsi v90 c4_i32_57
  let c1_i32_58 : BitVec 32 := 1#32
  let v92 : BitVec 32 := Scalar.muli v91 c1_i32_58
  let v93 : BitVec 32 := Scalar.addi c0_i32_59 v92
  v93.toNat
def k0_dev5 (d0 : Dev nD) : Nat :=
  let c0_i32_67 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_64 : BitVec 32 := 2#32
  let v102 : BitVec 32 := Scalar.addi v2 c2_i32_64
  let c4_i32_65 : BitVec 32 := 4#32
  let v103 : BitVec 32 := Scalar.remsi v102 c4_i32_65
  let c1_i32_66 : BitVec 32 := 1#32
  let v104 : BitVec 32 := Scalar.muli v103 c1_i32_66
  let v105 : BitVec 32 := Scalar.addi c0_i32_67 v104
  v105.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_72 : BitVec 32 := 3#32
  let v114 : BitVec 32 := Scalar.addi v2 c3_i32_72
  let c4_i32_73 : BitVec 32 := 4#32
  let v115 : BitVec 32 := Scalar.remsi v114 c4_i32_73
  let c1_i32_74 : BitVec 32 := 1#32
  let v116 : BitVec 32 := Scalar.muli v115 c1_i32_74
  let v117 : BitVec 32 := Scalar.addi c0_i32_75 v116
  v117.toNat
def k0_cond2 (i : grid0.Coords) : BitVec 1 :=
  let arg0 : BitVec 32 := BitVec.ofNat 32 (i 0).val
  let c0_i32_3 : BitVec 32 := 0#32
  let v11 : BitVec 1 := Scalar.cmpi .eq arg0 c0_i32_3
  let arg1 : BitVec 32 := BitVec.ofNat 32 (i 1).val
  let c0_i32_4 : BitVec 32 := 0#32
  let v12 : BitVec 1 := Scalar.cmpi .eq arg1 c0_i32_4
  let v13 : BitVec 1 := Scalar.andi v11 v12
  let v14 : BitVec 32 := Scalar.extui v13
  let c0_i32_5 : BitVec 32 := 0#32
  let v15 : BitVec 1 := Scalar.cmpi .ne v14 c0_i32_5
  v15

def k0_off5 (i : grid0.Coords) : Fin 1 → Nat :=
  let arg0 : BitVec 32 := BitVec.ofNat 32 (i 0).val
  let c2_i32 : BitVec 32 := 2#32
  let v10 : BitVec 32 := Scalar.remsi arg0 c2_i32
  ![v10.toNat]
def k0_off6 (i : grid0.Coords) : Fin 4 → Nat :=
  let arg0 : BitVec 32 := BitVec.ofNat 32 (i 0).val
  let c2_i32 : BitVec 32 := 2#32
  let v10 : BitVec 32 := Scalar.remsi arg0 c2_i32
  let c0_i32_23 : BitVec 32 := 0#32
  let c0_i32_24 : BitVec 32 := 0#32
  let c0_i32_25 : BitVec 32 := 0#32
  ![v10.toNat, 0, 0, 0]
def k0_off7 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let c0_i32_26 : BitVec 32 := 0#32
  let c8_i32 : BitVec 32 := 8#32
  let v61 : BitVec 32 := Scalar.muli v2 c8_i32
  let c0_i32_27 : BitVec 32 := 0#32
  ![v4.toNat, 0, v61.toNat, 0]
def k0_cond3 (i : grid0.Coords) : BitVec 1 :=
  let arg1 : BitVec 32 := BitVec.ofNat 32 (i 1).val
  let c0_i32_6 : BitVec 32 := 0#32
  let v16 : BitVec 1 := Scalar.cmpi .eq arg1 c0_i32_6
  let v17 : BitVec 32 := Scalar.extui v16
  let c0_i32_7 : BitVec 32 := 0#32
  let v18 : BitVec 1 := Scalar.cmpi .ne v17 c0_i32_7
  v18

def k0_off8 (i : grid0.Coords) : Fin 1 → Nat :=
  let arg0 : BitVec 32 := BitVec.ofNat 32 (i 0).val
  let c2_i32 : BitVec 32 := 2#32
  let v10 : BitVec 32 := Scalar.remsi arg0 c2_i32
  ![v10.toNat]
def k0_off9 (i : grid0.Coords) : Fin 4 → Nat :=
  let arg0 : BitVec 32 := BitVec.ofNat 32 (i 0).val
  let c2_i32 : BitVec 32 := 2#32
  let v10 : BitVec 32 := Scalar.remsi arg0 c2_i32
  let c0_i32_23 : BitVec 32 := 0#32
  let c0_i32_24 : BitVec 32 := 0#32
  let c0_i32_25 : BitVec 32 := 0#32
  ![v10.toNat, 0, 0, 0]
def k0_off10 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let c0_i32_26 : BitVec 32 := 0#32
  let c8_i32 : BitVec 32 := 8#32
  let v61 : BitVec 32 := Scalar.muli v2 c8_i32
  let c0_i32_27 : BitVec 32 := 0#32
  ![v4.toNat, 0, v61.toNat, 0]
def k0_cond4 (i : grid0.Coords) : BitVec 1 :=
  let arg0 : BitVec 32 := BitVec.ofNat 32 (i 0).val
  let c3_i32_34 : BitVec 32 := 3#32
  let v75 : BitVec 1 := Scalar.cmpi .slt arg0 c3_i32_34
  let v76 : BitVec 32 := Scalar.extui v75
  let c0_i32_35 : BitVec 32 := 0#32
  let v77 : BitVec 1 := Scalar.cmpi .ne v76 c0_i32_35
  v77

def k0_off11 (i : grid0.Coords) : Fin 1 → Nat :=
  let arg0 : BitVec 32 := BitVec.ofNat 32 (i 0).val
  let c1_i32_47 : BitVec 32 := 1#32
  let v92 : BitVec 32 := Scalar.addi arg0 c1_i32_47
  let c2_i32_48 : BitVec 32 := 2#32
  let v93 : BitVec 32 := Scalar.remsi v92 c2_i32_48
  ![v93.toNat]
def k0_off12 (i : grid0.Coords) : Fin 4 → Nat :=
  let arg0 : BitVec 32 := BitVec.ofNat 32 (i 0).val
  let c1_i32_47 : BitVec 32 := 1#32
  let v92 : BitVec 32 := Scalar.addi arg0 c1_i32_47
  let c2_i32_48 : BitVec 32 := 2#32
  let v93 : BitVec 32 := Scalar.remsi v92 c2_i32_48
  let c0_i32_50 : BitVec 32 := 0#32
  let c0_i32_51 : BitVec 32 := 0#32
  let c0_i32_52 : BitVec 32 := 0#32
  ![v93.toNat, 0, 0, 0]
def k0_off13 (i : grid0.Coords) (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let c1_i32_45 : BitVec 32 := 1#32
  let v90 : BitVec 32 := Scalar.addi v4 c1_i32_45
  let c4_i32_46 : BitVec 32 := 4#32
  let v91 : BitVec 32 := Scalar.remsi v90 c4_i32_46
  let c0_i32_53 : BitVec 32 := 0#32
  let c8_i32_49 : BitVec 32 := 8#32
  let v94 : BitVec 32 := Scalar.muli v2 c8_i32_49
  let c0_i32_54 : BitVec 32 := 0#32
  ![v91.toNat, 0, v94.toNat, 0]
def k0_cond5 (i : grid0.Coords) : BitVec 1 :=
  let arg0 : BitVec 32 := BitVec.ofNat 32 (i 0).val
  let c0_i32_36 : BitVec 32 := 0#32
  let v78 : BitVec 1 := Scalar.cmpi .sgt arg0 c0_i32_36
  let v79 : BitVec 32 := Scalar.extui v78
  let c0_i32_37 : BitVec 32 := 0#32
  let v80 : BitVec 1 := Scalar.cmpi .ne v79 c0_i32_37
  v80

def k0_off14 (i : grid0.Coords) (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  ![v4.toNat]
def k0_off15 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let c0_i32_47 : BitVec 32 := 0#32
  let c0_i32_48 : BitVec 32 := 0#32
  ![v4.toNat, 0, 0]
def k0_off16 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_49 : BitVec 32 := 0#32
  let c0_i32_50 : BitVec 32 := 0#32
  ![v2.toNat, 0, 0]
def k0_off17 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let v81 : Index := Scalar.indexCast v4
  let c0_38 : Index := 0#32
  let c0_39 : Index := 0#32
  ![v81.toNat, 0, 0]
def k0_off18 (i : grid0.Coords) : Fin 4 → Nat :=
  let arg0 : BitVec 32 := BitVec.ofNat 32 (i 0).val
  let c2_i32 : BitVec 32 := 2#32
  let v10 : BitVec 32 := Scalar.remsi arg0 c2_i32
  let v19 : Index := Scalar.indexCast v10
  let c0 : Index := 0#32
  let arg1 : BitVec 32 := BitVec.ofNat 32 (i 1).val
  let v20 : Index := Scalar.indexCast arg1
  let c0_8 : Index := 0#32
  ![v19.toNat, 0, v20.toNat, 0]
def k0_off19 (i : grid0.Coords) : Fin 2 → Nat :=
  let c0_9 : Index := 0#32
  let arg1 : BitVec 32 := BitVec.ofNat 32 (i 1).val
  let c128_i32 : BitVec 32 := 128#32
  let v24 : BitVec 32 := Scalar.muli arg1 c128_i32
  let v25 : Index := Scalar.indexCast v24
  ![0, v25.toNat]
def k0_cond6 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_20 : BitVec 32 := 0#32
  let v55 : BitVec 1 := Scalar.cmpi .ne v54 c0_i32_20
  v55

def k0_off20 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let v66 : Index := Scalar.indexCast v4
  let c0_28 : Index := 0#32
  let c0_29 : Index := 0#32
  ![v66.toNat, 0, 0]
def k0_cond7 (i : grid0.Coords) : BitVec 1 :=
  let arg0 : BitVec 32 := BitVec.ofNat 32 (i 0).val
  let c0_i32_30 : BitVec 32 := 0#32
  let v70 : BitVec 1 := Scalar.cmpi .sgt arg0 c0_i32_30
  let v71 : BitVec 32 := Scalar.extui v70
  let c0_i32_31 : BitVec 32 := 0#32
  let v72 : BitVec 1 := Scalar.cmpi .ne v71 c0_i32_31
  v72

def k0_off21 (i : grid0.Coords) (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  ![v4.toNat]
def k0_off22 (i : grid0.Coords) : Fin 1 → Nat :=
  let c3_i32_33 : BitVec 32 := 3#32
  let arg0 : BitVec 32 := BitVec.ofNat 32 (i 0).val
  let v74 : BitVec 32 := Scalar.subi c3_i32_33 arg0
  ![v74.toNat]
def k0_off23 (i : grid0.Coords) : Fin 3 → Nat :=
  let c3_i32_32 : BitVec 32 := 3#32
  let arg0 : BitVec 32 := BitVec.ofNat 32 (i 0).val
  let v73 : BitVec 32 := Scalar.subi c3_i32_32 arg0
  let c0_i32_36 : BitVec 32 := 0#32
  let c0_i32_37 : BitVec 32 := 0#32
  ![v73.toNat, 0, 0]
def k0_off24 (i : grid0.Coords) (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let c0_i32_38 : BitVec 32 := 0#32
  let c0_i32_39 : BitVec 32 := 0#32
  ![v4.toNat, 0, 0]
def k0_dev7 (i : grid0.Coords) (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let arg0 : BitVec 32 := BitVec.ofNat 32 (i 0).val
  let v3 : BitVec 32 := Scalar.addi v2 arg0
  let c4_i32_0 : BitVec 32 := 4#32
  let v4 : BitVec 32 := Scalar.remsi v3 c4_i32_0
  let c1_i32_34 : BitVec 32 := 1#32
  let v75 : BitVec 32 := Scalar.muli v4 c1_i32_34
  let v76 : BitVec 32 := Scalar.addi c0_i32_35 v75
  v76.toNat
def k0_cond8 (i : grid0.Coords) : BitVec 1 :=
  let arg0 : BitVec 32 := BitVec.ofNat 32 (i 0).val
  let c3_i32 : BitVec 32 := 3#32
  let v56 : BitVec 1 := Scalar.cmpi .eq arg0 c3_i32
  let arg1 : BitVec 32 := BitVec.ofNat 32 (i 1).val
  let c7_i32_21 : BitVec 32 := 7#32
  let v57 : BitVec 1 := Scalar.cmpi .eq arg1 c7_i32_21
  let v58 : BitVec 1 := Scalar.andi v56 v57
  let v59 : BitVec 32 := Scalar.extui v58
  let c0_i32_22 : BitVec 32 := 0#32
  let v60 : BitVec 1 := Scalar.cmpi .ne v59 c0_i32_22
  v60

def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v61 : Index := Scalar.indexCast v2
  let c0_23 : Index := 0#32
  let c0_24 : Index := 0#32
  ![v61.toNat, 0, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_34 : BitVec 32 := 0#32
  let c0_i32_35 : BitVec 32 := 0#32
  ![v2.toNat, 0, 0]
def k0_off27 (d0 : Dev nD) (c1_i32_68 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c1_i32_68
  let c4_i32_69 : BitVec 32 := 4#32
  let v114 : BitVec 32 := Scalar.remsi v113 c4_i32_69
  ![v114.toNat]
def k0_off28 (d0 : Dev nD) (c1_i32_68 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c1_i32_68
  let c4_i32_69 : BitVec 32 := 4#32
  let v114 : BitVec 32 := Scalar.remsi v113 c4_i32_69
  let c0_i32_78 : BitVec 32 := 0#32
  let c0_i32_79 : BitVec 32 := 0#32
  ![v114.toNat, 0, 0]
def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S4x1024x1024 : Shape := ⟨3, ![4, 1024, 1024]⟩
abbrev S1024x4096 : Shape := ⟨2, ![1024, 4096]⟩
abbrev S4x1024x32x128 : Shape := ⟨4, ![4, 1024, 32, 128]⟩
abbrev S4096x1024 : Shape := ⟨2, ![4096, 1024]⟩
abbrev S4x1024x4096 : Shape := ⟨3, ![4, 1024, 4096]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1024x1024 : Shape := ⟨2, ![1024, 1024]⟩
abbrev S4x32x1024x1024 : Shape := ⟨4, ![4, 32, 1024, 1024]⟩
abbrev S1x1x1024x1024 : Shape := ⟨4, ![1, 1, 1024, 1024]⟩
abbrev S4x32x1024 : Shape := ⟨3, ![4, 32, 1024]⟩
abbrev S4x32x1024x1 : Shape := ⟨4, ![4, 32, 1024, 1]⟩
abbrev S1x1x1024x1 : Shape := ⟨4, ![1, 1, 1024, 1]⟩
abbrev S4x32x128x1024 : Shape := ⟨4, ![4, 32, 128, 1024]⟩

abbrev nBuf : Space → Nat
  | .hbm => 124
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x4096, .f32⟩
  | .hbm, ⟨2, _⟩ => ⟨S4x1024x32x128, .f32⟩
  | .hbm, ⟨3, _⟩ => ⟨S4x1024x32x128, .f32⟩
  | .hbm, ⟨4, _⟩ => ⟨S4096x1024, .f32⟩
  | .hbm, ⟨5, _⟩ => ⟨S4x1024x4096, .f32⟩
  | .hbm, ⟨6, _⟩ => ⟨S4x1024x32x128, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S1024x1, .i32⟩
  | .hbm, ⟨27, _⟩ => ⟨S1024, .i32⟩
  | .hbm, ⟨28, _⟩ => ⟨S_, .i32⟩
  | .hbm, ⟨29, _⟩ => ⟨S_, .i32⟩
  | .hbm, ⟨30, _⟩ => ⟨S1024, .i32⟩
  | .hbm, ⟨31, _⟩ => ⟨S1024, .i32⟩
  | .hbm, ⟨32, _⟩ => ⟨S1024, .i32⟩
  | .hbm, ⟨33, _⟩ => ⟨S_, .i32⟩
  | .hbm, ⟨34, _⟩ => ⟨S1024, .i32⟩
  | .hbm, ⟨35, _⟩ => ⟨S1024, .i1⟩
  | .hbm, ⟨36, _⟩ => ⟨S1024, .i32⟩
  | .hbm, ⟨37, _⟩ => ⟨S1024, .i32⟩
  | .hbm, ⟨38, _⟩ => ⟨S_, .i32⟩
  | .hbm, ⟨39, _⟩ => ⟨S1024, .i32⟩
  | .hbm, ⟨40, _⟩ => ⟨S1024, .i1⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1x1024, .i32⟩
  | .hbm, ⟨47, _⟩ => ⟨S1024x1024, .i32⟩
  | .hbm, ⟨48, _⟩ => ⟨S1024x1024, .i32⟩
  | .hbm, ⟨49, _⟩ => ⟨S1024x1024, .i1⟩
  | .hbm, ⟨50, _⟩ => ⟨S_, .i32⟩
  | .hbm, ⟨51, _⟩ => ⟨S1x1024, .i32⟩
  | .hbm, ⟨52, _⟩ => ⟨S1x1024, .i1⟩
  | .hbm, ⟨53, _⟩ => ⟨S1024x1024, .i1⟩
  | .hbm, ⟨54, _⟩ => ⟨S1024x1024, .i1⟩
  | .hbm, ⟨55, _⟩ => ⟨S1024x1024, .i32⟩
  | .hbm, ⟨56, _⟩ => ⟨S1024x1024, .i32⟩
  | .hbm, ⟨57, _⟩ => ⟨S1024x1024, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S1024x1024, .i32⟩
  | .hbm, ⟨65, _⟩ => ⟨S1024x1024, .i32⟩
  | .hbm, ⟨66, _⟩ => ⟨S_, .i32⟩
  | .hbm, ⟨67, _⟩ => ⟨S1024x1024, .i32⟩
  | .hbm, ⟨68, _⟩ => ⟨S1024x1024, .i1⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S_, .i1⟩
  | .hbm, ⟨74, _⟩ => ⟨S1024x1024, .i1⟩
  | .hbm, ⟨75, _⟩ => ⟨S1024x1024, .i1⟩
  | .hbm, ⟨76, _⟩ => ⟨S1024x1024, .i1⟩
  | .hbm, ⟨77, _⟩ => ⟨S1024x1024, .i32⟩
  | .hbm, ⟨78, _⟩ => ⟨S1024x1024, .i32⟩
  | .hbm, ⟨79, _⟩ => ⟨S1024x1024, .i32⟩
  | .hbm, ⟨80, _⟩ => ⟨S_, .i32⟩
  | .hbm, ⟨81, _⟩ => ⟨S1024x1024, .i32⟩
  | .hbm, ⟨82, _⟩ => ⟨S1024x1024, .i1⟩
  | .hbm, ⟨83, _⟩ => ⟨S1024x1024, .i1⟩
  | .hbm, ⟨84, _⟩ => ⟨S4x32x1024x1024, .f32⟩
  | .hbm, ⟨85, _⟩ => ⟨S_, .f32⟩
  | .hbm, ⟨86, _⟩ => ⟨S_, .f32⟩
  | .hbm, ⟨87, _⟩ => ⟨S4x32x1024x1024, .f32⟩
  | .hbm, ⟨88, _⟩ => ⟨S4x32x1024x1024, .f32⟩
  | .hbm, ⟨89, _⟩ => ⟨S1x1x1024x1024, .i1⟩
  | .hbm, ⟨90, _⟩ => ⟨S_, .f32⟩
  | .hbm, ⟨91, _⟩ => ⟨S_, .f32⟩
  | .hbm, ⟨92, _⟩ => ⟨S4x32x1024x1024, .i1⟩
  | .hbm, ⟨93, _⟩ => ⟨S4x32x1024x1024, .f32⟩
  | .hbm, ⟨94, _⟩ => ⟨S4x32x1024x1024, .f32⟩
  | .hbm, ⟨95, _⟩ => ⟨S_, .f32⟩
  | .hbm, ⟨96, _⟩ => ⟨S4x32x1024, .f32⟩
  | .hbm, ⟨97, _⟩ => ⟨S4x32x1024x1, .f32⟩
  | .hbm, ⟨98, _⟩ => ⟨S4x32x1024x1024, .f32⟩
  | .hbm, ⟨99, _⟩ => ⟨S4x32x1024x1024, .f32⟩
  | .hbm, ⟨100, _⟩ => ⟨S4x32x1024x1024, .f32⟩
  | .hbm, ⟨101, _⟩ => ⟨S_, .i1⟩
  | .hbm, ⟨102, _⟩ => ⟨S1024, .i1⟩
  | .hbm, ⟨103, _⟩ => ⟨S1x1x1024x1, .i1⟩
  | .hbm, ⟨104, _⟩ => ⟨S_, .f32⟩
  | .hbm, ⟨105, _⟩ => ⟨S4x32x1024, .f32⟩
  | .hbm, ⟨106, _⟩ => ⟨S4x32x1024x1, .f32⟩
  | .hbm, ⟨107, _⟩ => ⟨S_, .f32⟩
  | .hbm, ⟨108, _⟩ => ⟨S_, .f32⟩
  | .hbm, ⟨109, _⟩ => ⟨S4x32x1024x1, .i1⟩
  | .hbm, ⟨110, _⟩ => ⟨S4x32x1024x1, .f32⟩
  | .hbm, ⟨111, _⟩ => ⟨S4x32x1024x1, .f32⟩
  | .hbm, ⟨112, _⟩ => ⟨S4x32x1024x1024, .f32⟩
  | .hbm, ⟨113, _⟩ => ⟨S4x32x1024x1024, .f32⟩
  | .hbm, ⟨114, _⟩ => ⟨S1x1x1024x1, .i1⟩
  | .hbm, ⟨115, _⟩ => ⟨S_, .f32⟩
  | .hbm, ⟨116, _⟩ => ⟨S_, .f32⟩
  | .hbm, ⟨117, _⟩ => ⟨S4x32x1024x1024, .i1⟩
  | .hbm, ⟨118, _⟩ => ⟨S4x32x1024x1024, .f32⟩
  | .hbm, ⟨119, _⟩ => ⟨S4x32x1024x1024, .f32⟩
  | .hbm, ⟨120, _⟩ => ⟨S4x32x128x1024, .f32⟩
  | .hbm, ⟨121, _⟩ => ⟨S4x1024x32x128, .f32⟩
  | .hbm, ⟨122, _⟩ => ⟨S4x1024x4096, .f32⟩
  | .hbm, ⟨123, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_cst_4 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v27 : Ref sig .tc := ⟨.hbm, 94, rfl⟩
abbrev main_cst_5 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_6 : Ref sig .tc := ⟨.hbm, 101, rfl⟩
abbrev main_v33 : Ref sig .tc := ⟨.hbm, 102, rfl⟩
abbrev main_v34 : Ref sig .tc := ⟨.hbm, 103, rfl⟩
abbrev main_cst_7 : Ref sig .tc := ⟨.hbm, 104, rfl⟩
abbrev main_v35 : Ref sig .tc := ⟨.hbm, 105, rfl⟩
abbrev main_v36 : Ref sig .tc := ⟨.hbm, 106, rfl⟩
abbrev main_cst_8 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_cst_9 : Ref sig .tc := ⟨.hbm, 115, rfl⟩
abbrev main_call5_v0 : Ref sig .tc := ⟨.hbm, 116, rfl⟩
abbrev main_call5_v1 : Ref sig .tc := ⟨.hbm, 117, rfl⟩
abbrev main_call5_v2 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩

abbrev nD : Nat := 1
abbrev τ : Topo := Topo.v7x

variable {F : FTy → Type} [FloatOps F]
-- ==== Proof.Values.lean ====
/-
What every buffer holds during a run, as functions of the memory at launch.

A device's stacked buffers (four activations, four projected products, the two head blocks of the keys) are
described by one function of the whole buffer each; a slot is the part of it at one leading index.
-/
module

public import proofs.«01_k».proof.Proof.Gen.KernelIdeal
public import proofs.«01_k».proof.Proof.Gen.KernelIdeal.Skeleton
public import Idealize.ShloMosaic.Lib.Tactic

@[expose] public section

noncomputable section

namespace Cert.AttnProof

open Cert.KernelIdeal Cert.KernelIdeal.Gen
open Idealize.ShloMosaic
open Idealize.ShloMosaic.TcCoe

variable {F : FTy → Type} [FloatOps F] [Named F]

/-- The device `k` places after `c` on the ring of four. -/
def nx (c : Dev nD) (k : ℕ) : Dev nD := ⟨(c.val + k) % 4, Nat.mod_lt _ (by decide)⟩

theorem nx_val (c : Dev nD) (k : ℕ) : (nx c k).val = (c.val + k) % 4 := rfl
theorem nx_nx (c : Dev nD) (j k : ℕ) : nx (nx c j) k = nx c (j + k) := Fin.ext (by simp only [nx_val]; omega)
theorem nx_zero (c : Dev nD) : nx c 0 = c := Fin.ext (by have : c.val < 4 := c.isLt; simp only [nx_val]; omega)
theorem nx_four (c : Dev nD) : nx c 4 = c := Fin.ext (by have : c.val < 4 := c.isLt; simp only [nx_val]; omega)

/-! ## Indices -/

def ix2 (a b : Fin 1024) : S1024x1024.Idx := fun | 0 => a | 1 => b
def ix3 (a b : Fin 1024) : S1x1024x1024.Idx := fun | 0 => (0 : Fin 1) | 1 => a | 2 => b
def ixKV (j : Fin 4) (a : Fin 1024) (h : Fin 32) (d : Fin 128) : S4x1024x32x128.Idx := fun | 0 => j | 1 => a | 2 => h | 3 => d
def ixq (a : Fin 1024) (b : Fin 128) : S1024x128.Idx := fun | 0 => a | 1 => b

def stk4 {α : Type} (g : Fin 4 → S1x1024x1024.Idx → α) : S4x1024x1024.Idx → α := fun i => g (i 0) (ix3 (i 1) (i 2))
def stk3 {α : Type} (g : Fin 3 → S1x1024x1024.Idx → α) : S3x1024x1024.Idx → α := fun i => g (i 0) (ix3 (i 1) (i 2))

theorem ix3_eq (x : S1x1024x1024.Idx) (a b : Fin 1024) (ha : a.val = (x 1).val) (hb : b.val = (x 2).val) : ix3 a b = x := by
  funext k
  match k with
  | 0 => exact Fin.ext (by have : (x 0).val < 1 := (x 0).isLt; show 0 = _; omega)
  | 1 => exact Fin.ext ha
  | 2 => exact Fin.ext hb

variable (m : (ℓ : Loc nD τ sig) → Buf (Elt F) ℓ)

/-! ## The arguments -/

def xin (c : Dev nD) : Vec F S1x1024x1024 .f32 := m ((c : Thread nD τ).loc main_arg0)
def wqin (c : Dev nD) : Vec F S1024x1024 .f32 := m ((c : Thread nD τ).loc main_arg1)
def kin (c : Dev nD) : Vec F S4x1024x32x128 .f32 := m ((c : Thread nD τ).loc main_arg2)
def vin (c : Dev nD) : Vec F S4x1024x32x128 .f32 := m ((c : Thread nD τ).loc main_arg3)
def woin (c : Dev nD) : Vec F S1024x1024 .f32 := m ((c : Thread nD τ).loc main_arg4)

/-- A matrix staged through the result's block. -/
def lift3 (w : Vec F S1024x1024 .f32) : Vec F S1x1024x1024 .f32 := fun i => w (ix2 (i 1) (i 2))

/-! ## The values of the run -/

/-- The activations of the four batches, narrowed: the same on every device once all have landed. -/
def XALL : Vec F S4x1024x1024 .bf16 := stk4 fun j => k0_pay3 (xin m j)
def WQB (c : Dev nD) : Vec F S1024x1024 .bf16 := k0_pay4 (lift3 (wqin m c))
def WOB (c : Dev nD) : Vec F S1024x1024 .bf16 := k0_pay5 (lift3 (woin m c))
def BIAS : Vec F S1024x1024 .bf16 := k0_pay12 k0_pay6 k0_pay7 k0_pay8 k0_pay9
/-- The query projection of batch `j` on device `c`. -/
def QB (c : Dev nD) (j : Fin 4) : Vec F S1024x1024 .bf16 := k0_pay13 (k0_pay3 (xin m j)) (WQB m c)

theorem head_lt (c : Dev nD) (h : Fin 8) : 8 * c.val + h.val < 32 := by have : c.val < 4 := c.isLt; omega

/-- The eight heads of device `c`, batch `j`, as both stage slots hold them. -/
def KST (c : Dev nD) (j : Fin 4) : Vec F S2x1024x8x128 .f32 := fun i => kin m c (ixKV j (i 1) ⟨8 * c.val + (i 2).val, head_lt c (i 2)⟩ (i 3))
def VST (c : Dev nD) (j : Fin 4) : Vec F S2x1024x8x128 .f32 := fun i => vin m c (ixKV j (i 1) ⟨8 * c.val + (i 2).val, head_lt c (i 2)⟩ (i 3))
def KH (c : Dev nD) (j : Fin 4) (h : Fin 8) : Vec F S1x1024x1x128 .f32 := fun i => kin m c (ixKV j (i 1) ⟨8 * c.val + h.val, head_lt c h⟩ (i 3))
def VH (c : Dev nD) (j : Fin 4) (h : Fin 8) : Vec F S1x1024x1x128 .f32 := fun i => vin m c (ixKV j (i 1) ⟨8 * c.val + h.val, head_lt c h⟩ (i 3))
def QH (c : Dev nD) (j : Fin 4) (h : Fin 8) : Vec F S1024x128 .bf16 := fun i => QB m c j (ix2 (i 0) ⟨128 * h.val + (i 1).val, by have : (i 1).val < 128 := (i 1).isLt; omega⟩)
/-- One head's weighted values. -/
def HEAD (c : Dev nD) (j : Fin 4) (h : Fin 8) : Vec F S1024x128 .bf16 := k0_pay1 (k0_pay14 (KH m c j h) (QH m c j h) BIAS) (VH m c j h)
/-- The eight heads side by side. -/
def CTX (c : Dev nD) (j : Fin 4) : Vec F S1024x1024 .bf16 := fun i =>
  HEAD m c j ⟨(i 1).val / 128, by have : (i 1).val < 1024 := (i 1).isLt; omega⟩ (ixq (i 0) ⟨(i 1).val % 128, Nat.mod_lt _ (by decide)⟩)
/-- Device `c`'s part of batch `j`'s output projection. -/
def POUT (c : Dev nD) (j : Fin 4) : Vec F S1x1024x1024 .bf16 := k0_pay2 (CTX m c j) (WOB m c)
def PALL (c : Dev nD) : Vec F S4x1024x1024 .bf16 := stk4 (POUT m c)
/-- What device `c` receives: at index `r` the part of its own batch computed by the device `r + 1` places after it. -/
def PINALL (c : Dev nD) : Vec F S3x1024x1024 .bf16 := stk3 fun r => POUT m (nx c (r.val + 1)) c
/-- Device `c`'s result. -/
def OUT (c : Dev nD) : Vec F S1x1024x1024 .f32 :=
  k0_pay11 (k0_pay10 (POUT m c c) (POUT m (nx c 3) c)) (POUT m (nx c 2) c) (POUT m (nx c 1) c)

/-! ## The element sets -/

def xSet (j : Fin 4) : Finset S4x1024x1024.Idx := Finset.univ.filter fun i => (i 0).val = j.val
def pSet (r : Fin 3) : Finset S3x1024x1024.Idx := Finset.univ.filter fun i => (i 0).val = r.val
def kSlot (s : Fin 2) : Finset S2x1024x8x128.Idx := Finset.univ.filter fun i => (i 0).val = s.val
def kSet (c : Dev nD) (j : Fin 4) : Finset S4x1024x32x128.Idx :=
  Finset.univ.filter fun i => (i 0).val = j.val ∧ 8 * c.val ≤ (i 2).val ∧ (i 2).val < 8 * c.val + 8

theorem mem_xSet {j : Fin 4} {i : S4x1024x1024.Idx} : i ∈ xSet j ↔ (i 0).val = j.val := by simp [xSet]
theorem mem_pSet {j : Fin 3} {i : S3x1024x1024.Idx} : i ∈ pSet j ↔ (i 0).val = j.val := by simp [pSet]
theorem mem_kSlot {s : Fin 2} {i : S2x1024x8x128.Idx} : i ∈ kSlot s ↔ (i 0).val = s.val := by simp [kSlot]
theorem mem_kSet {c : Dev nD} {j : Fin 4} {i : S4x1024x32x128.Idx} : i ∈ kSet c j ↔ (i 0).val = j.val ∧ 8 * c.val ≤ (i 2).val ∧ (i 2).val < 8 * c.val + 8 := by simp [kSet]

end Cert.AttnProof

end
-- ==== Proof.Views.lean ====
/-
The windows the kernel reads, writes and copies through: which elements each covers, and what it reads of the
contents named in `Values`.
-/
module

public import proofs.«01_k».proof.Proof.Values
public import Idealize.ShloMosaic.Lib.Pipeline.Launch
public import Idealize.ShloMosaic.Lib.Pipeline.Kit

@[expose] public section

noncomputable section

namespace Cert.AttnProof

open Cert.KernelIdeal Cert.KernelIdeal.Gen
open Idealize.ShloMosaic
open Idealize.ShloMosaic.TcCoe

variable {F : FTy → Type} [FloatOps F] [Named F]

abbrev aX : Memref sig .tc .hbm S1x1024x1024 .f32 := Memref.whole main_arg0
abbrev aQ : Memref sig .tc .hbm S1024x1024 .f32 := Memref.whole main_arg1
abbrev aK : Memref sig .tc .hbm S4x1024x32x128 .f32 := Memref.whole main_arg2
abbrev aV : Memref sig .tc .hbm S4x1024x32x128 .f32 := Memref.whole main_arg3
abbrev aO : Memref sig .tc .hbm S1024x1024 .f32 := Memref.whole main_arg4
abbrev gM : Memref sig .tc .vmem S1x1024x1024 .f32 := Memref.whole cc0_stg0_0
abbrev xM : Memref sig .tc .vmem S4x1024x1024 .bf16 := Memref.whole cc0_scratch0
abbrev pM : Memref sig .tc .vmem S4x1024x1024 .bf16 := Memref.whole cc0_scratch1
abbrev iM : Memref sig .tc .vmem S3x1024x1024 .bf16 := Memref.whole cc0_scratch2
abbrev kM : Memref sig .tc .vmem S2x1024x8x128 .f32 := Memref.whole cc0_scratch3
abbrev vM : Memref sig .tc .vmem S2x1024x8x128 .f32 := Memref.whole cc0_scratch4
abbrev qM : Memref sig .tc .vmem S1024x1024 .bf16 := Memref.whole cc0_scratch5
abbrev cM : Memref sig .tc .vmem S1024x1024 .bf16 := Memref.whole cc0_scratch6
abbrev wM : Memref sig .tc .vmem S1024x1024 .bf16 := Memref.whole cc0_scratch7
abbrev oM : Memref sig .tc .vmem S1024x1024 .bf16 := Memref.whole cc0_scratch8
abbrev bM : Memref sig .tc .vmem S1024x1024 .bf16 := Memref.whole cc0_scratch9

/-- A value written through a view that reads `w` of `C` leaves `C` on the view's elements. -/
theorem land {sg : RefSig} {κ : Kind} {sp : Space} {s : Shape} {e : EltTy} {v : View sg κ sp s e} {Val : EltTy → Type}
    (f C : v.ty.Contents Val) {w : s.Idx → Val e} (h : v.read Val C = w) : ∀ i ∈ v.set, v.write Val f w Finset.univ i = C i := by
  intro i hi
  obtain ⟨x, -, rfl⟩ := Finset.mem_map.mp hi
  subst h
  rw [View.write_emb_of_mem _ _ (Finset.mem_univ x), View.read_apply, cast_cast, cast_eq]

/-! ## Leading slots of the stacks -/

theorem unit4_set {off : Fin 3 → ℕ} {j : Fin 4} (h : off = ![j.val, 0, 0]) (inb : ∀ a, off a + S1x1024x1024.size a ≤ S4x1024x1024.size a) :
    (Rect.unit (s := S4x1024x1024) off S1x1024x1024.size inb).set = xSet j := by
  subst h
  ext i
  rw [Rect.mem_set_unit, mem_xSet]
  constructor
  · intro h; have := h 0; change j.val ≤ _ ∧ _ < j.val + 1 at this; omega
  · intro h a
    match a with
    | 0 => change j.val ≤ _ ∧ _ < j.val + 1; omega
    | 1 => exact ⟨Nat.zero_le _, by have : (i 1).val < 1024 := (i 1).isLt; change _ < 0 + 1024; omega⟩
    | 2 => exact ⟨Nat.zero_le _, by have : (i 2).val < 1024 := (i 2).isLt; change _ < 0 + 1024; omega⟩

theorem unit3_set {off : Fin 3 → ℕ} {j : Fin 3} (h : off = ![j.val, 0, 0]) (inb : ∀ a, off a + S1x1024x1024.size a ≤ S3x1024x1024.size a) :
    (Rect.unit (s := S3x1024x1024) off S1x1024x1024.size inb).set = pSet j := by
  subst h
  ext i
  rw [Rect.mem_set_unit, mem_pSet]
  constructor
  · intro h; have := h 0; change j.val ≤ _ ∧ _ < j.val + 1 at this; omega
  · intro h a
    match a with
    | 0 => change j.val ≤ _ ∧ _ < j.val + 1; omega
    | 1 => exact ⟨Nat.zero_le _, by have : (i 1).val < 1024 := (i 1).isLt; change _ < 0 + 1024; omega⟩
    | 2 => exact ⟨Nat.zero_le _, by have : (i 2).val < 1024 := (i 2).isLt; change _ < 0 + 1024; omega⟩

theorem unit2_set {off : Fin 4 → ℕ} {j : Fin 2} (h : off = ![j.val, 0, 0, 0]) (inb : ∀ a, off a + S1x1024x8x128.size a ≤ S2x1024x8x128.size a) :
    (Rect.unit (s := S2x1024x8x128) off S1x1024x8x128.size inb).set = kSlot j := by
  subst h
  ext i
  rw [Rect.mem_set_unit, mem_kSlot]
  constructor
  · intro h; have := h 0; change j.val ≤ _ ∧ _ < j.val + 1 at this; omega
  · intro h a
    match a with
    | 0 => change j.val ≤ _ ∧ _ < j.val + 1; omega
    | 1 => exact ⟨Nat.zero_le _, by have : (i 1).val < 1024 := (i 1).isLt; change _ < 0 + 1024; omega⟩
    | 2 => exact ⟨Nat.zero_le _, by have : (i 2).val < 8 := (i 2).isLt; change _ < 0 + 8; omega⟩
    | 3 => exact ⟨Nat.zero_le _, by have : (i 3).val < 128 := (i 3).isLt; change _ < 0 + 128; omega⟩

theorem unitKV_set {off : Fin 4 → ℕ} {j : Fin 4} {c : Dev nD} (h : off = ![j.val, 0, 8 * c.val, 0]) (inb : ∀ a, off a + S1x1024x8x128.size a ≤ S4x1024x32x128.size a) :
    (Rect.unit (s := S4x1024x32x128) off S1x1024x8x128.size inb).set = kSet c j := by
  subst h
  ext i
  rw [Rect.mem_set_unit, mem_kSet]
  constructor
  · intro h; have h0 := h 0; have h2 := h 2; change j.val ≤ _ ∧ _ < j.val + 1 at h0; change 8 * c.val ≤ _ ∧ _ < 8 * c.val + 8 at h2; omega
  · intro h a
    match a with
    | 0 => change j.val ≤ _ ∧ _ < j.val + 1; omega
    | 1 => exact ⟨Nat.zero_le _, by have : (i 1).val < 1024 := (i 1).isLt; change _ < 0 + 1024; omega⟩
    | 2 => exact h.2
    | 3 => exact ⟨Nat.zero_le _, by have : (i 3).val < 128 := (i 3).isLt; change _ < 0 + 128; omega⟩

/-- A head's window of the stage lies in its slot. -/
theorem unitH_subset {off : Fin 4 → ℕ} {j : Fin 2} {h : ℕ} (ho : off = ![j.val, 0, h, 0]) (inb : ∀ a, off a + S1x1024x1x128.size a ≤ S2x1024x8x128.size a) :
    (Rect.unit (s := S2x1024x8x128) off S1x1024x1x128.size inb).set ⊆ kSlot j := by
  subst ho
  intro i hi
  have h0 := Rect.mem_set_unit.mp hi 0
  change j.val ≤ _ ∧ _ < j.val + 1 at h0
  exact mem_kSlot.mpr (by omega)

/-! ## What the windows read -/

theorem read4 {α : Type} (g : Fin 4 → S1x1024x1024.Idx → α) {off : Fin 3 → ℕ} {j : Fin 4} (h : off = ![j.val, 0, 0])
    (inb : ∀ a, off a + S1x1024x1024.size a ≤ S4x1024x1024.size a) (x : S1x1024x1024.Idx) :
    stk4 g ((Rect.unit (s := S4x1024x1024) off S1x1024x1024.size inb).emb x) = g j x := by
  subst h
  have h0 : (x 0).val < 1 := (x 0).isLt
  show g _ (ix3 _ _) = _
  congr 1
  · congr 1
    exact Fin.ext (by rw [Rect.emb_apply]; show j.val + 1 * (x 0).val = j.val; omega)
  · refine ix3_eq x _ _ ?_ ?_
    · rw [Rect.emb_apply]; show 0 + 1 * (x 1).val = _; omega
    · rw [Rect.emb_apply]; show 0 + 1 * (x 2).val = _; omega

theorem read3 {α : Type} (g : Fin 3 → S1x1024x1024.Idx → α) {off : Fin 3 → ℕ} {j : Fin 3} (h : off = ![j.val, 0, 0])
    (inb : ∀ a, off a + S1x1024x1024.size a ≤ S3x1024x1024.size a) (x : S1x1024x1024.Idx) :
    stk3 g ((Rect.unit (s := S3x1024x1024) off S1x1024x1024.size inb).emb x) = g j x := by
  subst h
  have h0 : (x 0).val < 1 := (x 0).isLt
  show g _ (ix3 _ _) = _
  congr 1
  · congr 1
    exact Fin.ext (by rw [Rect.emb_apply]; show j.val + 1 * (x 0).val = j.val; omega)
  · refine ix3_eq x _ _ ?_ ?_
    · rw [Rect.emb_apply]; show 0 + 1 * (x 1).val = _; omega
    · rw [Rect.emb_apply]; show 0 + 1 * (x 2).val = _; omega

variable (m : (ℓ : Loc nD τ sig) → Buf (Elt F) ℓ)

theorem ixKV_eq (x : S4x1024x32x128.Idx) (j : Fin 4) (a : Fin 1024) (h : Fin 32) (d : Fin 128) (hj : j.val = (x 0).val) (ha : a.val = (x 1).val)
    (hh : h.val = (x 2).val) (hd : d.val = (x 3).val) : ixKV j a h d = x := by
  funext k
  match k with
  | 0 => exact Fin.ext hj
  | 1 => exact Fin.ext ha
  | 2 => exact Fin.ext hh
  | 3 => exact Fin.ext hd

/-- A block of the keys read through its window is the stage slot's contents. -/
theorem readKV {α : Type} (A : S4x1024x32x128.Idx → α) {off : Fin 4 → ℕ} {j : Fin 4} {c : Dev nD} (h : off = ![j.val, 0, 8 * c.val, 0])
    (inb : ∀ a, off a + S1x1024x8x128.size a ≤ S4x1024x32x128.size a)
    {off' : Fin 4 → ℕ} {s : Fin 2} (h' : off' = ![s.val, 0, 0, 0]) (inb' : ∀ a, off' a + S1x1024x8x128.size a ≤ S2x1024x8x128.size a) (x : S1x1024x8x128.Idx) :
    (fun i : S2x1024x8x128.Idx => A (ixKV j (i 1) ⟨8 * c.val + (i 2).val, head_lt c (i 2)⟩ (i 3))) ((Rect.unit (s := S2x1024x8x128) off' S1x1024x8x128.size inb').emb x)
      = A ((Rect.unit (s := S4x1024x32x128) off S1x1024x8x128.size inb).emb x) := by
  subst h h'
  have h0 : (x 0).val < 1 := (x 0).isLt
  refine congrArg A (ixKV_eq _ _ _ _ _ ?_ ?_ ?_ ?_)
  · rw [Rect.emb_apply]; show j.val = j.val + 1 * (x 0).val; omega
  · rw [Rect.emb_apply, Rect.emb_apply]; show 0 + 1 * (x 1).val = 0 + 1 * (x 1).val; rfl
  · show 8 * c.val + _ = _; rw [Rect.emb_apply, Rect.emb_apply]; show 8 * c.val + (0 + 1 * (x 2).val) = 8 * c.val + 1 * (x 2).val; omega
  · rw [Rect.emb_apply, Rect.emb_apply]; show 0 + 1 * (x 3).val = 0 + 1 * (x 3).val; rfl

/-- One head read from a stage slot. -/
theorem readHead {α : Type} (A : S4x1024x32x128.Idx → α) {j : Fin 4} {c : Dev nD} {off : Fin 4 → ℕ} {s : Fin 2} {hd : Fin 8} (h : off = ![s.val, 0, hd.val, 0])
    (inb : ∀ a, off a + S1x1024x1x128.size a ≤ S2x1024x8x128.size a) (x : S1x1024x1x128.Idx) :
    (fun i : S2x1024x8x128.Idx => A (ixKV j (i 1) ⟨8 * c.val + (i 2).val, head_lt c (i 2)⟩ (i 3))) ((Rect.unit (s := S2x1024x8x128) off S1x1024x1x128.size inb).emb x)
      = A (ixKV j (x 1) ⟨8 * c.val + hd.val, head_lt c hd⟩ (x 3)) := by
  subst h
  have h2 : (x 2).val < 1 := (x 2).isLt
  refine congrArg A (ixKV_eq _ _ _ _ _ rfl ?_ ?_ ?_)
  · show _ = (x 1).val; rw [Rect.emb_apply]; show 0 + 1 * (x 1).val = _; omega
  · show 8 * c.val + _ = 8 * c.val + hd.val; rw [Rect.emb_apply]; show 8 * c.val + (hd.val + 1 * (x 2).val) = _; omega
  · show _ = (x 3).val; rw [Rect.emb_apply]; show 0 + 1 * (x 3).val = _; omega

theorem ix2_eq (x : S1024x1024.Idx) (a b : Fin 1024) (ha : a.val = (x 0).val) (hb : b.val = (x 1).val) : ix2 a b = x := by
  funext k
  match k with
  | 0 => exact Fin.ext ha
  | 1 => exact Fin.ext hb

/-- A head's columns of a matrix. -/
theorem readCols {α : Type} (A : S1024x1024.Idx → α) {off : Fin 2 → ℕ} {hd : Fin 8} (h : off = ![0, 128 * hd.val])
    (inb : ∀ a, off a + S1024x128.size a ≤ S1024x1024.size a) (x : S1024x128.Idx) :
    A ((Rect.unit (s := S1024x1024) off S1024x128.size inb).emb x)
      = A (ix2 (x 0) ⟨128 * hd.val + (x 1).val, by have : (x 1).val < 128 := (x 1).isLt; omega⟩) := by
  subst h
  refine congrArg A (ix2_eq _ _ _ ?_ ?_).symm
  · rw [Rect.emb_apply]; show _ = 0 + 1 * (x 0).val; omega
  · rw [Rect.emb_apply]; show 128 * hd.val + (x 1).val = 128 * hd.val + 1 * (x 1).val; omega

/-- The matrix agrees with the eight heads on its first `n` columns. -/
def Upto (c : Dev nD) (j : Fin 4) (n : ℕ) (f : S1024x1024.Idx → Elt F .bf16) : Prop := ∀ i : S1024x1024.Idx, (i 1).val < n → f i = CTX m c j i

theorem upto_zero (c : Dev nD) (j : Fin 4) (f) : Upto m c j 0 f := fun i h => absurd h (Nat.not_lt_zero _)

theorem upto_all {c : Dev nD} {j : Fin 4} {f} (h : Upto m c j 1024 f) : f = CTX m c j := funext fun i => h i (i 1).isLt

/-- Storing one more head. -/
theorem upto_succ {c : Dev nD} {j : Fin 4} {off : Fin 2 → ℕ} {hd : Fin 8} (h : off = ![0, 128 * hd.val])
    (inb : ∀ a, off a + S1024x128.size a ≤ S1024x1024.size a) {f : S1024x1024.Idx → Elt F .bf16} (hf : Upto m c j (128 * hd.val) f) :
    Upto m c j (128 * (hd.val + 1)) ((cM.access (Rect.unit (s := S1024x1024) off S1024x128.size inb) : View sig .tc _ _ _).write (Elt F) f (HEAD m c j hd) Finset.univ) := by
  subst h
  intro i hi
  by_cases hlt : (i 1).val < 128 * hd.val
  · rw [View.write_of_not_mem]
    · exact hf i hlt
    · intro hm
      rw [View.setOn_univ, View.set_slice_whole] at hm
      have h1 := Rect.mem_set_unit.mp hm 1
      change 128 * hd.val ≤ _ ∧ _ at h1
      omega
  · have hb : (i 1).val - 128 * hd.val < 128 := by omega
    let x : S1024x128.Idx := ixq (i 0) ⟨(i 1).val - 128 * hd.val, hb⟩
    have hx : (cM.access (Rect.unit (s := S1024x1024) ![0, 128 * hd.val] S1024x128.size inb) : View sig .tc _ _ _).emb x = i := by
      funext k
      match k with
      | 0 => exact Fin.ext (by show 0 + 1 * (i 0).val = _; omega)
      | 1 => exact Fin.ext (by show 128 * hd.val + 1 * ((i 1).val - 128 * hd.val) = _; omega)
    have e := View.write_emb_of_mem (v := (cM.access (Rect.unit (s := S1024x1024) ![0, 128 * hd.val] S1024x128.size inb) : View sig .tc _ _ _)) (Val := Elt F) f (HEAD m c j hd) (Finset.mem_univ x)
    rw [hx] at e
    rw [e]
    show HEAD m c j hd x = CTX m c j i
    unfold CTX
    have h1 : (i 1).val / 128 = hd.val := by omega
    have h2 : (i 1).val % 128 = (i 1).val - 128 * hd.val := by omega
    congr 1
    · exact Fin.ext h1.symm
    · funext k
      match k with
      | 0 => rfl
      | 1 => exact Fin.ext h2.symm

end Cert.AttnProof

end
-- ==== Proof.Proto.lean ====
/-
The protocol of the four devices.

Every device `c` has, beside the copies it makes on its own, seventeen cells that others touch or that a remote copy
credits, each used for one round:

* the barrier semaphore. Paid by the other three devices, one unit each; waited for once, for three units. The device `d`
  that pays device `c` hands `c` the two places `c` will copy into: slot `c` of `d`'s activations, and the place in `d`'s
  incoming parts that `c` fills.
* `xs j` (four semaphores, the one at `c` itself unused): the departure of `c`'s activations to device `j`. It hands back
  the share of `c`'s own slot that the copy read.
* `xr j` (the one at `c` unused): the arrival of device `j`'s activations in slot `j`, holding `j`'s narrowed input.
* `ps j` (the one at `c` unused): the departure of `c`'s part of batch `j`; hands back slot `j` of the parts.
* `pr r` (the fourth unused): the arrival of place `r` of the incoming parts, holding the part of batch `c` computed by
  the device `r + 1` places after `c`.

In order, device `c` signals the three barriers, waits for its own, sends its activations three times, and then, for the
batches `c`, `c + 1`, `c + 2`, `c + 3`: waits for the batch's activations (the first are its own), computes the part, and
sends it to the batch's device (the first it keeps). At the end it waits for the three incoming parts and for its six
departures.
-/
module

public import proofs.«01_k».proof.Proof.Views
public import Idealize.ShloMosaic.Lib.Pipeline.Launch
public import Idealize.ShloMosaic.Lib.Pipeline.Kit
public import Idealize.ShloMosaic.Lib.Tactic

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Dev nD)
abbrev UX : Type := UB × Counters
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR
abbrev ER : Emb UB (MT nD τ sig Unit (Elt F) ℕ UU ℕ) := (Emb.inl : Emb UB UX).trans EX
abbrev EC : UEmb Counters (MT nD τ sig Unit (Elt F) ℕ UU ℕ) := countersEmb

variable (m : (ℓ : Loc nD τ sig) → Buf (Elt F) ℓ)

/-! ## Semaphores and cells -/

def xsq (j : Fin 4) : DmaSem sig := ⟨j.val + 1, by show _ < 22; omega⟩
def xrq (j : Fin 4) : DmaSem sig := ⟨j.val + 5, by show _ < 22; omega⟩
def psq (j : Fin 4) : DmaSem sig := ⟨j.val + 9, by show _ < 22; omega⟩
def prq (r : Fin 4) : DmaSem sig := ⟨r.val + 13, by show _ < 22; omega⟩
def dsq : DmaSem sig := ⟨17, by decide⟩
def dkq (s : Fin 2) : DmaSem sig := ⟨s.val + 18, by show _ < 22; omega⟩
def dvq (s : Fin 2) : DmaSem sig := ⟨s.val + 20, by show _ < 22; omega⟩

abbrev dcell (c : Dev nD) (q : DmaSem sig) : GSem nD τ sig := ((c : Thread nD τ), .dma q)
abbrev bcell (c : Dev nD) : GSem nD τ sig := ((c : Thread nD τ), .reg barrier0)

def csem (q : Fin 17) : SemLoc sig := if h : q.val = 0 then .reg barrier0 else .dma ⟨q.val, by show _ < 22; omega⟩
def kcell (cq : Dev nD × Fin 17) : GSem nD τ sig := ((cq.1 : Thread nD τ), csem cq.2)

theorem csem_zero : csem 0 = .reg barrier0 := rfl
theorem csem_dma (q : DmaSem sig) (h0 : q.val ≠ 0) (h : q.val < 17) : csem ⟨q.val, h⟩ = .dma q := dif_neg h0

/-! ## The schedule -/

/-- The credit of one block of activations or of parts. -/
def N : ℕ := ((xM.slice (Rect.unit (s := S4x1024x1024) ![0, 0, 0] S1x1024x1024.size (by decide)) (fun _ => rfl)).squeeze S1024x1024 squeezes_S1x1024x1024_S1024x1024).view.dmaCredit
theorem N_pos : 0 < N := View.dmaCredit_pos _ (by decide)

abbrev xAt (c : Dev nD) (j : Fin 4) (q : PosShare TreeShare) (f : S4x1024x1024.Idx → Elt F .bf16) : sProp 𝕄 := (c : Thread nD τ).loc cc0_scratch0 ↦[xSet j]{q} f
abbrev pAt (c : Dev nD) (j : Fin 4) (f : S4x1024x1024.Idx → Elt F .bf16) : sProp 𝕄 := (c : Thread nD τ).loc cc0_scratch1 ↦[xSet j]{fullShare} f
abbrev iAt (c : Dev nD) (r : Fin 3) (f : S3x1024x1024.Idx → Elt F .bf16) : sProp 𝕄 := (c : Thread nD τ).loc cc0_scratch2 ↦[pSet r]{fullShare} f

/-- The share of a device's own slot lent to the copy to the device `k + 1` places after it; the fourth stays. -/
def qsh : Fin 4 → PosShare TreeShare
  | 0 => fullShare.left
  | 1 => fullShare.right.left
  | 2 => fullShare.right.right.left
  | 3 => fullShare.right.right.right

/-- How far `j` lies after `c`, less one. -/
def gap (c j : Dev nD) : Fin 4 := ⟨(j.val + 3 - c.val + 4) % 4, Nat.mod_lt _ (by decide)⟩
/-- The place among `d`'s incoming parts that `c` fills. -/
def place (c d : Dev nD) : Fin 3 := ⟨(c.val + 3 - d.val + 4) % 4 % 3, Nat.mod_lt _ (by decide)⟩

def barPay (c d : Dev nD) : sProp 𝕄 := iprop((∃ f, xAt (F := F) d c fullShare f) ∗ ∃ f, iAt (F := F) d (place c d) f)
def xsPay (c j : Dev nD) : sProp 𝕄 := xAt c c (qsh (gap c j)) (XALL m)
def xrPay (c j : Dev nD) : sProp 𝕄 := xAt c j fullShare (XALL m)
def psPay (c j : Dev nD) : sProp 𝕄 := pAt c j (PALL m c)
def prPay (c : Dev nD) (r : Fin 3) : sProp 𝕄 := iAt c r (PINALL m c)

def dutiesD (c : Dev nD) (q : DmaSem sig) : Finset (Dev nD) :=
  if q.val = 0 ∨ 16 ≤ q.val then ∅ else if 13 ≤ q.val then {0} else if (q.val - 1) % 4 = c.val then ∅ else {0}
def payD (c : Dev nD) (q : DmaSem sig) : sProp 𝕄 :=
  if q.val < 5 then xsPay m c ⟨(q.val - 1) % 4, Nat.mod_lt _ (by decide)⟩
  else if q.val < 9 then xrPay m c ⟨(q.val - 5) % 4, Nat.mod_lt _ (by decide)⟩
  else if q.val < 13 then psPay m c ⟨(q.val - 9) % 4, Nat.mod_lt _ (by decide)⟩
  else prPay m c ⟨(q.val - 13) % 3, Nat.mod_lt _ (by decide)⟩

def sched : Rounds.Schedule (GSem nD τ sig) (Dev nD) 𝕄 where
  duties g r := if r = 0 then (match g.2 with | .reg _ => Finset.univ.erase g.1.1 | .dma q => dutiesD g.1.1 q) else ∅
  unitless _ := False
  amount g _ _ := match g.2 with | .reg _ => 1 | .dma _ => N
  payload g _ d := match g.2 with | .reg _ => barPay g.1.1 d | .dma q => payD m g.1.1 q
  amount_pos g _ _ _ := by
    rcases g with ⟨t, _ | q⟩
    · exact Nat.one_pos
    · exact N_pos

instance sched_payload_storable (g : GSem nD τ sig) (r : ℕ) (d : Dev nD) : BI.Storable (upEmb : UEmb _ 𝕄) ((sched (F := F) m).payload g r d) := by
  rcases g with ⟨t, _ | q⟩
  · show BI.Storable upEmb (barPay t.1 d)
    unfold barPay; infer_instance
  · show BI.Storable upEmb (payD m t.1 q)
    unfold payD xsPay xrPay psPay prPay
    (repeat' split) <;> infer_instance

theorem duties_later (g : GSem nD τ sig) : ∀ r, 1 ≤ r → (sched (F := F) m).duties g r = ∅ := fun r hr => if_neg (by omega)
theorem duties_bar (c : Dev nD) : (sched (F := F) m).duties (bcell c) 0 = Finset.univ.erase c := rfl
theorem duties_dma (c : Dev nD) (q : DmaSem sig) : (sched (F := F) m).duties (dcell c q) 0 = dutiesD c q := rfl
theorem amount_bar (c d : Dev nD) : (sched (F := F) m).amount (bcell c) 0 d = 1 := rfl
theorem amount_dma (c : Dev nD) (q : DmaSem sig) (d : Dev nD) : (sched (F := F) m).amount (dcell c q) 0 d = N := rfl
theorem payload_bar (c d : Dev nD) : (sched (F := F) m).payload (bcell c) 0 d = barPay c d := rfl
theorem payload_dma (c : Dev nD) (q : DmaSem sig) (d : Dev nD) : (sched (F := F) m).payload (dcell c q) 0 d = payD m c q := rfl

theorem dutiesD_xs {c j : Dev nD} (h : j ≠ c) : dutiesD c (xsq j) = {0} := by revert c j; decide
theorem dutiesD_xr {c j : Dev nD} (h : j ≠ c) : dutiesD c (xrq j) = {0} := by revert c j; decide
theorem dutiesD_ps {c j : Dev nD} (h : j ≠ c) : dutiesD c (psq j) = {0} := by revert c j; decide
theorem dutiesD_pr (c : Dev nD) (r : Fin 3) : dutiesD c (prq r.castSucc) = {0} := by revert c r; decide
theorem dutiesD_xs_own (c : Dev nD) : dutiesD c (xsq c) = ∅ := by revert c; decide
theorem dutiesD_xr_own (c : Dev nD) : dutiesD c (xrq c) = ∅ := by revert c; decide
theorem dutiesD_ps_own (c : Dev nD) : dutiesD c (psq c) = ∅ := by revert c; decide
theorem dutiesD_pr_last (c : Dev nD) : dutiesD c (prq 3) = ∅ := by revert c; decide

theorem payD_xs (c j : Dev nD) : payD m c (xsq j) = xsPay m c j := by revert j; intro j; fin_cases j <;> rfl
theorem payD_xr (c j : Dev nD) : payD m c (xrq j) = xrPay m c j := by revert j; intro j; fin_cases j <;> rfl
theorem payD_ps (c j : Dev nD) : payD m c (psq j) = psPay m c j := by revert j; intro j; fin_cases j <;> rfl
theorem payD_pr (c : Dev nD) (r : Fin 3) : payD m c (prq r.castSucc) = prPay m c r := by revert r; intro r; fin_cases r <;> rfl

theorem expect_one {c : Dev nD} {q : DmaSem sig} (h : dutiesD c q = {0}) : (sched (F := F) m).expect (dcell c q) 0 = N := by
  unfold Schedule.expect Schedule.amountOf
  rw [duties_dma, h, Finset.sum_singleton, amount_dma]

theorem expect_bar (c : Dev nD) : (sched (F := F) m).expect (bcell c) 0 = 3 := by
  unfold Schedule.expect Schedule.amountOf
  rw [duties_bar, Finset.sum_congr rfl fun d _ => amount_bar m c d, Finset.sum_const, Finset.card_erase_of_mem (Finset.mem_univ _), Finset.card_univ, Fintype.card_fin, smul_eq_mul]
  rfl

theorem rest_one {c : Dev nD} {q : DmaSem sig} (h : dutiesD c q = {0}) :
    bigSep ((sched (F := F) m).duties (dcell c q) 0 \ ∅) (fun d => (sched (F := F) m).payload (dcell c q) 0 d) = payD m c q := by
  rw [Finset.sdiff_empty, duties_dma, h, bigSep_singleton, payload_dma]

theorem rest_bar (c : Dev nD) :
    bigSep ((sched (F := F) m).duties (bcell c) 0 \ ∅) (fun d => (sched (F := F) m).payload (bcell c) 0 d)
      = iprop(barPay c (nx c 1) ∗ barPay c (nx c 2) ∗ barPay c (nx c 3)) := by
  rw [Finset.sdiff_empty, duties_bar, bigSep_eq_bigSepL_of_eq [nx c 1, nx c 2, nx c 3] (by revert c; decide) (by revert c; decide)]
  rfl

theorem gap_nx (c : Dev nD) (k : Fin 3) : gap c (nx c (k.val + 1)) = k.castSucc := by revert c k; decide
theorem place_nx (c : Dev nD) (k : Fin 3) : place c (nx c (k.val + 1)) = k.rev := by revert c k; decide
theorem place_nx' (c : Dev nD) (k : Fin 3) : place (nx c (k.val + 1)) c = k := by revert c k; decide
theorem nx_ne (c : Dev nD) (k : Fin 3) : nx c (k.val + 1) ≠ c := by revert c k; decide

/-! ## What each device owes; the levels -/

/-- The credits of the parts still to be sent, the next one last. -/
def owR (c : Dev nD) : ℕ → CellTallies nD τ sig Unit
  | 0 => 0
  | 1 => 0 + tallyAt (dcell (nx c 3) (prq 0)) () N
  | 2 => 0 + tallyAt (dcell (nx c 3) (prq 0)) () N + tallyAt (dcell (nx c 2) (prq 1)) () N
  | _ + 3 => 0 + tallyAt (dcell (nx c 3) (prq 0)) () N + tallyAt (dcell (nx c 2) (prq 1)) () N + tallyAt (dcell (nx c 1) (prq 2)) () N

def owX1 (c : Dev nD) : CellTallies nD τ sig Unit := owR c 3 + tallyAt (dcell (nx c 3) (xrq c)) () N
def owX2 (c : Dev nD) : CellTallies nD τ sig Unit := owX1 c + tallyAt (dcell (nx c 2) (xrq c)) () N
def owX3 (c : Dev nD) : CellTallies nD τ sig Unit := owX2 c + tallyAt (dcell (nx c 1) (xrq c)) () N
def owB1 (c : Dev nD) : CellTallies nD τ sig Unit := owX3 c + tallyAt (bcell (nx c 3)) () 1
def owB2 (c : Dev nD) : CellTallies nD τ sig Unit := owB1 c + tallyAt (bcell (nx c 2)) () 1
def O₀ (c : Dev nD) : CellTallies nD τ sig Unit := owB2 c + tallyAt (bcell (nx c 1)) () 1

/-- What is owed before point `n`. -/
def owedAt (c : Dev nD) (n : ℕ) : CellTallies nD τ sig Unit := if n = 0 then O₀ c else owR c (4 - n / 8)

def L (g : GSem nD τ sig) : Finset Unit := if g.1.2 = .tc then {()} else ∅
/-- Barriers at 1, arrivals of activations at 2, arrivals of parts at 3, everything else at 0. -/
def lvS : SemLoc sig → ℕ
  | .reg _ => 1
  | .dma q => if q.val < 5 then 0 else if q.val < 9 then 2 else if q.val < 13 then 0 else if q.val < 17 then 3 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

/-- Everything owed lies on cells of TensorCores at level at least `n`. -/
def Above (n : ℕ) (O : CellTallies nD τ sig Unit) : Prop := ∀ g u, 0 < O g u → g.1.2 = .tc ∧ n ≤ lvS g.2

theorem above_zero (n : ℕ) : Above n 0 := fun g u h => absurd h (Nat.lt_irrefl 0)
theorem above_mono {n k : ℕ} (h : n ≤ k) {O} (H : Above k O) : Above n O := fun g u hg => ⟨(H g u hg).1, h.trans (H g u hg).2⟩
theorem above_tally {n : ℕ} (c : Dev nD) (sm : SemLoc sig) (k : ℕ) (h : n ≤ lvS sm) : Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)
theorem above_add {n : ℕ} {O₁ O₂ : CellTallies nD τ sig Unit} (h₁ : Above n O₁) (h₂ : Above n O₂) : Above n (O₁ + O₂) := fun g u hg => by
  rw [Pi.add_apply, Finsupp.add_apply] at hg
  rcases Nat.pos_of_ne_zero (n := O₁ g u + O₂ g u) (by omega) |> Nat.add_pos_iff_pos_or_pos.mp with h | h
  · exact h₁ g u h
  · exact h₂ g u h

theorem lvS_pr (r : Fin 4) : 3 ≤ lvS (.dma (prq r) : SemLoc sig) := by revert r; decide
theorem lvS_xr (r : Fin 4) : 2 ≤ lvS (.dma (xrq r) : SemLoc sig) := by revert r; decide
theorem lvS_xr' (r : Fin 4) : lvS (.dma (xrq r) : SemLoc sig) < 3 := by revert r; decide
theorem lvS_xs (r : Fin 4) : lvS (.dma (xsq r) : SemLoc sig) < 1 := by revert r; decide
theorem lvS_ps (r : Fin 4) : lvS (.dma (psq r) : SemLoc sig) < 1 := by revert r; decide

theorem above_owR (c : Dev nD) (n : ℕ) : Above 3 (owR c n) := by
  have t (d : Dev nD) (r : Fin 4) : Above 3 (tallyAt (dcell d (prq r)) () N) := above_tally d _ N (lvS_pr r)
  rcases n with _ | _ | _ | n
  · exact above_zero 3
  · exact above_add (above_zero 3) (t _ _)
  · exact above_add (above_add (above_zero 3) (t _ _)) (t _ _)
  · exact above_add (above_add (above_add (above_zero 3) (t _ _)) (t _ _)) (t _ _)
theorem above_owX3 (c : Dev nD) : Above 2 (owX3 c) :=
  have t (d j : Dev nD) : Above 2 (tallyAt (dcell d (xrq j)) () N) := above_tally d _ N (lvS_xr j)
  above_add (above_add (above_add (above_mono (by decide) (above_owR c 3)) (t _ _)) (t _ _)) (t _ _)
theorem above_O₀ (c : Dev nD) : Above 1 (O₀ c) :=
  have t (d : Dev nD) : Above 1 (tallyAt (bcell d) () 1) := above_tally d _ 1 (le_refl 1)
  above_add (above_add (above_add (above_mono (by decide) (above_owX3 c)) (t _)) (t _)) (t _)
theorem above_owedAt (c : Dev nD) (n : ℕ) : Above 1 (owedAt c n) := by
  unfold owedAt; split
  · exact above_O₀ c
  · exact above_mono (by decide) (above_owR c _)

theorem mayWait {n : ℕ} (c : Dev nD) (sm : SemLoc sig) (h : lvS sm < n) {O : CellTallies nD τ sig Unit} (hO : Above n O) :
    (levAts L lv : sProp 𝕄) ⊢ MayWait (c : Thread nD τ) sm () O :=
  Pipeline.mayWait_of_levAts (by rw [L_tc]; exact Finset.mem_singleton_self _) fun g i hg =>
    ⟨by unfold L; rw [if_pos (hO g i hg).1]; exact Finset.mem_singleton_self _, lt_of_lt_of_le h (hO g i hg).2⟩

/-! ## The records every device keeps -/

def recs (K : Dev nD × Fin 17 → ℕ) : sProp 𝕄 :=
  iprop((bigSep Finset.univ fun cq : Dev nD × Fin 17 => cellInv ER (sched m) (K cq) (kcell cq))
    ∗ (bigSep Finset.univ fun cq : Dev nD × Fin 17 => reached ER (kcell cq) 0) ∗ levAts L lv)

instance recs_persistent (K : Dev nD × Fin 17 → ℕ) : BI.Persistent (recs m K) := by unfold recs; infer_instance

theorem recs_lev (K : Dev nD × Fin 17 → ℕ) : recs m K ⊢ (levAts L lv : sProp 𝕄) := by
  unfold recs; iintro ⟨-, -, H⟩; iexact H

theorem recs_inv (K : Dev nD × Fin 17 → ℕ) (cq : Dev nD × Fin 17) :
    (bigSep Finset.univ fun cq : Dev nD × Fin 17 => (cellInv ER (sched m) (K cq) (kcell cq) : sProp 𝕄)) ⊢ cellInv ER (sched m) (K cq) (kcell cq) :=
  bigSep_elim (Finset.mem_univ cq)
theorem recs_reached (cq : Dev nD × Fin 17) :
    (bigSep Finset.univ fun cq : Dev nD × Fin 17 => (reached ER (kcell cq) 0 : sProp 𝕄)) ⊢ reached ER (kcell cq) 0 :=
  bigSep_elim (Finset.mem_univ cq)

theorem recs_cell (K : Dev nD × Fin 17 → ℕ) (c : Dev nD) (q : Fin 17) (sm : SemLoc sig) (h : csem q = sm) :
    recs m K ⊢ iprop(cellInv ER (sched m) (K (c, q)) ((c : Thread nD τ), sm) ∗ reached ER ((c : Thread nD τ), sm) 0) := by
  subst h
  unfold recs
  iintro ⟨HI, HR, -⟩
  isplitl [HI]
  · iapply (recs_inv m K (c, q)); iexact HI
  · iapply (recs_reached (F := F) (c, q)); iexact HR

theorem recs_bar (K : Dev nD × Fin 17 → ℕ) (c : Dev nD) :
    recs m K ⊢ iprop(cellInv ER (sched m) (K (c, 0)) (bcell c) ∗ reached ER (bcell c) 0) := recs_cell m K c 0 _ rfl
theorem recs_dma (K : Dev nD × Fin 17 → ℕ) (c : Dev nD) (q : DmaSem sig) (h0 : q.val ≠ 0) (h : q.val < 17) :
    recs m K ⊢ iprop(cellInv ER (sched m) (K (c, ⟨q.val, h⟩)) (dcell c q) ∗ reached ER (dcell c q) 0) := recs_cell m K c ⟨q.val, h⟩ _ (csem_dma q h0 h)

end Cert.AttnProof

end
-- ==== Proof.Rules.lean ====
/-
One rule per operation the devices have in common: the signals, the waits, the remote and the local copies, each stated
over the assertions of `Proto`.
-/
module

public import proofs.«01_k».proof.Proof.Proto
public import Idealize.ShloMosaic.Lib.ValueLayout

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The weakest precondition of a piece of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes `O`, having waited for something or other. -/
def Ow (c : Dev nD) (O : CellTallies nD τ sig Unit) : sProp 𝕄 := iprop(∃ W, owes (c : Thread nD τ) O W)

section Views

theorem xsl_set {off : Fin 3 → ℕ} {j : Fin 4} (h : off = ![j.val, 0, 0]) (inb : ∀ a, off a + S1x1024x1024.size a ≤ S4x1024x1024.size a) :
    ((xM.slice (Rect.unit (s := S4x1024x1024) off S1x1024x1024.size inb) (fun _ => rfl)).squeeze S1024x1024 squeezes_S1x1024x1024_S1024x1024).view.set = xSet j :=
  (View.set_reshape _ _).trans <| (View.set_slice_whole _ _).trans (unit4_set h inb)

theorem psl_set {off : Fin 3 → ℕ} {j : Fin 4} (h : off = ![j.val, 0, 0]) (inb : ∀ a, off a + S1x1024x1024.size a ≤ S4x1024x1024.size a) :
    ((pM.slice (Rect.unit (s := S4x1024x1024) off S1x1024x1024.size inb) (fun _ => rfl)).squeeze S1024x1024 squeezes_S1x1024x1024_S1024x1024).view.set = xSet j :=
  (View.set_reshape _ _).trans <| (View.set_slice_whole _ _).trans (unit4_set h inb)

theorem isl_set {off : Fin 3 → ℕ} {j : Fin 3} (h : off = ![j.val, 0, 0]) (inb : ∀ a, off a + S1x1024x1024.size a ≤ S3x1024x1024.size a) :
    ((iM.slice (Rect.unit (s := S3x1024x1024) off S1x1024x1024.size inb) (fun _ => rfl)).squeeze S1024x1024 squeezes_S1x1024x1024_S1024x1024).view.set = pSet j :=
  (View.set_reshape _ _).trans <| (View.set_slice_whole _ _).trans (unit3_set h inb)

end Views

/-! ## Signals and waits -/

theorem wp_sig (K : Dev nD × Fin 17 → ℕ) (c n : Dev nD) (k : Fin 3) (hn : n = nx c (k.val + 1)) (O : CellTallies nD τ sig Unit)
    {α : Type} {Q : α → sProp 𝕄} {kk : PUnit → Prog (TpuEff nD τ sig (Elt F) Λ₀ .tc) α} :
    iprop(recs m K ∗ Ow c (O + tallyAt (bcell (nx c (k.val + 1))) () 1) ∗ dutyTok ER (bcell (nx c (k.val + 1))) 0 c
        ∗ (∃ f, xAt (F := F) c (nx c (k.val + 1)) fullShare f) ∗ (∃ f, iAt (F := F) c k f))
      ⊢ iprop((Ow c O -∗ WP c (kk ⟨⟩) Q) -∗ WP c (.op (.semSignal (n, .tc) barrier0 (1#32 : BitVec 32).toInt) kk) Q) := by
  subst hn
  unfold Ow
  iintro ⟨#HR, ⟨%W, HO⟩, Ht, Hx, Hi⟩ Hk
  ihave HI := (recs_bar m K (nx c (k.val + 1))) $$ HR
  icases HI with ⟨HI, Hr⟩
  iapply (Rounds.wp_signal 𝒱₀ ER (sched m) (c : Thread nD τ) none (dst := (nx c (k.val + 1) : Thread nD τ)) (κ := K (nx c (k.val + 1), 0))
      (d := c) (by rw [duties_bar]; exact Finset.mem_erase.mpr ⟨(nx_ne c k).symm, Finset.mem_univ _⟩) ((amount_bar m (nx c (k.val + 1)) c).trans (by decide)) () O rfl)
    $$ [HI HO Ht Hx Hi Hr]
  · isplitl [HI]; · iexact HI
    isplitl [HO]; · iexact HO
    isplitl [Ht]; · iexact Ht
    isplitl [Hx Hi]
    · rw [payload_bar]; unfold barPay; rw [place_nx']
      isplitl [Hx] <;> iassumption
    iexact Hr
  iintro HO
  iapply Hk
  iexists W; iexact HO

theorem wp_bar_wait (K : Dev nD × Fin 17 → ℕ) (c : Dev nD) {O : CellTallies nD τ sig Unit} (hO : Above 2 O)
    {α : Type} {Q : α → sProp 𝕄} {kk : PUnit → Prog (TpuEff nD τ sig (Elt F) Λ₀ .tc) α} :
    iprop(recs m K ∗ cred (tallyAt (bcell c) () 3) ∗ Ow c O ∗ atPos ER (bcell c) 0 ∅ 0)
      ⊢ iprop(((Ow c O ∗ semVal (bcell c) 0 ∗ barPay c (nx c 1) ∗ barPay c (nx c 2) ∗ barPay c (nx c 3)) -∗ WP c (kk ⟨⟩) Q)
        -∗ WP c (.op (.semWait barrier0 (3#32 : BitVec 32).toInt) kk) Q) := by
  unfold Ow
  iintro ⟨#HR, Hc, ⟨%W, HO⟩, Hat⟩ Hk
  ihave HI := (recs_bar m K c) $$ HR
  icases HI with ⟨#HI, -⟩
  iapply (Rounds.wp_wait_rest_token 𝒱₀ ER (sched m) (c : Thread nD τ) none (κ := K (c, 0))
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr
    · iapply (mayWait c (.reg barrier0) (show (1 : ℕ) < 2 by decide) hO); iapply (recs_lev m K); iexact HR
    iexact Hat
  iintro ⟨HO, Hat, -, Hpay⟩
  ihave Hp := (Entails.of_eq (rest_bar m c)) $$ Hpay
  imod (Rounds.cell_close ER (sched m) (Set.mem_univ (K (c, 0))) (fun h => h) (R := 0 + 1) (duties_later m (bcell c))) $$ [Hat] with Hz
  · isplitr; · iexact HI
    iexact Hat
  iapply Hk
  isplitl [HO]; · iexists _; iexact HO
  isplitl [Hz]; · iexact Hz
  iexact Hp

/-- Waiting for the one credit of a cell: its payload, and the cell closed at zero. -/
theorem wp_wait_one (K : Dev nD × Fin 17 → ℕ) (c : Dev nD) (q : DmaSem sig) {sem : DmaSem sig} (hsem : sem = q) (h0 : q.val ≠ 0) (h17 : q.val < 17)
    (hd : dutiesD c q = {0}) {n : ℕ} (hlv : lvS (.dma q : SemLoc sig) < n) {O : CellTallies nD τ sig Unit} (hO : Above n O)
    {sp sp' : Space} {s s' : Shape} {e e' : EltTy} {srcw : Memref sig .tc sp' s' e'} {dstw : Memref sig .tc sp s e} {hsrc : srcw.view.WordExact} {hdst : dstw.view.WordExact}
    (hN : dstw.view.dmaCredit = N)
    {α : Type} {Q : α → sProp 𝕄} {kk : PUnit → Prog (TpuEff nD τ sig (Elt F) Λ₀ .tc) α} :
    iprop(recs m K ∗ cred (tallyAt (dcell c q) () N) ∗ Ow c O ∗ atPos ER (dcell c q) 0 ∅ 0)
      ⊢ iprop(((Ow c O ∗ semVal (dcell c q) 0 ∗ payD m c q) -∗ WP c (kk ⟨⟩) Q)
        -∗ WP c (.op (.waitDma2 sem srcw dstw hsrc hdst) kk) Q) := by
  subst hsem
  unfold Ow
  iintro ⟨#HR, Hc, ⟨%W, HO⟩, Hat⟩ Hk
  ihave HI := (recs_dma m K c sem h0 h17) $$ HR
  icases HI with ⟨#HI, -⟩
  iapply (Rounds.wp_wait_rest_token 𝒱₀ ER (sched m) (c : Thread nD τ) none (κ := K (c, ⟨sem.val, h17⟩))
      (wpE_waitDma2_eq 𝒱₀ (c : Thread nD τ) none Set.univ) (Set.mem_univ _) () (O := O) (W := W) (R := 0) (m := 0) (T := ∅)
      (by rw [expect_one m hd, hN, Nat.zero_add])) $$ [Hc HO Hat]
  · isplitr; · iexact HI
    isplitl [Hc]; · rw [hN]; iexact Hc
    isplitl [HO]; · iexact HO
    isplitr
    · iapply (mayWait c (.dma sem) hlv hO); iapply (recs_lev m K); iexact HR
    iexact Hat
  iintro ⟨HO, Hat, -, Hpay⟩
  ihave Hp := (Entails.of_eq (rest_one m hd)) $$ Hpay
  imod (Rounds.cell_close ER (sched m) (Set.mem_univ (K (c, ⟨sem.val, h17⟩))) (fun h => h) (R := 0 + 1) (duties_later m (dcell c sem))) $$ [Hat] with Hz
  · isplitr; · iexact HI
    iexact Hat
  iapply Hk
  isplitl [HO]; · iexists _; iexact HO
  isplitl [Hz]; · iexact Hz
  iexact Hp

/-! ## Remote copies -/

/-- A device's activations sent to the device `k + 1` places after it. -/
theorem wp_send_x (K : Dev nD × Fin 17 → ℕ) (c n : Dev nD) (k : Fin 3) (hn : n = nx c (k.val + 1)) {off off' : Fin 3 → ℕ} (ho : off = ![c.val, 0, 0]) (ho' : off' = ![c.val, 0, 0])
    {inb : ∀ a, off a + S1x1024x1024.size a ≤ S4x1024x1024.size a} {inb' : ∀ a, off' a + S1x1024x1024.size a ≤ S4x1024x1024.size a}
    {s1 s2 : DmaSem sig} (hs1 : s1 = xsq (nx c (k.val + 1))) (hs2 : s2 = xrq c) (O : CellTallies nD τ sig Unit)
    {hsc} {hsrc} {hdst} {hsem} {α : Type} {Q : α → sProp 𝕄} {kk : PUnit → Prog (TpuEff nD τ sig (Elt F) Λ₀ .tc) α} :
    iprop(recs m K ∗ xAt c c (qsh k.castSucc) (XALL m) ∗ (∃ f, xAt (F := F) (nx c (k.val + 1)) c fullShare f)
        ∗ Ow c (O + tallyAt (dcell (nx c (k.val + 1)) (xrq c)) () N)
        ∗ dutyTok ER (dcell c (xsq (nx c (k.val + 1)))) 0 0 ∗ dutyTok ER (dcell (nx c (k.val + 1)) (xrq c)) 0 0)
      ⊢ iprop(((cred (tallyAt (dcell c (xsq (nx c (k.val + 1)))) () N) ∗ Ow c O) -∗ WP c (kk ⟨⟩) Q)
        -∗ WP c (.op (.enqueueDma ((xM.slice (Rect.unit (s := S4x1024x1024) off S1x1024x1024.size inb) (fun _ => rfl)).squeeze S1024x1024 squeezes_S1x1024x1024_S1024x1024)
            (.remote (Dev.tc n : Thread nD τ) ((xM.slice (Rect.unit (s := S4x1024x1024) off' S1x1024x1024.size inb') (fun _ => rfl)).squeeze S1024x1024 squeezes_S1x1024x1024_S1024x1024) (.dma s1) hsc)
            (.dma s2) hsrc hdst hsem) kk) Q) := by
  subst hn; subst hs1; subst hs2
  unfold Ow
  iintro ⟨#HR, Hs, ⟨%f, Hd⟩, ⟨%W, HO⟩, Ht1, Ht2⟩ Hk
  ihave HI := (recs_dma m K c (xsq (nx c (k.val + 1))) (Nat.succ_ne_zero _) (by show _ + 1 < 17; omega)) $$ HR
  icases HI with ⟨#HI1, #Hr1⟩
  ihave HI := (recs_dma m K (nx c (k.val + 1)) (xrq c) (Nat.succ_ne_zero _) (by show _ + 5 < 17; omega)) $$ HR
  icases HI with ⟨#HI2, #Hr2⟩
  iapply (Rounds.wp_send_pointsTo 𝒱₀ ER (sched m) (c : Thread nD τ) none (c' := (nx c (k.val + 1) : Thread nD τ))
    (src := (xM.slice (Rect.unit (s := S4x1024x1024) off S1x1024x1024.size inb) (fun _ => rfl)).squeeze S1024x1024 squeezes_S1x1024x1024_S1024x1024)
    (dst := (xM.slice (Rect.unit (s := S4x1024x1024) off' S1x1024x1024.size inb') (fun _ => rfl)).squeeze S1024x1024 squeezes_S1x1024x1024_S1024x1024)
    (κ₁ := K (c, ⟨(xsq (nx c (k.val + 1))).val, by show _ + 1 < 17; omega⟩)) (κ₂ := K (nx c (k.val + 1), ⟨(xrq c).val, by show _ + 5 < 17; omega⟩))
    (r₁ := 0) (r₂ := 0) (d₁ := 0) (d₂ := 0) (q := qsh k.castSucc) (fs := XALL m) (fd := f)
    (by rw [duties_dma, dutiesD_xs (nx_ne c k)]; exact Finset.mem_singleton_self _)
    (by rw [duties_dma, dutiesD_xr (nx_ne c k).symm]; exact Finset.mem_singleton_self _)
    () () N rfl (amount_dma m c _ 0) (amount_dma m _ _ 0) O rfl (W := W)
    (by rw [payload_dma, payD_xs, xsl_set ho]; unfold xsPay; rw [gap_nx])
    (by
      rw [payload_dma, payD_xr]; unfold xrPay
      subst ho; subst ho'
      exact Entails.of_eq ((pointsTo_congr (fun i hi => land (v := ((xM.slice (Rect.unit (s := S4x1024x1024) ![c.val, 0, 0] S1x1024x1024.size inb') (fun _ => rfl)).squeeze S1024x1024 squeezes_S1x1024x1024_S1024x1024).view) f (XALL m) rfl i hi)).trans (by rw [xsl_set rfl])))) $$ [Hs Hd HO Ht1 Ht2]
  · isplitr; · iexact HI1
    isplitr; · iexact HI2
    isplitl [Hs]; · rw [xsl_set ho]; iexact Hs
    isplitl [Hd]; · rw [xsl_set ho']; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

theorem read_pin (c : Dev nD) (k : Fin 3) {off off' : Fin 3 → ℕ} (ho : off = ![(nx c (k.val + 1)).val, 0, 0]) (ho' : off' = ![k.rev.val, 0, 0])
    (inb : ∀ a, off a + S1x1024x1024.size a ≤ S4x1024x1024.size a) (inb' : ∀ a, off' a + S1x1024x1024.size a ≤ S3x1024x1024.size a) :
    ((iM.slice (Rect.unit (s := S3x1024x1024) off' S1x1024x1024.size inb') (fun _ => rfl)).squeeze S1024x1024 squeezes_S1x1024x1024_S1024x1024).view.read (Elt F) (PINALL m (nx c (k.val + 1)))
      = ((pM.slice (Rect.unit (s := S4x1024x1024) off S1x1024x1024.size inb) (fun _ => rfl)).squeeze S1024x1024 squeezes_S1x1024x1024_S1024x1024).view.read (Elt F) (PALL m c) := by
  have h : ∀ y : (Rect.unit (s := S4x1024x1024) off S1x1024x1024.size inb).shape.Idx, PINALL m (nx c (k.val + 1)) ((Rect.unit (s := S3x1024x1024) off' S1x1024x1024.size inb').emb y)
      = PALL m c ((Rect.unit (s := S4x1024x1024) off S1x1024x1024.size inb).emb y) := fun y => by
    refine (read3 _ ho' inb' y).trans (Eq.trans ?_ (read4 (POUT m c) ho inb y).symm)
    rw [nx_nx, show k.val + 1 + (k.rev.val + 1) = 4 from by rw [Fin.val_rev]; omega, nx_four]
  funext x
  exact h (Shape.reshapeEquiv _ x)

/-- A device's part of a batch sent to the batch's device, `k + 1` places after it. -/
theorem wp_send_p (K : Dev nD × Fin 17 → ℕ) (c n : Dev nD) (k : Fin 3) (hn : n = nx c (k.val + 1)) {off off' : Fin 3 → ℕ} (ho : off = ![(nx c (k.val + 1)).val, 0, 0]) (ho' : off' = ![k.rev.val, 0, 0])
    {inb : ∀ a, off a + S1x1024x1024.size a ≤ S4x1024x1024.size a} {inb' : ∀ a, off' a + S1x1024x1024.size a ≤ S3x1024x1024.size a}
    {s1 s2 : DmaSem sig} (hs1 : s1 = psq (nx c (k.val + 1))) (hs2 : s2 = prq k.rev.castSucc) (O : CellTallies nD τ sig Unit)
    {hsc} {hsrc} {hdst} {hsem} {α : Type} {Q : α → sProp 𝕄} {kk : PUnit → Prog (TpuEff nD τ sig (Elt F) Λ₀ .tc) α} :
    iprop(recs m K ∗ pAt c (nx c (k.val + 1)) (PALL m c) ∗ (∃ f, iAt (F := F) (nx c (k.val + 1)) k.rev f)
        ∗ Ow c (O + tallyAt (dcell (nx c (k.val + 1)) (prq k.rev.castSucc)) () N)
        ∗ dutyTok ER (dcell c (psq (nx c (k.val + 1)))) 0 0 ∗ dutyTok ER (dcell (nx c (k.val + 1)) (prq k.rev.castSucc)) 0 0)
      ⊢ iprop(((cred (tallyAt (dcell c (psq (nx c (k.val + 1)))) () N) ∗ Ow c O) -∗ WP c (kk ⟨⟩) Q)
        -∗ WP c (.op (.enqueueDma ((pM.slice (Rect.unit (s := S4x1024x1024) off S1x1024x1024.size inb) (fun _ => rfl)).squeeze S1024x1024 squeezes_S1x1024x1024_S1024x1024)
            (.remote (Dev.tc n : Thread nD τ) ((iM.slice (Rect.unit (s := S3x1024x1024) off' S1x1024x1024.size inb') (fun _ => rfl)).squeeze S1024x1024 squeezes_S1x1024x1024_S1024x1024) (.dma s1) hsc)
            (.dma s2) hsrc hdst hsem) kk) Q) := by
  subst hn; subst hs1; subst hs2
  unfold Ow
  iintro ⟨#HR, Hs, ⟨%f, Hd⟩, ⟨%W, HO⟩, Ht1, Ht2⟩ Hk
  have hb (j : Fin 4) : (psq j).val < 17 := by show j.val + 9 < 17; omega
  have hb' (r : Fin 3) : (prq r.castSucc).val < 17 := by show r.val + 13 < 17; omega
  ihave HI := (recs_dma m K c (psq (nx c (k.val + 1))) (Nat.succ_ne_zero _) (hb _)) $$ HR
  icases HI with ⟨#HI1, #Hr1⟩
  ihave HI := (recs_dma m K (nx c (k.val + 1)) (prq k.rev.castSucc) (Nat.succ_ne_zero _) (hb' _)) $$ HR
  icases HI with ⟨#HI2, #Hr2⟩
  iapply (Rounds.wp_send_pointsTo 𝒱₀ ER (sched m) (c : Thread nD τ) none (c' := (nx c (k.val + 1) : Thread nD τ))
    (src := (pM.slice (Rect.unit (s := S4x1024x1024) off S1x1024x1024.size inb) (fun _ => rfl)).squeeze S1024x1024 squeezes_S1x1024x1024_S1024x1024)
    (dst := (iM.slice (Rect.unit (s := S3x1024x1024) off' S1x1024x1024.size inb') (fun _ => rfl)).squeeze S1024x1024 squeezes_S1x1024x1024_S1024x1024)
    (κ₁ := K (c, ⟨(psq (nx c (k.val + 1))).val, hb _⟩)) (κ₂ := K (nx c (k.val + 1), ⟨(prq k.rev.castSucc).val, hb' _⟩))
    (r₁ := 0) (r₂ := 0) (d₁ := 0) (d₂ := 0) (q := fullShare) (fs := PALL m c) (fd := f)
    (by rw [duties_dma, dutiesD_ps (nx_ne c k)]; exact Finset.mem_singleton_self _)
    (by rw [duties_dma, dutiesD_pr]; exact Finset.mem_singleton_self _)
    () () N rfl (amount_dma m c _ 0) (amount_dma m _ _ 0) O rfl (W := W)
    (by rw [payload_dma, payD_ps, psl_set ho]; unfold psPay; rfl)
    (by
      rw [payload_dma, payD_pr]; unfold prPay
      refine Entails.of_eq ((pointsTo_congr (fun i hi => land (v := ((iM.slice (Rect.unit (s := S3x1024x1024) off' S1x1024x1024.size inb') (fun _ => rfl)).squeeze S1024x1024 squeezes_S1x1024x1024_S1024x1024).view) f (PINALL m (nx c (k.val + 1))) ?_ i hi)).trans (by rw [isl_set ho']))
      exact read_pin m c k ho ho' inb inb')) $$ [Hs Hd HO Ht1 Ht2]
  · isplitr; · iexact HI1
    isplitr; · iexact HI2
    isplitl [Hs]; · rw [psl_set ho]; iexact Hs
    isplitl [Hd]; · rw [isl_set ho']; iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-! ## Local copies -/

theorem reshape_mat (h : S1024x1024.numel = S1x1024x1024.numel) (x : S1024x1024.Idx) : Shape.reshapeEquiv h x = ix3 (x 0) (x 1) :=
  Shape.reshapeEquiv_eq_of_rowMajor h (by
    rw [Shape.rowMajor_val_three, Shape.rowMajor_val_two]
    show ((0 * 1024 + (x 0).val) * 1024 + (x 1).val) = (x 0).val * 1024 + (x 1).val
    omega)

abbrev gS : Memref sig .tc .vmem S1024x1024 .f32 :=
  (gM.slice (Rect.unit (s := S1x1024x1024) ![0, 0, 0] S1x1024x1024.size inb_S1x1024x1024_S1x1024x1024_0_0_0) (fun _ => rfl)).squeeze S1024x1024 squeezes_S1x1024x1024_S1024x1024
abbrev xS : Memref sig .tc .hbm S1024x1024 .f32 :=
  (aX.slice (Rect.unit (s := S1x1024x1024) ![0, 0, 0] S1x1024x1024.size inb_S1x1024x1024_S1x1024x1024_0_0_0) (fun _ => rfl)).squeeze S1024x1024 squeezes_S1x1024x1024_S1024x1024

theorem unit_univ (inb : ∀ a, (![0, 0, 0] : Fin 3 → ℕ) a + S1x1024x1024.size a ≤ S1x1024x1024.size a) :
    (Rect.unit (s := S1x1024x1024) ![0, 0, 0] S1x1024x1024.size inb).set = Finset.univ := by
  ext i
  refine ⟨fun _ => Finset.mem_univ _, fun _ => Rect.mem_set_unit.mpr fun a => ?_⟩
  have := (i a).isLt
  fin_cases a <;> exact ⟨Nat.zero_le _, by simpa using this⟩

theorem gS_set : gS.view.set = Finset.univ := (View.set_reshape _ _).trans <| (View.set_slice_whole _ _).trans (unit_univ _)
theorem xS_set : xS.view.set = Finset.univ := (View.set_reshape _ _).trans <| (View.set_slice_whole _ _).trans (unit_univ _)

theorem gS_read_lift (w : S1024x1024.Idx → Elt F .f32) : gS.view.read (Elt F) (lift3 w) = w := by
  have h : ∀ y : S1x1024x1024.Idx, lift3 w ((Rect.unit (s := S1x1024x1024) ![0, 0, 0] S1x1024x1024.size inb_S1x1024x1024_S1x1024x1024_0_0_0).emb y) = w (ix2 (y 1) (y 2)) := fun y =>
    congrArg w (ix2_eq _ _ _ (by rw [Rect.emb_apply]; show 0 + 1 * (y 1).val = (y 1).val; omega) (by rw [Rect.emb_apply]; show 0 + 1 * (y 2).val = (y 2).val; omega))
  funext x
  refine (h (Shape.reshapeEquiv _ x)).trans ?_
  rw [reshape_mat]
  exact congrArg w (ix2_eq _ _ _ rfl rfl)

theorem gS_read_x (w : S1x1024x1024.Idx → Elt F .f32) : gS.view.read (Elt F) w = xS.view.read (Elt F) w := rfl

/-- A matrix copied into the result's block, and the wait for it. -/
theorem wp_stage (K : Dev nD × Fin 17 → ℕ) (c : Dev nD) {src srcw : Memref sig .tc .hbm S1024x1024 .f32} {fs : Buf (Elt F) (src.view.loc (c : Thread nD τ))} (C : S1x1024x1024.Idx → Elt F .f32)
    (hC : gS.view.read (Elt F) C = src.view.read (Elt F) fs) {sem : DmaSem sig} (hsem : sem = dsq) {O : CellTallies nD τ sig Unit} (hO : Above 1 O)
    {h1 h2 h3 h4 h5} {α : Type} {Q : α → sProp 𝕄} {kk : PUnit → Prog (TpuEff nD τ sig (Elt F) Λ₀ .tc) α} :
    iprop(recs m K ∗ (src.view.loc (c : Thread nD τ) ↦[src.view.set]{fullShare} fs) ∗ (∃ f, (c : Thread nD τ).loc cc0_stg0_0 ↦{fullShare} f) ∗ semVal (dcell c dsq) 0 ∗ Ow c O)
      ⊢ iprop(((src.view.loc (c : Thread nD τ) ↦[src.view.set]{fullShare} fs) ∗ ((c : Thread nD τ).loc cc0_stg0_0 ↦{fullShare} C) ∗ semVal (dcell c dsq) 0 ∗ Ow c O -∗ WP c (kk ⟨⟩) Q)
        -∗ WP c (.op (.enqueueDma src (.here gS) (.dma sem) h1 h2 h3) fun _ => .op (.waitDma2 sem srcw gS h4 h5) kk) Q) := by
  subst hsem
  unfold Ow
  iintro ⟨#HR, Hs, ⟨%f, Hd⟩, Hv, ⟨%W, HO⟩⟩ Hk
  iapply (Transfers.wp_dmaLocal EC 𝒱₀ (c : Thread nD τ) none (dst := gS) (Sd := Finset.univ) (fd := f) () gS.view.dmaCredit rfl (View.dmaCredit_pos _ (by decide)) (Finset.subset_univ _)) $$ [Hs Hd Hv]
  · isplitl [Hs]; · iexact Hs
    isplitl [Hd]; · iexact Hd
    iexact Hv
  iintro HF
  iapply (Transfers.wp_waitLocalO EC 𝒱₀ (c : Thread nD τ) none (dstw := gS) () rfl (O := O) (W := W)) $$ [HF HO]
  · isplitl [HF]; · iexact HF
    isplitl [HO]; · iexact HO
    iapply (mayWait c (.dma dsq) (show (0 : ℕ) < 1 by decide) hO); iapply (recs_lev m K); iexact HR
  iintro ⟨⟨Hd, Hs⟩, Hv, HO⟩
  iapply Hk
  isplitl [Hs]; · iexact Hs
  isplitl [Hd]
  · iapply (Entails.of_eq (pointsTo_congr (fun i _ => land (v := gS.view) f C hC i (by rw [gS_set]; exact Finset.mem_univ i))))
    iexact Hd
  isplitl [Hv]; · iexact Hv
  iexists _; iexact HO

def NK : ℕ := ((kM.slice (Rect.unit (s := S2x1024x8x128) ![0, 0, 0, 0] S1x1024x8x128.size (by decide)) (fun _ => rfl)).squeeze S1024x8x128 squeezes_S1x1024x8x128_S1024x8x128).view.dmaCredit
theorem NK_pos : 0 < NK := View.dmaCredit_pos _ (by decide)

/-- A slot of the stage, free. -/
def idleK (c : Dev nD) (s : Fin 2) : sProp 𝕄 := iprop((∃ f, (c : Thread nD τ).loc cc0_scratch3 ↦[kSlot s]{fullShare} f) ∗ semVal (dcell c (dkq s)) 0)
/-- Batch `j`'s keys on their way into a slot of the stage. -/
def flyK (c : Dev nD) (s : Fin 2) (j : Fin 4) : sProp 𝕄 :=
  Transfers.Flight EC (c : Thread nD τ) (.dma (dkq s)) () NK iprop(((c : Thread nD τ).loc cc0_scratch3 ↦[kSlot s]{fullShare} KST m c j) ∗ ((c : Thread nD τ).loc main_arg2 ↦[kSet c j]{fullShare} kin m c))

abbrev kD (off : Fin 4 → ℕ) (inb : ∀ a, off a + S1x1024x8x128.size a ≤ S2x1024x8x128.size a) : Memref sig .tc .vmem S1024x8x128 .f32 :=
  (kM.slice (Rect.unit (s := S2x1024x8x128) off S1x1024x8x128.size inb) (fun _ => rfl)).squeeze S1024x8x128 squeezes_S1x1024x8x128_S1024x8x128
abbrev kA (off : Fin 4 → ℕ) (inb : ∀ a, off a + S1x1024x8x128.size a ≤ S4x1024x32x128.size a) : Memref sig .tc .hbm S1024x8x128 .f32 :=
  (aK.slice (Rect.unit (s := S4x1024x32x128) off S1x1024x8x128.size inb) (fun _ => rfl)).squeeze S1024x8x128 squeezes_S1x1024x8x128_S1024x8x128

theorem kD_set {off : Fin 4 → ℕ} {s : Fin 2} (h : off = ![s.val, 0, 0, 0]) (inb) : (kD off inb).view.set = kSlot s :=
  (View.set_reshape _ _).trans <| (View.set_slice_whole _ _).trans (unit2_set h inb)
theorem kA_set {off : Fin 4 → ℕ} {j : Fin 4} {c : Dev nD} (h : off = ![j.val, 0, 8 * c.val, 0]) (inb) : (kA off inb).view.set = kSet c j :=
  (View.set_reshape _ _).trans <| (View.set_slice_whole _ _).trans (unitKV_set h inb)

theorem kD_read (c : Dev nD) {off : Fin 4 → ℕ} {j : Fin 4} (h : off = ![j.val, 0, 8 * c.val, 0]) (inb)
    {off' : Fin 4 → ℕ} {s : Fin 2} (h' : off' = ![s.val, 0, 0, 0]) (inb') : (kD off' inb').view.read (Elt F) (KST m c j) = (kA off inb).view.read (Elt F) (kin m c) := by
  have e := fun y : S1x1024x8x128.Idx => readKV (kin m c) h inb h' inb' y
  funext x
  exact e (Shape.reshapeEquiv _ x)

theorem wp_fetchK (c : Dev nD) {off : Fin 4 → ℕ} {j : Fin 4} (h : off = ![j.val, 0, 8 * c.val, 0]) {inb}
    {off' : Fin 4 → ℕ} {s : Fin 2} (h' : off' = ![s.val, 0, 0, 0]) {inb'} {sem : DmaSem sig} (hsem : sem = dkq s) {h1 h2 h3} {α : Type} {Q : α → sProp 𝕄} {kk : PUnit → Prog (TpuEff nD τ sig (Elt F) Λ₀ .tc) α} :
    iprop(((c : Thread nD τ).loc main_arg2 ↦[kSet c j]{fullShare} kin m c) ∗ idleK (F := F) c s)
      ⊢ iprop((flyK m c s j -∗ WP c (kk ⟨⟩) Q) -∗ WP c (.op (.enqueueDma (kA off inb) (.here (kD off' inb')) (.dma sem) h1 h2 h3) kk) Q) := by
  subst hsem
  unfold idleK flyK
  have hD (f : S2x1024x8x128.Idx → Elt F .f32) : iprop(((c : Thread nD τ).loc cc0_scratch3 ↦[(kD off' inb').view.set]{fullShare} ((kD off' inb').view.write (Elt F) f ((kA off inb).view.read (Elt F) (kin m c)) Finset.univ))
        ∗ ((c : Thread nD τ).loc main_arg2 ↦[(kA off inb).view.set]{fullShare} kin m c))
      ⊢ (iprop(((c : Thread nD τ).loc cc0_scratch3 ↦[kSlot s]{fullShare} KST m c j) ∗ ((c : Thread nD τ).loc main_arg2 ↦[kSet c j]{fullShare} kin m c)) : sProp 𝕄) := by
    rw [pointsTo_congr (fun i hi => land (v := (kD off' inb').view) f (KST m c j) (kD_read m c h inb h' inb') i hi), kD_set h', kA_set h]
  iintro ⟨Hs, ⟨%f, Hd⟩, Hv⟩ Hk
  iapply (Transfers.wp_dmaLocal EC 𝒱₀ (c : Thread nD τ) none (src := kA off inb) (dst := kD off' inb') (q := fullShare) (fs := kin m c) (Sd := (kD off' inb').view.set) (fd := f) () NK rfl NK_pos subset_rfl) $$ [Hs Hd Hv]
  · isplitl [Hs]; · rw [kA_set h]; iexact Hs
    isplitl [Hd]; · rw [kD_set h']; iexact Hd
    iexact Hv
  iintro HF
  iapply Hk
  iapply (Transfers.Flight_mono EC (c : Thread nD τ) (hD f))
  iexact HF

theorem wp_landK (K : Dev nD × Fin 17 → ℕ) (c : Dev nD) {s : Fin 2} {j : Fin 4} {sem : DmaSem sig} (hsem : sem = dkq s) {O : CellTallies nD τ sig Unit} (hO : Above 1 O)
    {off : Fin 4 → ℕ} {inb} {off' : Fin 4 → ℕ} {inb'} {h1 h2} {α : Type} {Q : α → sProp 𝕄} {kk : PUnit → Prog (TpuEff nD τ sig (Elt F) Λ₀ .tc) α} :
    iprop(recs m K ∗ flyK m c s j ∗ Ow c O)
      ⊢ iprop((((c : Thread nD τ).loc cc0_scratch3 ↦[kSlot s]{fullShare} KST m c j) ∗ ((c : Thread nD τ).loc main_arg2 ↦[kSet c j]{fullShare} kin m c) ∗ semVal (dcell c (dkq s)) 0 ∗ Ow c O -∗ WP c (kk ⟨⟩) Q)
        -∗ WP c (.op (.waitDma2 sem (kA off inb) (kD off' inb') h1 h2) kk) Q) := by
  subst hsem
  unfold Ow flyK
  iintro ⟨#HR, HF, ⟨%W, HO⟩⟩ Hk
  iapply (Transfers.wp_waitLocalO EC 𝒱₀ (c : Thread nD τ) none (dstw := kD off' inb') () (N := NK) rfl (O := O) (W := W)) $$ [HF HO]
  · isplitl [HF]; · iexact HF
    isplitl [HO]; · iexact HO
    iapply (mayWait c (.dma (dkq s)) (show lvS (.dma (dkq s) : SemLoc sig) < 1 from by revert s; decide) hO); iapply (recs_lev m K); iexact HR
  iintro ⟨⟨Hd, Hs⟩, Hv, HO⟩
  iapply Hk
  isplitl [Hd]; · iexact Hd
  isplitl [Hs]; · iexact Hs
  isplitl [Hv]; · iexact Hv
  iexists _; iexact HO

/-- A slot of the stage, free. -/
def idleV (c : Dev nD) (s : Fin 2) : sProp 𝕄 := iprop((∃ f, (c : Thread nD τ).loc cc0_scratch4 ↦[kSlot s]{fullShare} f) ∗ semVal (dcell c (dvq s)) 0)
/-- Batch `j`'s values on their way into a slot of the stage. -/
def flyV (c : Dev nD) (s : Fin 2) (j : Fin 4) : sProp 𝕄 :=
  Transfers.Flight EC (c : Thread nD τ) (.dma (dvq s)) () NK iprop(((c : Thread nD τ).loc cc0_scratch4 ↦[kSlot s]{fullShare} VST m c j) ∗ ((c : Thread nD τ).loc main_arg3 ↦[kSet c j]{fullShare} vin m c))

abbrev vD (off : Fin 4 → ℕ) (inb : ∀ a, off a + S1x1024x8x128.size a ≤ S2x1024x8x128.size a) : Memref sig .tc .vmem S1024x8x128 .f32 :=
  (vM.slice (Rect.unit (s := S2x1024x8x128) off S1x1024x8x128.size inb) (fun _ => rfl)).squeeze S1024x8x128 squeezes_S1x1024x8x128_S1024x8x128
abbrev vA (off : Fin 4 → ℕ) (inb : ∀ a, off a + S1x1024x8x128.size a ≤ S4x1024x32x128.size a) : Memref sig .tc .hbm S1024x8x128 .f32 :=
  (aV.slice (Rect.unit (s := S4x1024x32x128) off S1x1024x8x128.size inb) (fun _ => rfl)).squeeze S1024x8x128 squeezes_S1x1024x8x128_S1024x8x128

theorem vD_set {off : Fin 4 → ℕ} {s : Fin 2} (h : off = ![s.val, 0, 0, 0]) (inb) : (vD off inb).view.set = kSlot s :=
  (View.set_reshape _ _).trans <| (View.set_slice_whole _ _).trans (unit2_set h inb)
theorem vA_set {off : Fin 4 → ℕ} {j : Fin 4} {c : Dev nD} (h : off = ![j.val, 0, 8 * c.val, 0]) (inb) : (vA off inb).view.set = kSet c j :=
  (View.set_reshape _ _).trans <| (View.set_slice_whole _ _).trans (unitKV_set h inb)

theorem vD_read (c : Dev nD) {off : Fin 4 → ℕ} {j : Fin 4} (h : off = ![j.val, 0, 8 * c.val, 0]) (inb)
    {off' : Fin 4 → ℕ} {s : Fin 2} (h' : off' = ![s.val, 0, 0, 0]) (inb') : (vD off' inb').view.read (Elt F) (VST m c j) = (vA off inb).view.read (Elt F) (vin m c) := by
  have e := fun y : S1x1024x8x128.Idx => readKV (vin m c) h inb h' inb' y
  funext x
  exact e (Shape.reshapeEquiv _ x)

theorem wp_fetchV (c : Dev nD) {off : Fin 4 → ℕ} {j : Fin 4} (h : off = ![j.val, 0, 8 * c.val, 0]) {inb}
    {off' : Fin 4 → ℕ} {s : Fin 2} (h' : off' = ![s.val, 0, 0, 0]) {inb'} {sem : DmaSem sig} (hsem : sem = dvq s) {h1 h2 h3} {α : Type} {Q : α → sProp 𝕄} {kk : PUnit → Prog (TpuEff nD τ sig (Elt F) Λ₀ .tc) α} :
    iprop(((c : Thread nD τ).loc main_arg3 ↦[kSet c j]{fullShare} vin m c) ∗ idleV (F := F) c s)
      ⊢ iprop((flyV m c s j -∗ WP c (kk ⟨⟩) Q) -∗ WP c (.op (.enqueueDma (vA off inb) (.here (vD off' inb')) (.dma sem) h1 h2 h3) kk) Q) := by
  subst hsem
  unfold idleV flyV
  have hD (f : S2x1024x8x128.Idx → Elt F .f32) : iprop(((c : Thread nD τ).loc cc0_scratch4 ↦[(vD off' inb').view.set]{fullShare} ((vD off' inb').view.write (Elt F) f ((vA off inb).view.read (Elt F) (vin m c)) Finset.univ))
        ∗ ((c : Thread nD τ).loc main_arg3 ↦[(vA off inb).view.set]{fullShare} vin m c))
      ⊢ (iprop(((c : Thread nD τ).loc cc0_scratch4 ↦[kSlot s]{fullShare} VST m c j) ∗ ((c : Thread nD τ).loc main_arg3 ↦[kSet c j]{fullShare} vin m c)) : sProp 𝕄) := by
    rw [pointsTo_congr (fun i hi => land (v := (vD off' inb').view) f (VST m c j) (vD_read m c h inb h' inb') i hi), vD_set h', vA_set h]
  iintro ⟨Hs, ⟨%f, Hd⟩, Hv⟩ Hk
  iapply (Transfers.wp_dmaLocal EC 𝒱₀ (c : Thread nD τ) none (src := vA off inb) (dst := vD off' inb') (q := fullShare) (fs := vin m c) (Sd := (vD off' inb').view.set) (fd := f) () NK rfl NK_pos subset_rfl) $$ [Hs Hd Hv]
  · isplitl [Hs]; · rw [vA_set h]; iexact Hs
    isplitl [Hd]; · rw [vD_set h']; iexact Hd
    iexact Hv
  iintro HF
  iapply Hk
  iapply (Transfers.Flight_mono EC (c : Thread nD τ) (hD f))
  iexact HF

theorem wp_landV (K : Dev nD × Fin 17 → ℕ) (c : Dev nD) {s : Fin 2} {j : Fin 4} {sem : DmaSem sig} (hsem : sem = dvq s) {O : CellTallies nD τ sig Unit} (hO : Above 1 O)
    {off : Fin 4 → ℕ} {inb} {off' : Fin 4 → ℕ} {inb'} {h1 h2} {α : Type} {Q : α → sProp 𝕄} {kk : PUnit → Prog (TpuEff nD τ sig (Elt F) Λ₀ .tc) α} :
    iprop(recs m K ∗ flyV m c s j ∗ Ow c O)
      ⊢ iprop((((c : Thread nD τ).loc cc0_scratch4 ↦[kSlot s]{fullShare} VST m c j) ∗ ((c : Thread nD τ).loc main_arg3 ↦[kSet c j]{fullShare} vin m c) ∗ semVal (dcell c (dvq s)) 0 ∗ Ow c O -∗ WP c (kk ⟨⟩) Q)
        -∗ WP c (.op (.waitDma2 sem (vA off inb) (vD off' inb') h1 h2) kk) Q) := by
  subst hsem
  unfold Ow flyV
  iintro ⟨#HR, HF, ⟨%W, HO⟩⟩ Hk
  iapply (Transfers.wp_waitLocalO EC 𝒱₀ (c : Thread nD τ) none (dstw := vD off' inb') () (N := NK) rfl (O := O) (W := W)) $$ [HF HO]
  · isplitl [HF]; · iexact HF
    isplitl [HO]; · iexact HO
    iapply (mayWait c (.dma (dvq s)) (show lvS (.dma (dvq s) : SemLoc sig) < 1 from by revert s; decide) hO); iapply (recs_lev m K); iexact HR
  iintro ⟨⟨Hd, Hs⟩, Hv, HO⟩
  iapply Hk
  isplitl [Hd]; · iexact Hd
  isplitl [Hs]; · iexact Hs
  isplitl [Hv]; · iexact Hv
  iexists _; iexact HO

end Cert.AttnProof

end
-- ==== Proof.Segs.lean ====
/-
The kernel's body cut into the pieces the grid's points run: each piece is the body's own text at the call's buffers.
-/
module

public import proofs.«01_k».proof.Proof.Rules

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The first point's opening: the barrier, the activations sent on, the weights staged. -/
def seg1 (i : grid0.Coords) (d0 : Dev nD) (v2 : BitVec 32) (k0_h1 : k0_cond1 i = 1#1) : Prog (TpuEff nD τ sig (Elt F) Λ₀ .tc) PUnit := do
  let v82 : Vec F S1x1024x1024 .f32 ← k0_part1 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 d0 v2 k0_h1
  k0_part2 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 d0 v2 k0_h1 v82
  let v145 : FVec F S1024x1024 .bf16 ← k0_part3 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 d0 k0_h1
  let ⟨v170, v173, v187, v191⟩ : Σ' (v170 : IVec S1024x1024 32) (v173 : IVec S1024x1024 32) (v187 : IVec S1024x1024 1), IVec S1024x1024 1 ← k0_part4 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 v145
  let v210 : Vec F S1024x1024 .bf16 ← Prog.lift (.load bM (Rect.unit (s := S1024x1024) ![0, 0] S1024x1024.size inb_S1024x1024_S1024x1024_0_0).toLoadRect (View.loadsAt_vmem h_S1024x1024))
  Prog.lift (.store bM (Rect.unit (s := S1024x1024) ![0, 0] S1024x1024.size inb_S1024x1024_S1024x1024_0_0) (k0_pay12 (F := F) v170 v173 v187 v191) Finset.univ (View.stores_vmem h_S1024x1024 ((Memref.isWhole_whole cc0_scratch9).storeExact_slice rfl _ packedbf16_S1024x1024_S1024x1024_0_0) (fun _ => rfl)) (.inl rfl))
  pure ⟨⟩

/-- The first batch's keys and values fetched. -/
def seg2 (i : grid0.Coords) (d0 : Dev nD) (k0_h2 : k0_cond2 i = 1#1) : Prog (TpuEff nD τ sig (Elt F) Λ₀ .tc) PUnit := do
  let v62 : DmaSems sig S1 := cc0_scratch15.slice (Rect.unit (s := S2) (k0_off5 i) S1.size (k0_off5_inb i k0_h2))
  let v63 : DmaSems sig S_ := v62.squeeze S_ squeezes_S1_S_
  let v64 : Memref sig .tc .vmem S1x1024x8x128 .f32 := kM.slice (Rect.unit (s := S2x1024x8x128) (k0_off6 i) S1x1024x8x128.size (k0_off6_inb i k0_h2)) (fun _ => rfl)
  let v65 : Memref sig .tc .vmem S1024x8x128 .f32 := v64.squeeze S1024x8x128 squeezes_S1x1024x8x128_S1024x8x128
  let v66 : Memref sig .tc .hbm S1x1024x8x128 .f32 := aK.slice (Rect.unit (s := S4x1024x32x128) (k0_off7 i d0) S1x1024x8x128.size (k0_off7_inb i d0 k0_h2)) (fun _ => rfl)
  let v67 : Memref sig .tc .hbm S1024x8x128 .f32 := v66.squeeze S1024x8x128 squeezes_S1x1024x8x128_S1024x8x128
  Prog.lift (.enqueueDma v67 (.here v65) (.dma v63.sem) ((View.wordExact_bits rfl).reshape _ _) ((View.wordExact_bits rfl).reshape _ _) ⟨Or.inl rfl, trivial⟩)
  let v69 : DmaSems sig S1 := cc0_scratch16.slice (Rect.unit (s := S2) (k0_off5 i) S1.size (k0_off5_inb i k0_h2))
  let v70 : DmaSems sig S_ := v69.squeeze S_ squeezes_S1_S_
  let v71 : Memref sig .tc .vmem S1x1024x8x128 .f32 := vM.slice (Rect.unit (s := S2x1024x8x128) (k0_off6 i) S1x1024x8x128.size (k0_off6_inb i k0_h2)) (fun _ => rfl)
  let v72 : Memref sig .tc .vmem S1024x8x128 .f32 := v71.squeeze S1024x8x128 squeezes_S1x1024x8x128_S1024x8x128
  let v73 : Memref sig .tc .hbm S1x1024x8x128 .f32 := aV.slice (Rect.unit (s := S4x1024x32x128) (k0_off7 i d0) S1x1024x8x128.size (k0_off7_inb i d0 k0_h2)) (fun _ => rfl)
  let v74 : Memref sig .tc .hbm S1024x8x128 .f32 := v73.squeeze S1024x8x128 squeezes_S1x1024x8x128_S1024x8x128
  Prog.lift (.enqueueDma v74 (.here v72) (.dma v70.sem) ((View.wordExact_bits rfl).reshape _ _) ((View.wordExact_bits rfl).reshape _ _) ⟨Or.inl rfl, trivial⟩)
  pure ⟨⟩

/-- A batch's keys and values waited for. -/
def seg3 (i : grid0.Coords) (d0 : Dev nD) (k0_h3 : k0_cond3 i = 1#1) : Prog (TpuEff nD τ sig (Elt F) Λ₀ .tc) PUnit := do
  let v62 : DmaSems sig S1 := cc0_scratch15.slice (Rect.unit (s := S2) (k0_off8 i) S1.size (k0_off8_inb i k0_h3))
  let v63 : DmaSems sig S_ := v62.squeeze S_ squeezes_S1_S_
  let v64 : Memref sig .tc .vmem S1x1024x8x128 .f32 := kM.slice (Rect.unit (s := S2x1024x8x128) (k0_off9 i) S1x1024x8x128.size (k0_off9_inb i k0_h3)) (fun _ => rfl)
  let v65 : Memref sig .tc .vmem S1024x8x128 .f32 := v64.squeeze S1024x8x128 squeezes_S1x1024x8x128_S1024x8x128
  let v66 : Memref sig .tc .hbm S1x1024x8x128 .f32 := aK.slice (Rect.unit (s := S4x1024x32x128) (k0_off10 i d0) S1x1024x8x128.size (k0_off10_inb i d0 k0_h3)) (fun _ => rfl)
  let v67 : Memref sig .tc .hbm S1024x8x128 .f32 := v66.squeeze S1024x8x128 squeezes_S1x1024x8x128_S1024x8x128
  Prog.lift (.waitDma2 v63.sem v67 v65 ((View.wordExact_bits rfl).reshape _ _) ((View.wordExact_bits rfl).reshape _ _))
  let v69 : DmaSems sig S1 := cc0_scratch16.slice (Rect.unit (s := S2) (k0_off8 i) S1.size (k0_off8_inb i k0_h3))
  let v70 : DmaSems sig S_ := v69.squeeze S_ squeezes_S1_S_
  let v71 : Memref sig .tc .vmem S1x1024x8x128 .f32 := vM.slice (Rect.unit (s := S2x1024x8x128) (k0_off9 i) S1x1024x8x128.size (k0_off9_inb i k0_h3)) (fun _ => rfl)
  let v72 : Memref sig .tc .vmem S1024x8x128 .f32 := v71.squeeze S1024x8x128 squeezes_S1x1024x8x128_S1024x8x128
  let v73 : Memref sig .tc .hbm S1x1024x8x128 .f32 := aV.slice (Rect.unit (s := S4x1024x32x128) (k0_off10 i d0) S1x1024x8x128.size (k0_off10_inb i d0 k0_h3)) (fun _ => rfl)
  let v74 : Memref sig .tc .hbm S1024x8x128 .f32 := v73.squeeze S1024x8x128 squeezes_S1x1024x8x128_S1024x8x128
  Prog.lift (.waitDma2 v70.sem v74 v72 ((View.wordExact_bits rfl).reshape _ _) ((View.wordExact_bits rfl).reshape _ _))
  pure ⟨⟩

/-- The next batch's keys and values fetched. -/
def seg4 (i : grid0.Coords) (d0 : Dev nD) (k0_h3 : k0_cond3 i = 1#1) (k0_h4 : k0_cond4 i = 1#1) : Prog (TpuEff nD τ sig (Elt F) Λ₀ .tc) PUnit := do
  let v95 : DmaSems sig S1 := cc0_scratch15.slice (Rect.unit (s := S2) (k0_off11 i) S1.size (k0_off11_inb i k0_h3 k0_h4))
  let v96 : DmaSems sig S_ := v95.squeeze S_ squeezes_S1_S_
  let v97 : Memref sig .tc .vmem S1x1024x8x128 .f32 := kM.slice (Rect.unit (s := S2x1024x8x128) (k0_off12 i) S1x1024x8x128.size (k0_off12_inb i k0_h3 k0_h4)) (fun _ => rfl)
  let v98 : Memref sig .tc .vmem S1024x8x128 .f32 := v97.squeeze S1024x8x128 squeezes_S1x1024x8x128_S1024x8x128
  let v99 : Memref sig .tc .hbm S1x1024x8x128 .f32 := aK.slice (Rect.unit (s := S4x1024x32x128) (k0_off13 i d0) S1x1024x8x128.size (k0_off13_inb i d0 k0_h3 k0_h4)) (fun _ => rfl)
  let v100 : Memref sig .tc .hbm S1024x8x128 .f32 := v99.squeeze S1024x8x128 squeezes_S1x1024x8x128_S1024x8x128
  Prog.lift (.enqueueDma v100 (.here v98) (.dma v96.sem) ((View.wordExact_bits rfl).reshape _ _) ((View.wordExact_bits rfl).reshape _ _) ⟨Or.inl rfl, trivial⟩)
  let v102 : DmaSems sig S1 := cc0_scratch16.slice (Rect.unit (s := S2) (k0_off11 i) S1.size (k0_off11_inb i k0_h3 k0_h4))
  let v103 : DmaSems sig S_ := v102.squeeze S_ squeezes_S1_S_
  let v104 : Memref sig .tc .vmem S1x1024x8x128 .f32 := vM.slice (Rect.unit (s := S2x1024x8x128) (k0_off12 i) S1x1024x8x128.size (k0_off12_inb i k0_h3 k0_h4)) (fun _ => rfl)
  let v105 : Memref sig .tc .vmem S1024x8x128 .f32 := v104.squeeze S1024x8x128 squeezes_S1x1024x8x128_S1024x8x128
  let v106 : Memref sig .tc .hbm S1x1024x8x128 .f32 := aV.slice (Rect.unit (s := S4x1024x32x128) (k0_off13 i d0) S1x1024x8x128.size (k0_off13_inb i d0 k0_h3 k0_h4)) (fun _ => rfl)
  let v107 : Memref sig .tc .hbm S1024x8x128 .f32 := v106.squeeze S1024x8x128 squeezes_S1x1024x8x128_S1024x8x128
  Prog.lift (.enqueueDma v107 (.here v105) (.dma v103.sem) ((View.wordExact_bits rfl).reshape _ _) ((View.wordExact_bits rfl).reshape _ _) ⟨Or.inl rfl, trivial⟩)
  pure ⟨⟩

/-- A batch's activations waited for. -/
def seg5 (i : grid0.Coords) (d0 : Dev nD) (k0_h3 : k0_cond3 i = 1#1) (k0_h5 : k0_cond5 i = 1#1) : Prog (TpuEff nD τ sig (Elt F) Λ₀ .tc) PUnit := do
  let v92 : DmaSems sig S1 := cc0_scratch11.slice (Rect.unit (s := S4) (k0_off14 i d0) S1.size (k0_off14_inb i d0 k0_h3 k0_h5))
  let v93 : DmaSems sig S_ := v92.squeeze S_ squeezes_S1_S_
  let v94 : Memref sig .tc .vmem S1x1024x1024 .bf16 := xM.slice (Rect.unit (s := S4x1024x1024) (k0_off15 i d0) S1x1024x1024.size (k0_off15_inb i d0 k0_h3 k0_h5)) (fun _ => rfl)
  let v95 : Memref sig .tc .vmem S1024x1024 .bf16 := v94.squeeze S1024x1024 squeezes_S1x1024x1024_S1024x1024
  let v96 : Memref sig .tc .vmem S1x1024x1024 .bf16 := xM.slice (Rect.unit (s := S4x1024x1024) (k0_off16 d0) S1x1024x1024.size (k0_off16_inb i d0 k0_h3 k0_h5)) (fun _ => rfl)
  let v97 : Memref sig .tc .vmem S1024x1024 .bf16 := v96.squeeze S1024x1024 squeezes_S1x1024x1024_S1024x1024
  Prog.lift (.waitDma2 v93.sem v97 v95 (((Memref.isWhole_whole cc0_scratch0).wordExact_slice rfl _ (k0_off16_wordsbf16 i d0 k0_h3 k0_h5)).reshape _ _) (((Memref.isWhole_whole cc0_scratch0).wordExact_slice rfl _ (k0_off15_wordsbf16 i d0 k0_h3 k0_h5)).reshape _ _))
  pure ⟨⟩

/-- A batch's queries. -/
def segQ (i : grid0.Coords) (d0 : Dev nD) (k0_h3 : k0_cond3 i = 1#1) : Prog (TpuEff nD τ sig (Elt F) Λ₀ .tc) PUnit := do
  let v82 : Vec F S1x1024x1024 .bf16 ← Prog.lift (.load xM (Rect.unit (s := S4x1024x1024) (k0_off17 i d0) S1x1024x1024.size (k0_off17_inb i d0 k0_h3)).toLoadRect (View.loadsAt_vmem h_S1x1024x1024))
  let v84 : Vec F S1024x1024 .bf16 ← Prog.lift (.load wM (Rect.unit (s := S1024x1024) ![0, 0] S1024x1024.size inb_S1024x1024_S1024x1024_0_0).toLoadRect (View.loadsAt_vmem h_S1024x1024))
  let v87 : Vec F S1024x1024 .bf16 ← Prog.lift (.load qM (Rect.unit (s := S1024x1024) ![0, 0] S1024x1024.size inb_S1024x1024_S1024x1024_0_0).toLoadRect (View.loadsAt_vmem h_S1024x1024))
  Prog.lift (.store qM (Rect.unit (s := S1024x1024) ![0, 0] S1024x1024.size inb_S1024x1024_S1024x1024_0_0) (k0_pay13 v82 v84) Finset.univ (View.stores_vmem h_S1024x1024 ((Memref.isWhole_whole cc0_scratch5).storeExact_slice rfl _ packedbf16_S1024x1024_S1024x1024_0_0) (fun _ => rfl)) (.inl rfl))
  pure ⟨⟩

/-- One head of the attention. -/
def segA (i : grid0.Coords) (d0 : Dev nD) : Prog (TpuEff nD τ sig (Elt F) Λ₀ .tc) PUnit := do
  let v21 : Vec F S1x1024x1x128 .f32 ← Prog.lift (.load kM (Rect.unit (s := S2x1024x8x128) (k0_off18 i) S1x1024x1x128.size (k0_off18_inb i)).toLoadRect (View.loadsAt_vmem h_S1x1024x1x128))
  let v26 : Vec F S1024x128 .bf16 ← Prog.lift (.load qM (Rect.unit (s := S1024x1024) (k0_off19 i) S1024x128.size (k0_off19_inb i)).toLoadRect (View.loadsAt_vmem h_S1024x128))
  let v31 : Vec F S1024x1024 .bf16 ← Prog.lift (.load bM (Rect.unit (s := S1024x1024) ![0, 0] S1024x1024.size inb_S1024x1024_S1024x1024_0_0).toLoadRect (View.loadsAt_vmem h_S1024x1024))
  let v33 : FVec F S1024x1024 .bf16 := k0_pay14 v21 v26 v31
  let v41 : Vec F S1x1024x1x128 .f32 ← Prog.lift (.load vM (Rect.unit (s := S2x1024x8x128) (k0_off18 i) S1x1024x1x128.size (k0_off18_inb i)).toLoadRect (View.loadsAt_vmem h_S1x1024x1x128))
  let v50 : Vec F S1024x128 .bf16 ← Prog.lift (.load cM (Rect.unit (s := S1024x1024) (k0_off19 i) S1024x128.size (k0_off19_inb i)).toLoadRect (View.loadsAt_vmem h_S1024x128))
  Prog.lift (.store cM (Rect.unit (s := S1024x1024) (k0_off19 i) S1024x128.size (k0_off19_inb i)) (k0_pay1 v33 v41) Finset.univ (View.stores_vmem h_S1024x128 ((Memref.isWhole_whole cc0_scratch6).storeExact_slice rfl _ (k0_off19_packedbf16 i)) (fun _ => rfl)) (.inl rfl))
  pure ⟨⟩

/-- A batch's part of the result. -/
def seg6 (i : grid0.Coords) (d0 : Dev nD) (k0_h6 : k0_cond6 i = 1#1) : Prog (TpuEff nD τ sig (Elt F) Λ₀ .tc) PUnit := do
  let v61 : Vec F S1024x1024 .bf16 ← Prog.lift (.load cM (Rect.unit (s := S1024x1024) ![0, 0] S1024x1024.size inb_S1024x1024_S1024x1024_0_0).toLoadRect (View.loadsAt_vmem h_S1024x1024))
  let v62 : Vec F S1024x1024 .bf16 ← Prog.lift (.load oM (Rect.unit (s := S1024x1024) ![0, 0] S1024x1024.size inb_S1024x1024_S1024x1024_0_0).toLoadRect (View.loadsAt_vmem h_S1024x1024))
  let v67 : Vec F S1x1024x1024 .bf16 ← Prog.lift (.load pM (Rect.unit (s := S4x1024x1024) (k0_off20 i d0) S1x1024x1024.size (k0_off20_inb i d0 k0_h6)).toLoadRect (View.loadsAt_vmem h_S1x1024x1024))
  Prog.lift (.store pM (Rect.unit (s := S4x1024x1024) (k0_off20 i d0) S1x1024x1024.size (k0_off20_inb i d0 k0_h6)) (k0_pay2 v61 v62) Finset.univ (View.stores_vmem h_S1x1024x1024 ((Memref.isWhole_whole cc0_scratch1).storeExact_slice rfl _ (k0_off20_packedbf16 i d0 k0_h6)) (fun _ => rfl)) (.inl rfl))
  pure ⟨⟩

/-- That part sent to the batch's device. -/
def seg7 (i : grid0.Coords) (d0 : Dev nD) (k0_h6 : k0_cond6 i = 1#1) (k0_h7 : k0_cond7 i = 1#1) : Prog (TpuEff nD τ sig (Elt F) Λ₀ .tc) PUnit := do
  let v77 : DmaSems sig S1 := cc0_scratch12.slice (Rect.unit (s := S4) (k0_off21 i d0) S1.size (k0_off21_inb i d0 k0_h6 k0_h7))
  let v78 : DmaSems sig S_ := v77.squeeze S_ squeezes_S1_S_
  let v79 : DmaSems sig S1 := cc0_scratch13.slice (Rect.unit (s := S4) (k0_off22 i) S1.size (k0_off22_inb i k0_h6 k0_h7))
  let v80 : DmaSems sig S_ := v79.squeeze S_ squeezes_S1_S_
  let v81 : Memref sig .tc .vmem S1x1024x1024 .bf16 := iM.slice (Rect.unit (s := S3x1024x1024) (k0_off23 i) S1x1024x1024.size (k0_off23_inb i k0_h6 k0_h7)) (fun _ => rfl)
  let v82 : Memref sig .tc .vmem S1024x1024 .bf16 := v81.squeeze S1024x1024 squeezes_S1x1024x1024_S1024x1024
  let v83 : Memref sig .tc .vmem S1x1024x1024 .bf16 := pM.slice (Rect.unit (s := S4x1024x1024) (k0_off24 i d0) S1x1024x1024.size (k0_off24_inb i d0 k0_h6 k0_h7)) (fun _ => rfl)
  let v84 : Memref sig .tc .vmem S1024x1024 .bf16 := v83.squeeze S1024x1024 squeezes_S1x1024x1024_S1024x1024
  Prog.lift (.enqueueDma v84 (.remote (Dev.tc (⟨k0_dev7 i d0, k0_dev7_lt i d0 k0_h6 k0_h7⟩ : Dev nD)) v82 (.dma v78.sem)) (.dma v80.sem) (((Memref.isWhole_whole cc0_scratch1).wordExact_slice rfl _ (k0_off24_wordsbf16 i d0 k0_h6 k0_h7)).reshape _ _) (((Memref.isWhole_whole cc0_scratch2).wordExact_slice rfl _ (k0_off23_wordsbf16 i k0_h6 k0_h7)).reshape _ _) ⟨⟨rfl, Or.inl rfl⟩, trivial⟩)
  pure ⟨⟩

/-- The parts gathered, and what is still in flight waited for. -/
def seg8 (i : grid0.Coords) (d0 : Dev nD) (v2 : BitVec 32) (k0_h8 : k0_cond8 i = 1#1) : Prog (TpuEff nD τ sig (Elt F) Λ₀ .tc) PUnit := do
  let v79 : FVec F S1024x1024 .f32 ← k0_part5 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 d0 v2 k0_h8
  k0_part6 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 d0 v2 k0_h8 v79
  k0_part7 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 d0 v2 k0_h8
  let v149 : DmaSems sig S1 := cc0_scratch12.slice (Rect.unit (s := S4) (k0_off27 d0 3#32) S1.size (k0_off27_inb i d0 k0_h8 2))
  let v150 : DmaSems sig S_ := v149.squeeze S_ squeezes_S1_S_
  let v151 : Memref sig .tc .vmem S1x1024x1024 .bf16 := pM.slice (Rect.unit (s := S4x1024x1024) (k0_off28 d0 3#32) S1x1024x1024.size (k0_off28_inb i d0 k0_h8 2)) (fun _ => rfl)
  let v152 : Memref sig .tc .vmem S1024x1024 .bf16 := v151.squeeze S1024x1024 squeezes_S1x1024x1024_S1024x1024
  let v153 : Memref sig .tc .vmem S1x1024x1024 .bf16 := iM.slice (Rect.unit (s := S3x1024x1024) ![0, 0, 0] S1x1024x1024.size inb_S3x1024x1024_S1x1024x1024_0_0_0) (fun _ => rfl)
  let v154 : Memref sig .tc .vmem S1024x1024 .bf16 := v153.squeeze S1024x1024 squeezes_S1x1024x1024_S1024x1024
  Prog.lift (.waitDma2 v150.sem v154 v152 (((Memref.isWhole_whole cc0_scratch2).wordExact_slice rfl _ wordsbf16_S3x1024x1024_S1x1024x1024_0_0_0).reshape _ _) (((Memref.isWhole_whole cc0_scratch1).wordExact_slice rfl _ (k0_off28_wordsbf16 i d0 k0_h8 2)).reshape _ _))
  pure ⟨⟩

/-- The kernel's body at the call's buffers. -/
abbrev bodyAt (i : grid0.Coords) : Prog (TpuEff nD τ sig (Elt F) Λ₀ .tc) PUnit := cc0_body i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16

/-- The seven kinds of grid point. -/
theorem cond_cases (i : grid0.Coords) :
    (k0_cond1 i = 1#1 ∧ k0_cond2 i = 1#1 ∧ k0_cond3 i = 1#1 ∧ k0_cond4 i = 1#1 ∧ ¬ k0_cond5 i = 1#1 ∧ ¬ k0_cond6 i = 1#1 ∧ ¬ k0_cond8 i = 1#1)
    ∨ (¬ k0_cond1 i = 1#1 ∧ ¬ k0_cond2 i = 1#1 ∧ k0_cond3 i = 1#1 ∧ k0_cond4 i = 1#1 ∧ k0_cond5 i = 1#1 ∧ ¬ k0_cond6 i = 1#1 ∧ ¬ k0_cond8 i = 1#1)
    ∨ (¬ k0_cond1 i = 1#1 ∧ ¬ k0_cond2 i = 1#1 ∧ k0_cond3 i = 1#1 ∧ ¬ k0_cond4 i = 1#1 ∧ k0_cond5 i = 1#1 ∧ ¬ k0_cond6 i = 1#1 ∧ ¬ k0_cond8 i = 1#1)
    ∨ (¬ k0_cond1 i = 1#1 ∧ ¬ k0_cond2 i = 1#1 ∧ ¬ k0_cond3 i = 1#1 ∧ ¬ k0_cond6 i = 1#1 ∧ ¬ k0_cond8 i = 1#1)
    ∨ (¬ k0_cond1 i = 1#1 ∧ ¬ k0_cond2 i = 1#1 ∧ ¬ k0_cond3 i = 1#1 ∧ k0_cond6 i = 1#1 ∧ ¬ k0_cond7 i = 1#1 ∧ ¬ k0_cond8 i = 1#1)
    ∨ (¬ k0_cond1 i = 1#1 ∧ ¬ k0_cond2 i = 1#1 ∧ ¬ k0_cond3 i = 1#1 ∧ k0_cond6 i = 1#1 ∧ k0_cond7 i = 1#1 ∧ ¬ k0_cond8 i = 1#1)
    ∨ (¬ k0_cond1 i = 1#1 ∧ ¬ k0_cond2 i = 1#1 ∧ ¬ k0_cond3 i = 1#1 ∧ k0_cond6 i = 1#1 ∧ k0_cond7 i = 1#1 ∧ k0_cond8 i = 1#1) := by
  revert i; decide

/-- The body is its pieces, one after the other. -/
theorem body_eq (i : grid0.Coords) : bodyAt (F := F) i =
    (Prog.lift .deviceId >>= fun c : Dev nD =>
      (if h : k0_cond1 i = 1#1 then seg1 i c (Scalar.remsi (Scalar.divsi (Dev.word c) 1#32) 4#32) h else pure ⟨⟩) >>= fun _ =>
      (if h : k0_cond2 i = 1#1 then seg2 i c h else pure ⟨⟩) >>= fun _ =>
      (if h : k0_cond3 i = 1#1 then (seg3 i c h >>= fun _ =>
        (if h' : k0_cond4 i = 1#1 then seg4 i c h h' else pure ⟨⟩) >>= fun _ =>
        (if h' : k0_cond5 i = 1#1 then seg5 i c h h' else pure ⟨⟩) >>= fun _ =>
        segQ i c h) else pure ⟨⟩) >>= fun _ =>
      segA i c >>= fun _ =>
      (if h : k0_cond6 i = 1#1 then (seg6 i c h >>= fun _ =>
        if h' : k0_cond7 i = 1#1 then seg7 i c h h' else pure ⟨⟩) else pure ⟨⟩) >>= fun _ =>
      if h : k0_cond8 i = 1#1 then seg8 i c (Scalar.remsi (Scalar.divsi (Dev.word c) 1#32) 4#32) h else pure ⟨⟩) := by
  unfold bodyAt
  rw [cc0_body_eq_skeleton]
  unfold cc0_body_skel
  rw [k0_part8_eq_skeleton]
  unfold k0_part8_skel
  rcases cond_cases i with ⟨h1, h2, h3, h4, h5, h6, h8⟩ | ⟨h1, h2, h3, h4, h5, h6, h8⟩ | ⟨h1, h2, h3, h4, h5, h6, h8⟩ | ⟨h1, h2, h3, h6, h8⟩ | ⟨h1, h2, h3, h6, h7, h8⟩ | ⟨h1, h2, h3, h6, h7, h8⟩ | ⟨h1, h2, h3, h6, h7, h8⟩
  · simp only [bind_assoc, pure_bind, Prog.pure_eq_ret, Prog.bind_ret, dif_pos h1, dif_pos h2, dif_pos h3, dif_pos h4, dif_neg h5, dif_neg h6, dif_neg h8, seg1, seg2, seg3, seg4, segQ, segA]
  · simp only [bind_assoc, pure_bind, Prog.pure_eq_ret, Prog.bind_ret, dif_neg h1, dif_neg h2, dif_pos h3, dif_pos h4, dif_pos h5, dif_neg h6, dif_neg h8, seg3, seg4, seg5, segQ, segA]
  · simp only [bind_assoc, pure_bind, Prog.pure_eq_ret, Prog.bind_ret, dif_neg h1, dif_neg h2, dif_pos h3, dif_neg h4, dif_pos h5, dif_neg h6, dif_neg h8, seg3, seg5, segQ, segA]
  · simp only [bind_assoc, pure_bind, Prog.pure_eq_ret, Prog.bind_ret, dif_neg h1, dif_neg h2, dif_neg h3, dif_neg h6, dif_neg h8, segA]
  · simp only [bind_assoc, pure_bind, Prog.pure_eq_ret, Prog.bind_ret, dif_neg h1, dif_neg h2, dif_neg h3, dif_pos h6, dif_neg h7, dif_neg h8, segA, seg6]
  · simp only [bind_assoc, pure_bind, Prog.pure_eq_ret, Prog.bind_ret, dif_neg h1, dif_neg h2, dif_neg h3, dif_pos h6, dif_pos h7, dif_neg h8, segA, seg6, seg7]
  · simp only [bind_assoc, pure_bind, Prog.pure_eq_ret, Prog.bind_ret, dif_neg h1, dif_neg h2, dif_neg h3, dif_pos h6, dif_pos h7, dif_pos h8, segA, seg6, seg7, seg8]

theorem wp_body (c : Dev nD) (i : grid0.Coords) (Q : PUnit → sProp 𝕄) :
    WP c (bodyAt i) Q = (WP c (if h : k0_cond1 i = 1#1 then seg1 i c (Scalar.remsi (Scalar.divsi (Dev.word c) 1#32) 4#32) h else pure ⟨⟩) fun _ =>
      WP c (if h : k0_cond2 i = 1#1 then seg2 i c h else pure ⟨⟩) fun _ =>
      WP c (if h : k0_cond3 i = 1#1 then (seg3 i c h >>= fun _ =>
        (if h' : k0_cond4 i = 1#1 then seg4 i c h h' else pure ⟨⟩) >>= fun _ =>
        (if h' : k0_cond5 i = 1#1 then seg5 i c h h' else pure ⟨⟩) >>= fun _ =>
        segQ i c h) else pure ⟨⟩) fun _ =>
      WP c (segA i c) fun _ =>
      WP c (if h : k0_cond6 i = 1#1 then (seg6 i c h >>= fun _ =>
        if h' : k0_cond7 i = 1#1 then seg7 i c h h' else pure ⟨⟩) else pure ⟨⟩) fun _ =>
      WP c (if h : k0_cond8 i = 1#1 then seg8 i c (Scalar.remsi (Scalar.divsi (Dev.word c) 1#32) 4#32) h else pure ⟨⟩) Q) := by
  rw [body_eq]
  unfold WP
  simp only [Prog.lift, Prog.bind_op, Prog.bind_ret, wp_deviceId]
  rw [wp_bind, wp_bind, wp_bind, wp_bind, wp_bind]

theorem wp_skip (c : Dev nD) {A : Type} (x : A) (Q : A → sProp 𝕄) : Q x ⊢ WP c (pure x) Q := by
  unfold WP
  rw [Prog.pure_eq_ret, wp_ret]
  iintro H
  imodintro
  iexact H

end Cert.AttnProof

end
-- ==== Proof.Mem.lean ====
/-
Loads and stores of the kernel's buffers, each with the contents named in `Values`.
-/
module

public import proofs.«01_k».proof.Proof.Segs

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem hz2 : (![0, 0] : Fin 2 → ℕ) = fun _ => 0 := funext fun a => by fin_cases a <;> rfl
theorem hz3 : (![0, 0, 0] : Fin 3 → ℕ) = fun _ => 0 := funext fun a => by fin_cases a <;> rfl

section Slots

variable {α : Type}

abbrev rX (off : Fin 3 → ℕ) (inb : ∀ a, off a + S1x1024x1024.size a ≤ S4x1024x1024.size a) : Rect S4x1024x1024 := Rect.unit (s := S4x1024x1024) off S1x1024x1024.size inb
abbrev rI (off : Fin 3 → ℕ) (inb : ∀ a, off a + S1x1024x1024.size a ≤ S3x1024x1024.size a) : Rect S3x1024x1024 := Rect.unit (s := S3x1024x1024) off S1x1024x1024.size inb

theorem set_x {off : Fin 3 → ℕ} {j : Fin 4} (ho : off = ![j.val, 0, 0]) (inb) : (xM.access (rX off inb) : View sig .tc _ _ _).set = xSet j :=
  (View.set_slice_whole _ _).trans (unit4_set ho inb)

theorem read_x {off : Fin 3 → ℕ}  {j : Fin 4} (ho : off = ![j.val, 0, 0]) (inb) : (xM.access (rX off inb) : View sig .tc _ _ _).read (Elt F) (XALL m) = (k0_pay3 (xin m j)) := by
  have e := fun y => read4 (fun j => k0_pay3 (xin m j)) ho inb y
  funext y
  exact e y

/-- A slot loaded. -/
theorem ld_x (c : Dev nD) (j : Fin 4) {q : PosShare TreeShare} {off : Fin 3 → ℕ} (ho : off = ![j.val, 0, 0]) {inb} {hl} {k : (S1x1024x1024.Idx → Elt F .bf16) → Prog (TpuEff nD τ sig (Elt F) Λ₀ .tc) α} {Q : α → sProp 𝕄} :
    xAt c j q (XALL m) ⊢ iprop((xAt c j q (XALL m) -∗ WP c (k (k0_pay3 (xin m j))) Q) -∗ WP c (.op (.load xM (rX off inb).toLoadRect hl) k) Q) := by
  iintro Hx Hk
  iapply (wp_load_rect 𝒱₀ (c : Thread nD τ) none Set.univ (m := xM) (r := rX off inb) (S := xSet j) (set_x ho inb).le) $$ Hx
  iintro Hx
  rw [read_x m ho inb]
  iapply Hk
  iexact Hx

/-- A slot loaded, for nothing. -/
theorem ld_x_any (c : Dev nD) (j : Fin 4) {q : PosShare TreeShare} {off : Fin 3 → ℕ} (ho : off = ![j.val, 0, 0]) {inb} {hl} {f : S4x1024x1024.Idx → Elt F .bf16} {p : Prog (TpuEff nD τ sig (Elt F) Λ₀ .tc) α} {Q : α → sProp 𝕄} :
    xAt c j q f ⊢ iprop((xAt c j q f -∗ WP c p Q) -∗ WP c (.op (.load xM (rX off inb).toLoadRect hl) fun _ => p) Q) := by
  iintro Hx Hk
  iapply (wp_load_rect 𝒱₀ (c : Thread nD τ) none Set.univ (m := xM) (r := rX off inb) (S := xSet j) (set_x ho inb).le) $$ Hx
  iintro Hx
  iapply Hk
  iexact Hx

/-- A slot stored. -/
theorem st_x (c : Dev nD) (j : Fin 4) {off : Fin 3 → ℕ} (ho : off = ![j.val, 0, 0]) {inb} {w : S1x1024x1024.Idx → Elt F .bf16} (hw : w = (k0_pay3 (xin m j))) {hx hm} {f : S4x1024x1024.Idx → Elt F .bf16} {k : PUnit → Prog (TpuEff nD τ sig (Elt F) Λ₀ .tc) α} {Q : α → sProp 𝕄} :
    xAt c j fullShare f ⊢ iprop((xAt c j fullShare (XALL m) -∗ WP c (k ⟨⟩) Q) -∗ WP c (.op (.store xM (rX off inb) w Finset.univ hx hm) k) Q) := by
  have hD : ((c : Thread nD τ).loc cc0_scratch0 ↦[xSet j]{fullShare} ((xM.access (rX off inb) : View sig .tc _ _ _).write (Elt F) f w Finset.univ)) ⊢ (xAt c j fullShare (XALL m) : sProp 𝕄) := by
    have e : ∀ i ∈ xSet j, (xM.access (rX off inb) : View sig .tc _ _ _).write (Elt F) f w Finset.univ i = (XALL m) i := by
      rw [← set_x ho inb]
      exact land (v := (xM.access (rX off inb) : View sig .tc _ _ _)) f (XALL m) ((read_x m ho inb).trans hw.symm)
    exact Entails.of_eq (pointsTo_congr e)
  iintro Hx Hk
  iapply (wp_store 𝒱₀ (c : Thread nD τ) none Set.univ (m := xM) (r := rX off inb) (Mk := Finset.univ) (S := xSet j) ((View.setOn_univ _).trans (set_x ho inb)).le) $$ Hx
  iintro Hx
  iapply Hk
  iapply hD
  iexact Hx

theorem set_p {off : Fin 3 → ℕ} {j : Fin 4} (ho : off = ![j.val, 0, 0]) (inb) : (pM.access (rX off inb) : View sig .tc _ _ _).set = xSet j :=
  (View.set_slice_whole _ _).trans (unit4_set ho inb)

theorem read_p {off : Fin 3 → ℕ} (c : Dev nD) {j : Fin 4} (ho : off = ![j.val, 0, 0]) (inb) : (pM.access (rX off inb) : View sig .tc _ _ _).read (Elt F) (PALL m c) = (POUT m c j) := by
  have e := fun y => read4 (POUT m c) ho inb y
  funext y
  exact e y

/-- A slot loaded. -/
theorem ld_p (c : Dev nD) (j : Fin 4)  {off : Fin 3 → ℕ} (ho : off = ![j.val, 0, 0]) {inb} {hl} {k : (S1x1024x1024.Idx → Elt F .bf16) → Prog (TpuEff nD τ sig (Elt F) Λ₀ .tc) α} {Q : α → sProp 𝕄} :
    pAt c j (PALL m c) ⊢ iprop((pAt c j (PALL m c) -∗ WP c (k (POUT m c j)) Q) -∗ WP c (.op (.load pM (rX off inb).toLoadRect hl) k) Q) := by
  iintro Hx Hk
  iapply (wp_load_rect 𝒱₀ (c : Thread nD τ) none Set.univ (m := pM) (r := rX off inb) (S := xSet j) (set_p ho inb).le) $$ Hx
  iintro Hx
  rw [read_p m c ho inb]
  iapply Hk
  iexact Hx

/-- A slot loaded, for nothing. -/
theorem ld_p_any (c : Dev nD) (j : Fin 4)  {off : Fin 3 → ℕ} (ho : off = ![j.val, 0, 0]) {inb} {hl} {f : S4x1024x1024.Idx → Elt F .bf16} {p : Prog (TpuEff nD τ sig (Elt F) Λ₀ .tc) α} {Q : α → sProp 𝕄} :
    pAt c j f ⊢ iprop((pAt c j f -∗ WP c p Q) -∗ WP c (.op (.load pM (rX off inb).toLoadRect hl) fun _ => p) Q) := by
  iintro Hx Hk
  iapply (wp_load_rect 𝒱₀ (c : Thread nD τ) none Set.univ (m := pM) (r := rX off inb) (S := xSet j) (set_p ho inb).le) $$ Hx
  iintro Hx
  iapply Hk
  iexact Hx

/-- A slot stored. -/
theorem st_p (c : Dev nD) (j : Fin 4) {off : Fin 3 → ℕ} (ho : off = ![j.val, 0, 0]) {inb} {w : S1x1024x1024.Idx → Elt F .bf16} (hw : w = (POUT m c j)) {hx hm} {f : S4x1024x1024.Idx → Elt F .bf16} {k : PUnit → Prog (TpuEff nD τ sig (Elt F) Λ₀ .tc) α} {Q : α → sProp 𝕄} :
    pAt c j f ⊢ iprop((pAt c j (PALL m c) -∗ WP c (k ⟨⟩) Q) -∗ WP c (.op (.store pM (rX off inb) w Finset.univ hx hm) k) Q) := by
  have hD : ((c : Thread nD τ).loc cc0_scratch1 ↦[xSet j]{fullShare} ((pM.access (rX off inb) : View sig .tc _ _ _).write (Elt F) f w Finset.univ)) ⊢ (pAt c j (PALL m c) : sProp 𝕄) := by
    have e : ∀ i ∈ xSet j, (pM.access (rX off inb) : View sig .tc _ _ _).write (Elt F) f w Finset.univ i = (PALL m c) i := by
      rw [← set_p ho inb]
      exact land (v := (pM.access (rX off inb) : View sig .tc _ _ _)) f (PALL m c) ((read_p m c ho inb).trans hw.symm)
    exact Entails.of_eq (pointsTo_congr e)
  iintro Hx Hk
  iapply (wp_store 𝒱₀ (c : Thread nD τ) none Set.univ (m := pM) (r := rX off inb) (Mk := Finset.univ) (S := xSet j) ((View.setOn_univ _).trans (set_p ho inb)).le) $$ Hx
  iintro Hx
  iapply Hk
  iapply hD
  iexact Hx

theorem set_i {off : Fin 3 → ℕ} {r : Fin 3} (ho : off = ![r.val, 0, 0]) (inb) : (iM.access (rI off inb) : View sig .tc _ _ _).set = pSet r :=
  (View.set_slice_whole _ _).trans (unit3_set ho inb)

/-- A received part loaded. -/
theorem ld_i (c : Dev nD) (r : Fin 3) {off : Fin 3 → ℕ} (ho : off = ![r.val, 0, 0]) {inb} {hl} {k : (S1x1024x1024.Idx → Elt F .bf16) → Prog (TpuEff nD τ sig (Elt F) Λ₀ .tc) α} {Q : α → sProp 𝕄} :
    iAt c r (PINALL m c) ⊢ iprop((iAt c r (PINALL m c) -∗ WP c (k (POUT m (nx c (r.val + 1)) c)) Q) -∗ WP c (.op (.load iM (rI off inb).toLoadRect hl) k) Q) := by
  have hr : (iM.access (rI off inb) : View sig .tc _ _ _).read (Elt F) (PINALL m c) = POUT m (nx c (r.val + 1)) c := by
    have e := fun y => read3 (fun r : Fin 3 => POUT m (nx c (r.val + 1)) c) ho inb y
    funext y
    exact e y
  iintro Hx Hk
  iapply (wp_load_rect 𝒱₀ (c : Thread nD τ) none Set.univ (m := iM) (r := rI off inb) (S := pSet r) (set_i ho inb).le) $$ Hx
  iintro Hx
  rw [hr]
  iapply Hk
  iexact Hx

/-- One head of a staged batch loaded. -/
theorem ld_k (c : Dev nD) (s : Fin 2) (j : Fin 4) (hd : Fin 8) {off : Fin 4 → ℕ} (ho : off = ![s.val, 0, hd.val, 0]) {inb : ∀ a, off a + S1x1024x1x128.size a ≤ S2x1024x8x128.size a} {hl} {k : (S1x1024x1x128.Idx → Elt F .f32) → Prog (TpuEff nD τ sig (Elt F) Λ₀ .tc) α} {Q : α → sProp 𝕄} :
    ((c : Thread nD τ).loc cc0_scratch3 ↦[kSlot s]{fullShare} KST m c j) ⊢ iprop((((c : Thread nD τ).loc cc0_scratch3 ↦[kSlot s]{fullShare} KST m c j) -∗ WP c (k (KH m c j hd)) Q)
      -∗ WP c (.op (.load kM (Rect.unit (s := S2x1024x8x128) off S1x1024x1x128.size inb).toLoadRect hl) k) Q) := by
  have hr : (kM.access (Rect.unit (s := S2x1024x8x128) off S1x1024x1x128.size inb) : View sig .tc _ _ _).read (Elt F) (KST m c j) = KH m c j hd := by
    have e := fun y => readHead (c := c) (j := j) (kin m c) ho inb y
    funext y
    exact e y
  iintro Hx Hk
  iapply (wp_load_rect 𝒱₀ (c : Thread nD τ) none Set.univ (m := kM) (r := Rect.unit (s := S2x1024x8x128) off S1x1024x1x128.size inb)
    (S := kSlot s) ((View.set_slice_whole _ _).le.trans (unitH_subset ho inb))) $$ Hx
  iintro Hx
  rw [hr]
  iapply Hk
  iexact Hx

/-- One head of a staged batch loaded. -/
theorem ld_v (c : Dev nD) (s : Fin 2) (j : Fin 4) (hd : Fin 8) {off : Fin 4 → ℕ} (ho : off = ![s.val, 0, hd.val, 0]) {inb : ∀ a, off a + S1x1024x1x128.size a ≤ S2x1024x8x128.size a} {hl} {k : (S1x1024x1x128.Idx → Elt F .f32) → Prog (TpuEff nD τ sig (Elt F) Λ₀ .tc) α} {Q : α → sProp 𝕄} :
    ((c : Thread nD τ).loc cc0_scratch4 ↦[kSlot s]{fullShare} VST m c j) ⊢ iprop((((c : Thread nD τ).loc cc0_scratch4 ↦[kSlot s]{fullShare} VST m c j) -∗ WP c (k (VH m c j hd)) Q)
      -∗ WP c (.op (.load vM (Rect.unit (s := S2x1024x8x128) off S1x1024x1x128.size inb).toLoadRect hl) k) Q) := by
  have hr : (vM.access (Rect.unit (s := S2x1024x8x128) off S1x1024x1x128.size inb) : View sig .tc _ _ _).read (Elt F) (VST m c j) = VH m c j hd := by
    have e := fun y => readHead (c := c) (j := j) (vin m c) ho inb y
    funext y
    exact e y
  iintro Hx Hk
  iapply (wp_load_rect 𝒱₀ (c : Thread nD τ) none Set.univ (m := vM) (r := Rect.unit (s := S2x1024x8x128) off S1x1024x1x128.size inb)
    (S := kSlot s) ((View.set_slice_whole _ _).le.trans (unitH_subset ho inb))) $$ Hx
  iintro Hx
  rw [hr]
  iapply Hk
  iexact Hx

abbrev rC (off : Fin 2 → ℕ) (inb : ∀ a, off a + S1024x128.size a ≤ S1024x1024.size a) : Rect S1024x1024 := Rect.unit (s := S1024x1024) off S1024x128.size inb

/-- One head's queries loaded. -/
theorem ld_q (c : Dev nD) (j : Fin 4) (hd : Fin 8) {off : Fin 2 → ℕ} (ho : off = ![0, 128 * hd.val]) {inb} {hl} {k : (S1024x128.Idx → Elt F .bf16) → Prog (TpuEff nD τ sig (Elt F) Λ₀ .tc) α} {Q : α → sProp 𝕄} :
    ((c : Thread nD τ).loc cc0_scratch5 ↦{fullShare} QB m c j) ⊢ iprop((((c : Thread nD τ).loc cc0_scratch5 ↦{fullShare} QB m c j) -∗ WP c (k (QH m c j hd)) Q)
      -∗ WP c (.op (.load qM (rC off inb).toLoadRect hl) k) Q) := by
  have hr : (qM.access (rC off inb) : View sig .tc _ _ _).read (Elt F) (QB m c j) = QH m c j hd := by
    have e := fun y => readCols (QB m c j) ho inb y
    funext y
    exact e y
  iintro Hx Hk
  iapply (wp_load_rect 𝒱₀ (c : Thread nD τ) none Set.univ (m := qM) (r := rC off inb) (S := Finset.univ) (Finset.subset_univ _)) $$ Hx
  iintro Hx
  rw [hr]
  iapply Hk
  iexact Hx

/-- One head's result stored. -/
theorem st_c (c : Dev nD) (j : Fin 4) (hd : Fin 8) {off : Fin 2 → ℕ} (ho : off = ![0, 128 * hd.val]) {inb} {hl} {w : S1024x128.Idx → Elt F .bf16} (hw : w = HEAD m c j hd) {hx hm} {f : S1024x1024.Idx → Elt F .bf16}
    (hf : Upto m c j (128 * hd.val) f) {k : PUnit → Prog (TpuEff nD τ sig (Elt F) Λ₀ .tc) α} {Q : α → sProp 𝕄} :
    ((c : Thread nD τ).loc cc0_scratch6 ↦{fullShare} f) ⊢ iprop(((∃ f, ⌜Upto m c j (128 * (hd.val + 1)) f⌝ ∗ ((c : Thread nD τ).loc cc0_scratch6 ↦{fullShare} f)) -∗ WP c (k ⟨⟩) Q)
      -∗ WP c (.op (.load cM (rC off inb).toLoadRect hl) fun _ => .op (.store cM (rC off inb) w Finset.univ hx hm) k) Q) := by
  subst hw
  iintro Hx Hk
  iapply (wp_load_rect 𝒱₀ (c : Thread nD τ) none Set.univ (m := cM) (r := rC off inb) (S := Finset.univ) (Finset.subset_univ _)) $$ Hx
  iintro Hx
  iapply (wp_store 𝒱₀ (c : Thread nD τ) none Set.univ (m := cM) (r := rC off inb) (Mk := Finset.univ) (S := Finset.univ) (Finset.subset_univ _)) $$ Hx
  iintro Hx
  iapply Hk
  iexists _
  isplitr
  · ipureintro; exact upto_succ m ho inb hf
  iexact Hx

theorem ldw_q (c : Dev nD) {q : PosShare TreeShare} {f : S1024x1024.Idx → Elt F .bf16} {inb hl} {k : (S1024x1024.Idx → Elt F .bf16) → Prog (TpuEff nD τ sig (Elt F) Λ₀ .tc) α} {Q : α → sProp 𝕄} :
    ((c : Thread nD τ).loc cc0_scratch5 ↦{q} f) ⊢ iprop((((c : Thread nD τ).loc cc0_scratch5 ↦{q} f) -∗ WP c (k f) Q) -∗ WP c (.op (.load qM (Rect.unit (s := S1024x1024) ![0, 0] S1024x1024.size inb).toLoadRect hl) k) Q) := by
  iintro Hx Hk
  iapply (wp_load 𝒱₀ (c : Thread nD τ) none Set.univ (m := qM) (S := Finset.univ) (Finset.subset_univ _)) $$ Hx
  iintro Hx
  have e : qM.view.readAt (Elt F) (Rect.unit (s := S1024x1024) ![0, 0] S1024x1024.size inb).toLoadRect f = f := Memref.readAt_unit_zero (Elt F) cc0_scratch5 hz2 _ f
  rw [e]
  iapply Hk
  iexact Hx

theorem stw_q (c : Dev nD) {f w : S1024x1024.Idx → Elt F .bf16} {inb hl hx hm} {k : PUnit → Prog (TpuEff nD τ sig (Elt F) Λ₀ .tc) α} {Q : α → sProp 𝕄} :
    ((c : Thread nD τ).loc cc0_scratch5 ↦{fullShare} f) ⊢ iprop((((c : Thread nD τ).loc cc0_scratch5 ↦{fullShare} w) -∗ WP c (k ⟨⟩) Q)
      -∗ WP c (.op (.load qM (Rect.unit (s := S1024x1024) ![0, 0] S1024x1024.size inb).toLoadRect hl) fun _ => .op (.store qM (Rect.unit (s := S1024x1024) ![0, 0] S1024x1024.size inb) w Finset.univ hx hm) k) Q) := by
  iintro Hx Hk
  iapply (wp_load 𝒱₀ (c : Thread nD τ) none Set.univ (m := qM) (S := Finset.univ) (Finset.subset_univ _)) $$ Hx
  iintro Hx
  iapply (wp_store 𝒱₀ (c : Thread nD τ) none Set.univ (m := qM) (r := Rect.unit (s := S1024x1024) ![0, 0] S1024x1024.size inb) (Mk := Finset.univ) (S := Finset.univ) (Finset.subset_univ _)) $$ Hx
  iintro Hx
  have e : (qM.access (Rect.unit (s := S1024x1024) ![0, 0] S1024x1024.size inb) : View sig .tc _ _ _).write (Elt F) f w Finset.univ = w := Memref.write_access_unit_zero_univ (Elt F) cc0_scratch5 hz2 _ f w
  rw [e]
  iapply Hk
  iexact Hx

theorem ldw_c (c : Dev nD) {q : PosShare TreeShare} {f : S1024x1024.Idx → Elt F .bf16} {inb hl} {k : (S1024x1024.Idx → Elt F .bf16) → Prog (TpuEff nD τ sig (Elt F) Λ₀ .tc) α} {Q : α → sProp 𝕄} :
    ((c : Thread nD τ).loc cc0_scratch6 ↦{q} f) ⊢ iprop((((c : Thread nD τ).loc cc0_scratch6 ↦{q} f) -∗ WP c (k f) Q) -∗ WP c (.op (.load cM (Rect.unit (s := S1024x1024) ![0, 0] S1024x1024.size inb).toLoadRect hl) k) Q) := by
  iintro Hx Hk
  iapply (wp_load 𝒱₀ (c : Thread nD τ) none Set.univ (m := cM) (S := Finset.univ) (Finset.subset_univ _)) $$ Hx
  iintro Hx
  have e : cM.view.readAt (Elt F) (Rect.unit (s := S1024x1024) ![0, 0] S1024x1024.size inb).toLoadRect f = f := Memref.readAt_unit_zero (Elt F) cc0_scratch6 hz2 _ f
  rw [e]
  iapply Hk
  iexact Hx

theorem stw_c (c : Dev nD) {f w : S1024x1024.Idx → Elt F .bf16} {inb hl hx hm} {k : PUnit → Prog (TpuEff nD τ sig (Elt F) Λ₀ .tc) α} {Q : α → sProp 𝕄} :
    ((c : Thread nD τ).loc cc0_scratch6 ↦{fullShare} f) ⊢ iprop((((c : Thread nD τ).loc cc0_scratch6 ↦{fullShare} w) -∗ WP c (k ⟨⟩) Q)
      -∗ WP c (.op (.load cM (Rect.unit (s := S1024x1024) ![0, 0] S1024x1024.size inb).toLoadRect hl) fun _ => .op (.store cM (Rect.unit (s := S1024x1024) ![0, 0] S1024x1024.size inb) w Finset.univ hx hm) k) Q) := by
  iintro Hx Hk
  iapply (wp_load 𝒱₀ (c : Thread nD τ) none Set.univ (m := cM) (S := Finset.univ) (Finset.subset_univ _)) $$ Hx
  iintro Hx
  iapply (wp_store 𝒱₀ (c : Thread nD τ) none Set.univ (m := cM) (r := Rect.unit (s := S1024x1024) ![0, 0] S1024x1024.size inb) (Mk := Finset.univ) (S := Finset.univ) (Finset.subset_univ _)) $$ Hx
  iintro Hx
  have e : (cM.access (Rect.unit (s := S1024x1024) ![0, 0] S1024x1024.size inb) : View sig .tc _ _ _).write (Elt F) f w Finset.univ = w := Memref.write_access_unit_zero_univ (Elt F) cc0_scratch6 hz2 _ f w
  rw [e]
  iapply Hk
  iexact Hx

theorem ldw_w (c : Dev nD) {q : PosShare TreeShare} {f : S1024x1024.Idx → Elt F .bf16} {inb hl} {k : (S1024x1024.Idx → Elt F .bf16) → Prog (TpuEff nD τ sig (Elt F) Λ₀ .tc) α} {Q : α → sProp 𝕄} :
    ((c : Thread nD τ).loc cc0_scratch7 ↦{q} f) ⊢ iprop((((c : Thread nD τ).loc cc0_scratch7 ↦{q} f) -∗ WP c (k f) Q) -∗ WP c (.op (.load wM (Rect.unit (s := S1024x1024) ![0, 0] S1024x1024.size inb).toLoadRect hl) k) Q) := by
  iintro Hx Hk
  iapply (wp_load 𝒱₀ (c : Thread nD τ) none Set.univ (m := wM) (S := Finset.univ) (Finset.subset_univ _)) $$ Hx
  iintro Hx
  have e : wM.view.readAt (Elt F) (Rect.unit (s := S1024x1024) ![0, 0] S1024x1024.size inb).toLoadRect f = f := Memref.readAt_unit_zero (Elt F) cc0_scratch7 hz2 _ f
  rw [e]
  iapply Hk
  iexact Hx

theorem stw_w (c : Dev nD) {f w : S1024x1024.Idx → Elt F .bf16} {inb hl hx hm} {k : PUnit → Prog (TpuEff nD τ sig (Elt F) Λ₀ .tc) α} {Q : α → sProp 𝕄} :
    ((c : Thread nD τ).loc cc0_scratch7 ↦{fullShare} f) ⊢ iprop((((c : Thread nD τ).loc cc0_scratch7 ↦{fullShare} w) -∗ WP c (k ⟨⟩) Q)
      -∗ WP c (.op (.load wM (Rect.unit (s := S1024x1024) ![0, 0] S1024x1024.size inb).toLoadRect hl) fun _ => .op (.store wM (Rect.unit (s := S1024x1024) ![0, 0] S1024x1024.size inb) w Finset.univ hx hm) k) Q) := by
  iintro Hx Hk
  iapply (wp_load 𝒱₀ (c : Thread nD τ) none Set.univ (m := wM) (S := Finset.univ) (Finset.subset_univ _)) $$ Hx
  iintro Hx
  iapply (wp_store 𝒱₀ (c : Thread nD τ) none Set.univ (m := wM) (r := Rect.unit (s := S1024x1024) ![0, 0] S1024x1024.size inb) (Mk := Finset.univ) (S := Finset.univ) (Finset.subset_univ _)) $$ Hx
  iintro Hx
  have e : (wM.access (Rect.unit (s := S1024x1024) ![0, 0] S1024x1024.size inb) : View sig .tc _ _ _).write (Elt F) f w Finset.univ = w := Memref.write_access_unit_zero_univ (Elt F) cc0_scratch7 hz2 _ f w
  rw [e]
  iapply Hk
  iexact Hx

theorem ldw_o (c : Dev nD) {q : PosShare TreeShare} {f : S1024x1024.Idx → Elt F .bf16} {inb hl} {k : (S1024x1024.Idx → Elt F .bf16) → Prog (TpuEff nD τ sig (Elt F) Λ₀ .tc) α} {Q : α → sProp 𝕄} :
    ((c : Thread nD τ).loc cc0_scratch8 ↦{q} f) ⊢ iprop((((c : Thread nD τ).loc cc0_scratch8 ↦{q} f) -∗ WP c (k f) Q) -∗ WP c (.op (.load oM (Rect.unit (s := S1024x1024) ![0, 0] S1024x1024.size inb).toLoadRect hl) k) Q) := by
  iintro Hx Hk
  iapply (wp_load 𝒱₀ (c : Thread nD τ) none Set.univ (m := oM) (S := Finset.univ) (Finset.subset_univ _)) $$ Hx
  iintro Hx
  have e : oM.view.readAt (Elt F) (Rect.unit (s := S1024x1024) ![0, 0] S1024x1024.size inb).toLoadRect f = f := Memref.readAt_unit_zero (Elt F) cc0_scratch8 hz2 _ f
  rw [e]
  iapply Hk
  iexact Hx

theorem stw_o (c : Dev nD) {f w : S1024x1024.Idx → Elt F .bf16} {inb hl hx hm} {k : PUnit → Prog (TpuEff nD τ sig (Elt F) Λ₀ .tc) α} {Q : α → sProp 𝕄} :
    ((c : Thread nD τ).loc cc0_scratch8 ↦{fullShare} f) ⊢ iprop((((c : Thread nD τ).loc cc0_scratch8 ↦{fullShare} w) -∗ WP c (k ⟨⟩) Q)
      -∗ WP c (.op (.load oM (Rect.unit (s := S1024x1024) ![0, 0] S1024x1024.size inb).toLoadRect hl) fun _ => .op (.store oM (Rect.unit (s := S1024x1024) ![0, 0] S1024x1024.size inb) w Finset.univ hx hm) k) Q) := by
  iintro Hx Hk
  iapply (wp_load 𝒱₀ (c : Thread nD τ) none Set.univ (m := oM) (S := Finset.univ) (Finset.subset_univ _)) $$ Hx
  iintro Hx
  iapply (wp_store 𝒱₀ (c : Thread nD τ) none Set.univ (m := oM) (r := Rect.unit (s := S1024x1024) ![0, 0] S1024x1024.size inb) (Mk := Finset.univ) (S := Finset.univ) (Finset.subset_univ _)) $$ Hx
  iintro Hx
  have e : (oM.access (Rect.unit (s := S1024x1024) ![0, 0] S1024x1024.size inb) : View sig .tc _ _ _).write (Elt F) f w Finset.univ = w := Memref.write_access_unit_zero_univ (Elt F) cc0_scratch8 hz2 _ f w
  rw [e]
  iapply Hk
  iexact Hx

theorem ldw_b (c : Dev nD) {q : PosShare TreeShare} {f : S1024x1024.Idx → Elt F .bf16} {inb hl} {k : (S1024x1024.Idx → Elt F .bf16) → Prog (TpuEff nD τ sig (Elt F) Λ₀ .tc) α} {Q : α → sProp 𝕄} :
    ((c : Thread nD τ).loc cc0_scratch9 ↦{q} f) ⊢ iprop((((c : Thread nD τ).loc cc0_scratch9 ↦{q} f) -∗ WP c (k f) Q) -∗ WP c (.op (.load bM (Rect.unit (s := S1024x1024) ![0, 0] S1024x1024.size inb).toLoadRect hl) k) Q) := by
  iintro Hx Hk
  iapply (wp_load 𝒱₀ (c : Thread nD τ) none Set.univ (m := bM) (S := Finset.univ) (Finset.subset_univ _)) $$ Hx
  iintro Hx
  have e : bM.view.readAt (Elt F) (Rect.unit (s := S1024x1024) ![0, 0] S1024x1024.size inb).toLoadRect f = f := Memref.readAt_unit_zero (Elt F) cc0_scratch9 hz2 _ f
  rw [e]
  iapply Hk
  iexact Hx

theorem stw_b (c : Dev nD) {f w : S1024x1024.Idx → Elt F .bf16} {inb hl hx hm} {k : PUnit → Prog (TpuEff nD τ sig (Elt F) Λ₀ .tc) α} {Q : α → sProp 𝕄} :
    ((c : Thread nD τ).loc cc0_scratch9 ↦{fullShare} f) ⊢ iprop((((c : Thread nD τ).loc cc0_scratch9 ↦{fullShare} w) -∗ WP c (k ⟨⟩) Q)
      -∗ WP c (.op (.load bM (Rect.unit (s := S1024x1024) ![0, 0] S1024x1024.size inb).toLoadRect hl) fun _ => .op (.store bM (Rect.unit (s := S1024x1024) ![0, 0] S1024x1024.size inb) w Finset.univ hx hm) k) Q) := by
  iintro Hx Hk
  iapply (wp_load 𝒱₀ (c : Thread nD τ) none Set.univ (m := bM) (S := Finset.univ) (Finset.subset_univ _)) $$ Hx
  iintro Hx
  iapply (wp_store 𝒱₀ (c : Thread nD τ) none Set.univ (m := bM) (r := Rect.unit (s := S1024x1024) ![0, 0] S1024x1024.size inb) (Mk := Finset.univ) (S := Finset.univ) (Finset.subset_univ _)) $$ Hx
  iintro Hx
  have e : (bM.access (Rect.unit (s := S1024x1024) ![0, 0] S1024x1024.size inb) : View sig .tc _ _ _).write (Elt F) f w Finset.univ = w := Memref.write_access_unit_zero_univ (Elt F) cc0_scratch9 hz2 _ f w
  rw [e]
  iapply Hk
  iexact Hx

theorem ldw_g (c : Dev nD) {f : S1x1024x1024.Idx → Elt F .f32} {inb hl} {k : (S1x1024x1024.Idx → Elt F .f32) → Prog (TpuEff nD τ sig (Elt F) Λ₀ .tc) α} {Q : α → sProp 𝕄} :
    ((c : Thread nD τ).loc cc0_stg0_0 ↦{fullShare} f) ⊢ iprop((((c : Thread nD τ).loc cc0_stg0_0 ↦{fullShare} f) -∗ WP c (k f) Q) -∗ WP c (.op (.load gM (Rect.unit (s := S1x1024x1024) ![0, 0, 0] S1x1024x1024.size inb).toLoadRect hl) k) Q) := by
  iintro Hx Hk
  iapply (wp_load 𝒱₀ (c : Thread nD τ) none Set.univ (m := gM) (S := Finset.univ) (Finset.subset_univ _)) $$ Hx
  iintro Hx
  have e : gM.view.readAt (Elt F) (Rect.unit (s := S1x1024x1024) ![0, 0, 0] S1x1024x1024.size inb).toLoadRect f = f := Memref.readAt_unit_zero (Elt F) cc0_stg0_0 hz3 _ f
  rw [e]
  iapply Hk
  iexact Hx

theorem stw_g (c : Dev nD) {f w : S1x1024x1024.Idx → Elt F .f32} {inb hl hx hm} {k : PUnit → Prog (TpuEff nD τ sig (Elt F) Λ₀ .tc) α} {Q : α → sProp 𝕄} :
    ((c : Thread nD τ).loc cc0_stg0_0 ↦{fullShare} f) ⊢ iprop((((c : Thread nD τ).loc cc0_stg0_0 ↦{fullShare} w) -∗ WP c (k ⟨⟩) Q)
      -∗ WP c (.op (.load gM (Rect.unit (s := S1x1024x1024) ![0, 0, 0] S1x1024x1024.size inb).toLoadRect hl) fun _ => .op (.store gM (Rect.unit (s := S1x1024x1024) ![0, 0, 0] S1x1024x1024.size inb) w Finset.univ hx hm) k) Q) := by
  iintro Hx Hk
  iapply (wp_load 𝒱₀ (c : Thread nD τ) none Set.univ (m := gM) (S := Finset.univ) (Finset.subset_univ _)) $$ Hx
  iintro Hx
  iapply (wp_store 𝒱₀ (c : Thread nD τ) none Set.univ (m := gM) (r := Rect.unit (s := S1x1024x1024) ![0, 0, 0] S1x1024x1024.size inb) (Mk := Finset.univ) (S := Finset.univ) (Finset.subset_univ _)) $$ Hx
  iintro Hx
  have e : (gM.access (Rect.unit (s := S1x1024x1024) ![0, 0, 0] S1x1024x1024.size inb) : View sig .tc _ _ _).write (Elt F) f w Finset.univ = w := Memref.write_access_unit_zero_univ (Elt F) cc0_stg0_0 hz3 _ f w
  rw [e]
  iapply Hk
  iexact Hx

end Slots

/-! ## The semaphores the body names -/

theorem sem_val {n base N : ℕ} {h : base + (⟨1, ![N]⟩ : Shape).numel ≤ n} {off : Fin 1 → ℕ} {j : ℕ} (ho : off = ![j]) {inb} :
    (((SemArray.consecutive base (⟨1, ![N]⟩ : Shape) h).slice (Rect.unit (s := (⟨1, ![N]⟩ : Shape)) off S1.size inb)).squeeze S_ squeezes_S1_S_).sem.val = base + j := by
  subst ho
  refine congrArg (base + ·) ((Shape.rowMajor_val_one _).trans ?_)
  rw [Rect.emb_apply]
  have h0 : (Shape.reshapeEquiv squeezes_S1_S_.numel_eq (fun i : Fin 0 => i.elim0) (0 : Fin 1)).val = 0 := Nat.lt_one_iff.mp (Fin.isLt _)
  exact (congrArg (fun v => j + 1 * v) h0).trans (by simp)

theorem sem_xs {off : Fin 1 → ℕ} {j : Fin 4} (h : off = ![j.val]) {inb} : ((cc0_scratch10.slice (Rect.unit (s := S4) off S1.size inb)).squeeze S_ squeezes_S1_S_).sem = xsq j :=
  Fin.ext ((sem_val (n := 22) (base := 1) (N := 4) (h := by decide) h).trans (Nat.add_comm _ _))
theorem sem_xr {off : Fin 1 → ℕ} {j : Fin 4} (h : off = ![j.val]) {inb} : ((cc0_scratch11.slice (Rect.unit (s := S4) off S1.size inb)).squeeze S_ squeezes_S1_S_).sem = xrq j :=
  Fin.ext ((sem_val (n := 22) (base := 5) (N := 4) (h := by decide) h).trans (Nat.add_comm _ _))
theorem sem_ps {off : Fin 1 → ℕ} {j : Fin 4} (h : off = ![j.val]) {inb} : ((cc0_scratch12.slice (Rect.unit (s := S4) off S1.size inb)).squeeze S_ squeezes_S1_S_).sem = psq j :=
  Fin.ext ((sem_val (n := 22) (base := 9) (N := 4) (h := by decide) h).trans (Nat.add_comm _ _))
theorem sem_pr {off : Fin 1 → ℕ} {j : Fin 4} (h : off = ![j.val]) {inb} : ((cc0_scratch13.slice (Rect.unit (s := S4) off S1.size inb)).squeeze S_ squeezes_S1_S_).sem = prq j :=
  Fin.ext ((sem_val (n := 22) (base := 13) (N := 4) (h := by decide) h).trans (Nat.add_comm _ _))
theorem sem_dk {off : Fin 1 → ℕ} {j : Fin 2} (h : off = ![j.val]) {inb} : ((cc0_scratch15.slice (Rect.unit (s := S2) off S1.size inb)).squeeze S_ squeezes_S1_S_).sem = dkq j :=
  Fin.ext ((sem_val (n := 22) (base := 18) (N := 2) (h := by decide) h).trans (Nat.add_comm _ _))
theorem sem_dv {off : Fin 1 → ℕ} {j : Fin 2} (h : off = ![j.val]) {inb} : ((cc0_scratch16.slice (Rect.unit (s := S2) off S1.size inb)).squeeze S_ squeezes_S1_S_).sem = dvq j :=
  Fin.ext ((sem_val (n := 22) (base := 20) (N := 2) (h := by decide) h).trans (Nat.add_comm _ _))

theorem credit_x (off : Fin 3 → ℕ) (inb : ∀ a, off a + S1x1024x1024.size a ≤ S4x1024x1024.size a) :
    ((xM.slice (Rect.unit (s := S4x1024x1024) off S1x1024x1024.size inb) (fun _ => rfl)).squeeze S1024x1024 squeezes_S1x1024x1024_S1024x1024).view.dmaCredit = N := rfl

/-- `wp_wait_one` where the place waited at is a slot. -/
theorem wp_wait_x (K : Dev nD × Fin 17 → ℕ) (c : Dev nD) (q : DmaSem sig) {sem : DmaSem sig} (hsem : sem = q) (h0 : q.val ≠ 0) (h17 : q.val < 17)
    (hd : dutiesD c q = {0}) {n : ℕ} (hlv : lvS (.dma q : SemLoc sig) < n) {O : CellTallies nD τ sig Unit} (hO : Above n O)
    {sp' : Space} {s' : Shape} {e' : EltTy} {srcw : Memref sig .tc sp' s' e'} {off : Fin 3 → ℕ} {inb : ∀ a, off a + S1x1024x1024.size a ≤ S4x1024x1024.size a} {hsrc hdst}
    {α : Type} {Q : α → sProp 𝕄} {kk : PUnit → Prog (TpuEff nD τ sig (Elt F) Λ₀ .tc) α} :
    iprop(recs m K ∗ cred (tallyAt (dcell c q) () N) ∗ Ow c O ∗ atPos ER (dcell c q) 0 ∅ 0)
      ⊢ iprop(((Ow c O ∗ semVal (dcell c q) 0 ∗ payD m c q) -∗ WP c (kk ⟨⟩) Q)
        -∗ WP c (.op (.waitDma2 sem srcw ((xM.slice (Rect.unit (s := S4x1024x1024) off S1x1024x1024.size inb) (fun _ => rfl)).squeeze S1024x1024 squeezes_S1x1024x1024_S1024x1024) hsrc hdst) kk) Q) :=
  wp_wait_one m K c q hsem h0 h17 hd hlv hO (srcw := srcw) (dstw := (xM.slice (Rect.unit (s := S4x1024x1024) off S1x1024x1024.size inb) (fun _ => rfl)).squeeze S1024x1024 squeezes_S1x1024x1024_S1024x1024) (credit_x off inb)

theorem credit_p (off : Fin 3 → ℕ) (inb : ∀ a, off a + S1x1024x1024.size a ≤ S4x1024x1024.size a) :
    ((pM.slice (Rect.unit (s := S4x1024x1024) off S1x1024x1024.size inb) (fun _ => rfl)).squeeze S1024x1024 squeezes_S1x1024x1024_S1024x1024).view.dmaCredit = N := rfl

/-- `wp_wait_one` where the place waited at is a slot. -/
theorem wp_wait_p (K : Dev nD × Fin 17 → ℕ) (c : Dev nD) (q : DmaSem sig) {sem : DmaSem sig} (hsem : sem = q) (h0 : q.val ≠ 0) (h17 : q.val < 17)
    (hd : dutiesD c q = {0}) {n : ℕ} (hlv : lvS (.dma q : SemLoc sig) < n) {O : CellTallies nD τ sig Unit} (hO : Above n O)
    {sp' : Space} {s' : Shape} {e' : EltTy} {srcw : Memref sig .tc sp' s' e'} {off : Fin 3 → ℕ} {inb : ∀ a, off a + S1x1024x1024.size a ≤ S4x1024x1024.size a} {hsrc hdst}
    {α : Type} {Q : α → sProp 𝕄} {kk : PUnit → Prog (TpuEff nD τ sig (Elt F) Λ₀ .tc) α} :
    iprop(recs m K ∗ cred (tallyAt (dcell c q) () N) ∗ Ow c O ∗ atPos ER (dcell c q) 0 ∅ 0)
      ⊢ iprop(((Ow c O ∗ semVal (dcell c q) 0 ∗ payD m c q) -∗ WP c (kk ⟨⟩) Q)
        -∗ WP c (.op (.waitDma2 sem srcw ((pM.slice (Rect.unit (s := S4x1024x1024) off S1x1024x1024.size inb) (fun _ => rfl)).squeeze S1024x1024 squeezes_S1x1024x1024_S1024x1024) hsrc hdst) kk) Q) :=
  wp_wait_one m K c q hsem h0 h17 hd hlv hO (srcw := srcw) (dstw := (pM.slice (Rect.unit (s := S4x1024x1024) off S1x1024x1024.size inb) (fun _ => rfl)).squeeze S1024x1024 squeezes_S1x1024x1024_S1024x1024) (credit_p off inb)

theorem credit_i (off : Fin 3 → ℕ) (inb : ∀ a, off a + S1x1024x1024.size a ≤ S3x1024x1024.size a) :
    ((iM.slice (Rect.unit (s := S3x1024x1024) off S1x1024x1024.size inb) (fun _ => rfl)).squeeze S1024x1024 squeezes_S1x1024x1024_S1024x1024).view.dmaCredit = N := rfl

/-- `wp_wait_one` where the place waited at is a slot. -/
theorem wp_wait_i (K : Dev nD × Fin 17 → ℕ) (c : Dev nD) (q : DmaSem sig) {sem : DmaSem sig} (hsem : sem = q) (h0 : q.val ≠ 0) (h17 : q.val < 17)
    (hd : dutiesD c q = {0}) {n : ℕ} (hlv : lvS (.dma q : SemLoc sig) < n) {O : CellTallies nD τ sig Unit} (hO : Above n O)
    {sp' : Space} {s' : Shape} {e' : EltTy} {srcw : Memref sig .tc sp' s' e'} {off : Fin 3 → ℕ} {inb : ∀ a, off a + S1x1024x1024.size a ≤ S3x1024x1024.size a} {hsrc hdst}
    {α : Type} {Q : α → sProp 𝕄} {kk : PUnit → Prog (TpuEff nD τ sig (Elt F) Λ₀ .tc) α} :
    iprop(recs m K ∗ cred (tallyAt (dcell c q) () N) ∗ Ow c O ∗ atPos ER (dcell c q) 0 ∅ 0)
      ⊢ iprop(((Ow c O ∗ semVal (dcell c q) 0 ∗ payD m c q) -∗ WP c (kk ⟨⟩) Q)
        -∗ WP c (.op (.waitDma2 sem srcw ((iM.slice (Rect.unit (s := S3x1024x1024) off S1x1024x1024.size inb) (fun _ => rfl)).squeeze S1024x1024 squeezes_S1x1024x1024_S1024x1024) hsrc hdst) kk) Q) :=
  wp_wait_one m K c q hsem h0 h17 hd hlv hO (srcw := srcw) (dstw := (iM.slice (Rect.unit (s := S3x1024x1024) off S1x1024x1024.size inb) (fun _ => rfl)).squeeze S1024x1024 squeezes_S1x1024x1024_S1024x1024) (credit_i off inb)

theorem sem_ds : cc0_scratch14.sem = dsq := rfl

end Cert.AttnProof

end
-- ==== Proof.State.lean ====
/-
What a device holds between the pieces of the body, and the steps from one to the next.
-/
module

public import proofs.«01_k».proof.Proof.Mem

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Slots -/

section Slots

variable {ℓ : Loc nD τ sig} {T : Type} [Fintype T] [DecidableEq T] (S : T → Finset (Idx ℓ))

theorem slots_split (hd : ∀ t t', t ≠ t' → Disjoint (S t) (S t')) (hc : ∀ i, ∃ t, i ∈ S t) (q : PosShare TreeShare) (f : Buf (Elt F) ℓ) :
    (ℓ ↦{q} f : sProp 𝕄) = bigSep Finset.univ fun t => ℓ ↦[S t]{q} f := by
  have h : Finset.univ.biUnion S = Finset.univ := by
    ext i; simp only [Finset.mem_biUnion, Finset.mem_univ, true_and, iff_true]; exact hc i
  rw [← pointsTo_biUnion Finset.univ S (fun t _ t' _ e => hd t t' e), h]

theorem slots_join (hd : ∀ t t', t ≠ t' → Disjoint (S t) (S t')) (hc : ∀ i, ∃ t, i ∈ S t) (q : PosShare TreeShare) (f₀ : Buf (Elt F) ℓ) :
    (bigSep Finset.univ fun t => iprop(∃ f, ℓ ↦[S t]{q} f)) ⊢ (iprop(∃ f, ℓ ↦{q} f) : sProp 𝕄) := by
  have h : Finset.univ.biUnion S = Finset.univ := by
    ext i; simp only [Finset.mem_biUnion, Finset.mem_univ, true_and, iff_true]; exact hc i
  haveI : Inhabited (Buf (Elt F) ℓ) := ⟨f₀⟩
  iintro H
  ihave H := (BI.bigSep_exists_pi Finset.univ (fun t (f : Buf (Elt F) ℓ) => (ℓ ↦[S t]{q} f : sProp 𝕄))) $$ H
  icases H with ⟨%fs, H⟩
  ihave H := (pointsTo_biUnion_join Finset.univ S fs f₀ (fun t _ t' _ e => hd t t' e)) $$ H
  icases H with ⟨%g, -, H⟩
  rw [h]
  iexists g; iexact H

end Slots

theorem xSet_disj (t t' : Fin 4) (h : t ≠ t') : Disjoint (xSet t) (xSet t') :=
  Finset.disjoint_left.mpr fun i hi hj => h (Fin.ext ((mem_xSet.mp hi).symm.trans (mem_xSet.mp hj)))
theorem pSet_disj (t t' : Fin 3) (h : t ≠ t') : Disjoint (pSet t) (pSet t') :=
  Finset.disjoint_left.mpr fun i hi hj => h (Fin.ext ((mem_pSet.mp hi).symm.trans (mem_pSet.mp hj)))
theorem kSlot_disj (t t' : Fin 2) (h : t ≠ t') : Disjoint (kSlot t) (kSlot t') :=
  Finset.disjoint_left.mpr fun i hi hj => h (Fin.ext ((mem_kSlot.mp hi).symm.trans (mem_kSlot.mp hj)))
theorem xSet_cover (i : S4x1024x1024.Idx) : ∃ t, i ∈ xSet t := ⟨i 0, mem_xSet.mpr rfl⟩
theorem pSet_cover (i : S3x1024x1024.Idx) : ∃ t, i ∈ pSet t := ⟨i 0, mem_pSet.mpr rfl⟩
theorem kSlot_cover (i : S2x1024x8x128.Idx) : ∃ t, i ∈ kSlot t := ⟨i 0, mem_kSlot.mpr rfl⟩

/-- Four devices, counted from `c`. -/
theorem rot4 (c : Dev nD) (Φ : Fin 4 → sProp 𝕄) : bigSep Finset.univ Φ = iprop(Φ c ∗ Φ (nx c 1) ∗ Φ (nx c 2) ∗ Φ (nx c 3)) := by
  rw [bigSep_eq_bigSepL_of_eq [c, nx c 1, nx c 2, nx c 3] (by revert c; decide) (by revert c; decide)]
  rfl
theorem list3 (Φ : Fin 3 → sProp 𝕄) : bigSep Finset.univ Φ = iprop(Φ 0 ∗ Φ 1 ∗ Φ 2) := by
  rw [bigSep_eq_bigSepL_of_eq [0, 1, 2] (by decide) (by decide)]
  rfl
theorem list2 (Φ : Fin 2 → sProp 𝕄) : bigSep Finset.univ Φ = iprop(Φ 0 ∗ Φ 1) := by
  rw [bigSep_eq_bigSepL_of_eq [0, 1] (by decide) (by decide)]
  rfl

/-! ## The state between the pieces -/

abbrev at0 (c : Dev nD) (q : DmaSem sig) : sProp 𝕄 := atPos ER (dcell c q) 0 ∅ 0
abbrev cr (c : Dev nD) (q : DmaSem sig) : sProp 𝕄 := cred (tallyAt (dcell c q) () N)
abbrev z0 (c : Dev nD) (q : DmaSem sig) : sProp 𝕄 := semVal (dcell c q) 0
abbrev tok (c : Dev nD) (q : DmaSem sig) : sProp 𝕄 := dutyTok ER (dcell c q) 0 0

abbrev all3 (Φ : Fin 3 → sProp 𝕄) : sProp 𝕄 := iprop(Φ 0 ∗ Φ 1 ∗ Φ 2)

/-- The stage's slot of the batch `n` places after the device's own. -/
def sl (n : ℕ) : Fin 2 := ⟨n % 2, Nat.mod_lt _ (by decide)⟩

/-- The activations lent out and the places waited at once, at the end. -/
def Lent (c : Dev nD) : sProp 𝕄 :=
  iprop(all3 (fun k => iprop(at0 (F := F) c (xsq (nx c (k.val + 1))) ∗ cr (F := F) c (xsq (nx c (k.val + 1))))) ∗ all3 (fun r => iprop(at0 (F := F) c (prq r.castSucc) ∗ cr (F := F) c (prq r.castSucc)))
    ∗ (at0 (F := F) c (xsq c) ∗ at0 (F := F) c (xrq c) ∗ at0 (F := F) c (psq c) ∗ at0 (F := F) c (prq 3)))

/-- What stays the same from the opening to the end. -/
def Keep (c : Dev nD) : sProp 𝕄 :=
  iprop(((c : Thread nD τ).loc cc0_scratch7 ↦{fullShare} WQB m c) ∗ ((c : Thread nD τ).loc cc0_scratch8 ↦{fullShare} WOB m c) ∗ ((c : Thread nD τ).loc cc0_scratch9 ↦{fullShare} (BIAS : S1024x1024.Idx → Elt F .bf16))
    ∗ ((c : Thread nD τ).loc main_arg0 ↦{fullShare} xin m c) ∗ ((c : Thread nD τ).loc main_arg1 ↦{fullShare} wqin m c) ∗ ((c : Thread nD τ).loc main_arg4 ↦{fullShare} woin m c)
    ∗ z0 (F := F) c dsq ∗ semVal (bcell c) 0 ∗ xAt c c (qsh 3) (XALL m) ∗ Lent (F := F) c)

def xrDone (c : Dev nD) (k : Fin 3) : sProp 𝕄 := iprop(xAt c (nx c (k.val + 1)) fullShare (XALL m) ∗ z0 (F := F) c (xrq (nx c (k.val + 1))))
def xrWait (c : Dev nD) (k : Fin 3) : sProp 𝕄 := iprop(at0 (F := F) c (xrq (nx c (k.val + 1))) ∗ cr (F := F) c (xrq (nx c (k.val + 1))))
/-- The first `n` of the incoming activations have arrived. -/
def XR (c : Dev nD) (n : ℕ) : sProp 𝕄 := all3 fun k => if k.val < n then xrDone m c k else xrWait (F := F) c k

def pgDone (c : Dev nD) (k : Fin 3) : sProp 𝕄 := iprop(at0 (F := F) c (psq (nx c (k.val + 1))) ∗ cr (F := F) c (psq (nx c (k.val + 1))))
def pgWait (c : Dev nD) (k : Fin 3) : sProp 𝕄 :=
  iprop(at0 (F := F) c (psq (nx c (k.val + 1))) ∗ (∃ f, pAt (F := F) c (nx c (k.val + 1)) f) ∗ (∃ f, iAt (F := F) (nx c (k.val + 1)) k.rev f)
    ∗ tok (F := F) c (psq (nx c (k.val + 1))) ∗ tok (F := F) (nx c (k.val + 1)) (prq k.rev.castSucc))
/-- The first `n` of the batches' parts are computed, and sent where not the device's own. -/
def PG (c : Dev nD) (n : ℕ) : sProp 𝕄 :=
  iprop((if n = 0 then iprop(∃ f, pAt (F := F) c c f) else pAt c c (PALL m c)) ∗ all3 fun k => if k.val + 1 < n then pgDone (F := F) c k else pgWait (F := F) c k)

/-- The keys in main memory, with batch `n`'s on their way while there is one. -/
def restK (c : Dev nD) (n : ℕ) : sProp 𝕄 :=
  if n < 4 then iprop(((c : Thread nD τ).loc main_arg2 ↦[Finset.univ \ kSet c (nx c n)]{fullShare} kin m c) ∗ flyK m c (sl n) (nx c n))
  else iprop(((c : Thread nD τ).loc main_arg2 ↦{fullShare} kin m c) ∗ idleK (F := F) c (sl n))
/-- The values in main memory, with batch `n`'s on their way while there is one. -/
def restV (c : Dev nD) (n : ℕ) : sProp 𝕄 :=
  if n < 4 then iprop(((c : Thread nD τ).loc main_arg3 ↦[Finset.univ \ kSet c (nx c n)]{fullShare} vin m c) ∗ flyV m c (sl n) (nx c n))
  else iprop(((c : Thread nD τ).loc main_arg3 ↦{fullShare} vin m c) ∗ idleV (F := F) c (sl n))
/-- Before a batch. -/
def Edge (c : Dev nD) (b : ℕ) : sProp 𝕄 :=
  iprop(Keep m c ∗ XR m c (b - 1) ∗ PG m c b ∗ (restK m c b ∗ idleK (F := F) c (sl (b + 1))) ∗ (restV m c b ∗ idleV (F := F) c (sl (b + 1)))
    ∗ (∃ f, (c : Thread nD τ).loc cc0_scratch5 ↦{fullShare} (f : S1024x1024.Idx → Elt F .bf16)) ∗ (∃ f, (c : Thread nD τ).loc cc0_scratch6 ↦{fullShare} (f : S1024x1024.Idx → Elt F .bf16)))

/-- Within a batch, `h` heads done. -/
def Mid (c : Dev nD) (b h : ℕ) : sProp 𝕄 :=
  iprop(Keep m c ∗ XR m c b ∗ PG m c b
    ∗ (restK m c (b + 1) ∗ ((c : Thread nD τ).loc cc0_scratch3 ↦[kSlot (sl b)]{fullShare} KST m c (nx c b)) ∗ z0 (F := F) c (dkq (sl b)))
    ∗ (restV m c (b + 1) ∗ ((c : Thread nD τ).loc cc0_scratch4 ↦[kSlot (sl b)]{fullShare} VST m c (nx c b)) ∗ z0 (F := F) c (dvq (sl b)))
    ∗ ((c : Thread nD τ).loc cc0_scratch5 ↦{fullShare} QB m c (nx c b))
    ∗ ∃ f, ⌜Upto m c (nx c b) (128 * h) f⌝ ∗ ((c : Thread nD τ).loc cc0_scratch6 ↦{fullShare} f))

/-- The operands in main memory. -/
def Args (c : Dev nD) : sProp 𝕄 :=
  iprop(((c : Thread nD τ).loc main_arg0 ↦{fullShare} xin m c) ∗ ((c : Thread nD τ).loc main_arg1 ↦{fullShare} wqin m c) ∗ ((c : Thread nD τ).loc main_arg2 ↦{fullShare} kin m c)
    ∗ ((c : Thread nD τ).loc main_arg3 ↦{fullShare} vin m c) ∗ ((c : Thread nD τ).loc main_arg4 ↦{fullShare} woin m c))

/-- The scratch buffers, holding anything. -/
def Scr (c : Dev nD) : sProp 𝕄 :=
  iprop((∃ f, (c : Thread nD τ).loc cc0_scratch0 ↦{fullShare} (f : S4x1024x1024.Idx → Elt F .bf16)) ∗ (∃ f, (c : Thread nD τ).loc cc0_scratch1 ↦{fullShare} (f : S4x1024x1024.Idx → Elt F .bf16)) ∗ (∃ f, (c : Thread nD τ).loc cc0_scratch2 ↦{fullShare} (f : S3x1024x1024.Idx → Elt F .bf16))
    ∗ (∃ f, (c : Thread nD τ).loc cc0_scratch3 ↦{fullShare} (f : S2x1024x8x128.Idx → Elt F .f32)) ∗ (∃ f, (c : Thread nD τ).loc cc0_scratch4 ↦{fullShare} (f : S2x1024x8x128.Idx → Elt F .f32))
    ∗ (∃ f, (c : Thread nD τ).loc cc0_scratch5 ↦{fullShare} (f : S1024x1024.Idx → Elt F .bf16)) ∗ (∃ f, (c : Thread nD τ).loc cc0_scratch6 ↦{fullShare} (f : S1024x1024.Idx → Elt F .bf16)) ∗ (∃ f, (c : Thread nD τ).loc cc0_scratch7 ↦{fullShare} (f : S1024x1024.Idx → Elt F .bf16))
    ∗ (∃ f, (c : Thread nD τ).loc cc0_scratch8 ↦{fullShare} (f : S1024x1024.Idx → Elt F .bf16)) ∗ (∃ f, (c : Thread nD τ).loc cc0_scratch9 ↦{fullShare} (f : S1024x1024.Idx → Elt F .bf16)))

/-- The semaphores of the local copies. -/
def Loc0 (c : Dev nD) : sProp 𝕄 := iprop(z0 (F := F) c dsq ∗ (z0 (F := F) c (dkq 0) ∗ z0 (F := F) c (dkq 1)) ∗ (z0 (F := F) c (dvq 0) ∗ z0 (F := F) c (dvq 1)))

/-- A device's part in the exchange with the device `k + 1` places after it. -/
def Deal (c : Dev nD) (k : Fin 3) : sProp 𝕄 :=
  iprop(dutyTok ER (bcell (nx c (k.val + 1))) 0 c
    ∗ (tok (F := F) (nx c (k.val + 1)) (xrq c) ∗ tok (F := F) (nx c (k.val + 1)) (prq k.rev.castSucc) ∗ tok (F := F) c (xsq (nx c (k.val + 1))) ∗ tok (F := F) c (psq (nx c (k.val + 1))))
    ∗ (at0 (F := F) c (xsq (nx c (k.val + 1))) ∗ at0 (F := F) c (xrq (nx c (k.val + 1))) ∗ at0 (F := F) c (psq (nx c (k.val + 1))) ∗ at0 (F := F) c (prq k.castSucc))
    ∗ cr (F := F) c (xrq (nx c (k.val + 1))) ∗ cr (F := F) c (prq k.castSucc))

/-- What a device holds of the protocol at the launch. -/
def Ghost (c : Dev nD) : sProp 𝕄 :=
  iprop(all3 (Deal (F := F) c) ∗ (atPos ER (bcell c) 0 ∅ 0 ∗ cred (tallyAt (bcell c) () 3))
    ∗ (at0 (F := F) c (xsq c) ∗ at0 (F := F) c (xrq c) ∗ at0 (F := F) c (psq c) ∗ at0 (F := F) c (prq 3)))

def Start (c : Dev nD) : sProp 𝕄 := iprop(Args m c ∗ Scr (F := F) c ∗ Loc0 (F := F) c ∗ Ghost (F := F) c)

def fam (c : Dev nD) (q : Fin 4 → DmaSem sig) : sProp 𝕄 := bigSep Finset.univ fun j : Fin 4 => z0 (F := F) c (q j)

/-- Every semaphore at zero. -/
def Quiet (c : Dev nD) : sProp 𝕄 :=
  iprop(semVal (bcell c) 0 ∗ (fam (F := F) c xsq ∗ fam (F := F) c xrq ∗ fam (F := F) c psq ∗ fam (F := F) c prq) ∗ Loc0 (F := F) c)

def Final (c : Dev nD) : sProp 𝕄 := iprop(Args m c ∗ Scr (F := F) c ∗ Quiet (F := F) c)

/-! ## Steps between the states -/

theorem XR_next (c : Dev nD) : ∀ k : Fin 3, XR m c k.val ⊢ iprop(xrWait (F := F) c k ∗ (xrDone m c k -∗ XR m c (k.val + 1)))
  | 0 => by
    show iprop(xrWait (F := F) c 0 ∗ xrWait (F := F) c 1 ∗ xrWait (F := F) c 2) ⊢ iprop(xrWait (F := F) c 0 ∗ (xrDone m c 0 -∗ iprop(xrDone m c 0 ∗ xrWait (F := F) c 1 ∗ xrWait (F := F) c 2)))
    iintro ⟨H0, H1, H2⟩
    isplitl [H0]; · iexact H0
    iintro H
    isplitl [H]; · iexact H
    isplitl [H1]; · iexact H1
    iexact H2
  | 1 => by
    show iprop(xrDone m c 0 ∗ xrWait (F := F) c 1 ∗ xrWait (F := F) c 2) ⊢ iprop(xrWait (F := F) c 1 ∗ (xrDone m c 1 -∗ iprop(xrDone m c 0 ∗ xrDone m c 1 ∗ xrWait (F := F) c 2)))
    iintro ⟨H0, H1, H2⟩
    isplitl [H1]; · iexact H1
    iintro H
    isplitl [H0]; · iexact H0
    isplitl [H]; · iexact H
    iexact H2
  | 2 => by
    show iprop(xrDone m c 0 ∗ xrDone m c 1 ∗ xrWait (F := F) c 2) ⊢ iprop(xrWait (F := F) c 2 ∗ (xrDone m c 2 -∗ iprop(xrDone m c 0 ∗ xrDone m c 1 ∗ xrDone m c 2)))
    iintro ⟨H0, H1, H2⟩
    isplitl [H2]; · iexact H2
    iintro H
    isplitl [H0]; · iexact H0
    isplitl [H1]; · iexact H1
    iexact H

theorem XR_read (c : Dev nD) : ∀ k : Fin 3, XR m c (k.val + 1) ⊢ iprop(xrDone m c k ∗ (xrDone m c k -∗ XR m c (k.val + 1)))
  | 0 => by
    show iprop(xrDone m c 0 ∗ xrWait (F := F) c 1 ∗ xrWait (F := F) c 2) ⊢ iprop(xrDone m c 0 ∗ (xrDone m c 0 -∗ iprop(xrDone m c 0 ∗ xrWait (F := F) c 1 ∗ xrWait (F := F) c 2)))
    iintro ⟨H0, H1, H2⟩
    isplitl [H0]; · iexact H0
    iintro H
    isplitl [H]; · iexact H
    isplitl [H1]; · iexact H1
    iexact H2
  | 1 => by
    show iprop(xrDone m c 0 ∗ xrDone m c 1 ∗ xrWait (F := F) c 2) ⊢ iprop(xrDone m c 1 ∗ (xrDone m c 1 -∗ iprop(xrDone m c 0 ∗ xrDone m c 1 ∗ xrWait (F := F) c 2)))
    iintro ⟨H0, H1, H2⟩
    isplitl [H1]; · iexact H1
    iintro H
    isplitl [H0]; · iexact H0
    isplitl [H]; · iexact H
    iexact H2
  | 2 => by
    show iprop(xrDone m c 0 ∗ xrDone m c 1 ∗ xrDone m c 2) ⊢ iprop(xrDone m c 2 ∗ (xrDone m c 2 -∗ iprop(xrDone m c 0 ∗ xrDone m c 1 ∗ xrDone m c 2)))
    iintro ⟨H0, H1, H2⟩
    isplitl [H2]; · iexact H2
    iintro H
    isplitl [H0]; · iexact H0
    isplitl [H1]; · iexact H1
    iexact H

theorem PG_zero (c : Dev nD) : PG m c 0 ⊢ iprop((∃ f, pAt (F := F) c c f) ∗ (pAt c c (PALL m c) -∗ PG m c 1)) := by
  show iprop((∃ f, pAt (F := F) c c f) ∗ pgWait (F := F) c 0 ∗ pgWait (F := F) c 1 ∗ pgWait (F := F) c 2) ⊢ iprop((∃ f, pAt (F := F) c c f) ∗ (pAt c c (PALL m c) -∗ iprop(pAt c c (PALL m c) ∗ pgWait (F := F) c 0 ∗ pgWait (F := F) c 1 ∗ pgWait (F := F) c 2)))
  iintro ⟨H, H0, H1, H2⟩
  isplitl [H]; · iexact H
  iintro H
  isplitl [H]; · iexact H
  isplitl [H0]; · iexact H0
  isplitl [H1]; · iexact H1
  iexact H2

theorem PG_next (c : Dev nD) : ∀ k : Fin 3, PG m c (k.val + 1) ⊢ iprop(pgWait (F := F) c k ∗ (pgDone (F := F) c k -∗ PG m c (k.val + 2)))
  | 0 => by
    show iprop(pAt c c (PALL m c) ∗ pgWait (F := F) c 0 ∗ pgWait (F := F) c 1 ∗ pgWait (F := F) c 2) ⊢ iprop(pgWait (F := F) c 0 ∗ (pgDone (F := F) c 0 -∗ iprop(pAt c c (PALL m c) ∗ pgDone (F := F) c 0 ∗ pgWait (F := F) c 1 ∗ pgWait (F := F) c 2)))
    iintro ⟨Hp, H0, H1, H2⟩
    isplitl [H0]; · iexact H0
    iintro H
    isplitl [Hp]; · iexact Hp
    isplitl [H]; · iexact H
    isplitl [H1]; · iexact H1
    iexact H2
  | 1 => by
    show iprop(pAt c c (PALL m c) ∗ pgDone (F := F) c 0 ∗ pgWait (F := F) c 1 ∗ pgWait (F := F) c 2) ⊢ iprop(pgWait (F := F) c 1 ∗ (pgDone (F := F) c 1 -∗ iprop(pAt c c (PALL m c) ∗ pgDone (F := F) c 0 ∗ pgDone (F := F) c 1 ∗ pgWait (F := F) c 2)))
    iintro ⟨Hp, H0, H1, H2⟩
    isplitl [H1]; · iexact H1
    iintro H
    isplitl [Hp]; · iexact Hp
    isplitl [H0]; · iexact H0
    isplitl [H]; · iexact H
    iexact H2
  | 2 => by
    show iprop(pAt c c (PALL m c) ∗ pgDone (F := F) c 0 ∗ pgDone (F := F) c 1 ∗ pgWait (F := F) c 2) ⊢ iprop(pgWait (F := F) c 2 ∗ (pgDone (F := F) c 2 -∗ iprop(pAt c c (PALL m c) ∗ pgDone (F := F) c 0 ∗ pgDone (F := F) c 1 ∗ pgDone (F := F) c 2)))
    iintro ⟨Hp, H0, H1, H2⟩
    isplitl [H2]; · iexact H2
    iintro H
    isplitl [Hp]; · iexact Hp
    isplitl [H0]; · iexact H0
    isplitl [H1]; · iexact H1
    iexact H

theorem XR_zero (c : Dev nD) : XR m c 0 = iprop(xrWait (F := F) c 0 ∗ xrWait (F := F) c 1 ∗ xrWait (F := F) c 2) := rfl
theorem XR_all (c : Dev nD) : XR m c 3 = iprop(xrDone m c 0 ∗ xrDone m c 1 ∗ xrDone m c 2) := rfl
theorem PG_start (c : Dev nD) : PG m c 0 = iprop((∃ f, pAt (F := F) c c f) ∗ pgWait (F := F) c 0 ∗ pgWait (F := F) c 1 ∗ pgWait (F := F) c 2) := rfl
theorem PG_all (c : Dev nD) : PG m c 4 = iprop(pAt c c (PALL m c) ∗ pgDone (F := F) c 0 ∗ pgDone (F := F) c 1 ∗ pgDone (F := F) c 2) := rfl

theorem restK_take (c : Dev nD) (n : ℕ) (h : n < 4) : restK m c n ⊢ iprop(flyK m c (sl n) (nx c n)
    ∗ (((c : Thread nD τ).loc main_arg2 ↦[kSet c (nx c n)]{fullShare} kin m c) -∗ ((c : Thread nD τ).loc main_arg2 ↦{fullShare} kin m c))) := by
  unfold restK
  rw [if_pos h]
  iintro ⟨Hr, Hf⟩
  isplitl [Hf]; · iexact Hf
  iintro Hk
  iapply (pointsTo_split_subset (Finset.subset_univ _)).2
  isplitl [Hk] <;> iassumption

theorem restK_put (c : Dev nD) (n : ℕ) (h : n < 4) : ((c : Thread nD τ).loc main_arg2 ↦{fullShare} kin m c) ⊢ iprop(((c : Thread nD τ).loc main_arg2 ↦[kSet c (nx c n)]{fullShare} kin m c)
    ∗ (flyK m c (sl n) (nx c n) -∗ restK m c n)) := by
  unfold restK
  rw [if_pos h]
  iintro Hr
  ihave H := (pointsTo_split_subset (Finset.subset_univ (kSet c (nx c n)))).1 $$ Hr
  icases H with ⟨Hk, Hr⟩
  isplitl [Hk]; · iexact Hk
  iintro Hf
  isplitl [Hr] <;> iassumption

theorem restK_last (c : Dev nD) (n : ℕ) (h : ¬ n < 4) : restK m c n = iprop(((c : Thread nD τ).loc main_arg2 ↦{fullShare} kin m c) ∗ idleK (F := F) c (sl n)) := if_neg h

theorem restV_take (c : Dev nD) (n : ℕ) (h : n < 4) : restV m c n ⊢ iprop(flyV m c (sl n) (nx c n)
    ∗ (((c : Thread nD τ).loc main_arg3 ↦[kSet c (nx c n)]{fullShare} vin m c) -∗ ((c : Thread nD τ).loc main_arg3 ↦{fullShare} vin m c))) := by
  unfold restV
  rw [if_pos h]
  iintro ⟨Hr, Hf⟩
  isplitl [Hf]; · iexact Hf
  iintro Hk
  iapply (pointsTo_split_subset (Finset.subset_univ _)).2
  isplitl [Hk] <;> iassumption

theorem restV_put (c : Dev nD) (n : ℕ) (h : n < 4) : ((c : Thread nD τ).loc main_arg3 ↦{fullShare} vin m c) ⊢ iprop(((c : Thread nD τ).loc main_arg3 ↦[kSet c (nx c n)]{fullShare} vin m c)
    ∗ (flyV m c (sl n) (nx c n) -∗ restV m c n)) := by
  unfold restV
  rw [if_pos h]
  iintro Hr
  ihave H := (pointsTo_split_subset (Finset.subset_univ (kSet c (nx c n)))).1 $$ Hr
  icases H with ⟨Hk, Hr⟩
  isplitl [Hk]; · iexact Hk
  iintro Hf
  isplitl [Hr] <;> iassumption

theorem restV_last (c : Dev nD) (n : ℕ) (h : ¬ n < 4) : restV m c n = iprop(((c : Thread nD τ).loc main_arg3 ↦{fullShare} vin m c) ∗ idleV (F := F) c (sl n)) := if_neg h

end Cert.AttnProof

end
-- ==== Proof.Body.lean ====
/-
The pieces of the body from one state to the next: a batch opened, its heads, its part computed and sent.
-/
module

public import proofs.«01_k».proof.Proof.State

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem b_lt (i : grid0.Coords) : (i 0).val < 4 := (i 0).isLt
theorem h_lt (i : grid0.Coords) : (i 1).val < 8 := (i 1).isLt

/-- The end of a piece. -/
theorem wp_done (c : Dev nD) {A : Type} (x : A) (Q : A → sProp 𝕄) : Q x ⊢ WP c (.ret x) Q := wp_skip c x Q

/-- One head more. -/
theorem spec_segA (c : Dev nD) (i : grid0.Coords) (Q : PUnit → sProp 𝕄) :
    Mid m c (i 0).val (i 1).val ⊢ iprop((Mid m c (i 0).val ((i 1).val + 1) -∗ Q ⟨⟩) -∗ WP c (segA i c) Q) := by
  unfold segA Mid Keep
  simp only [Prog.lift, Prog.bind_op, Prog.bind_ret, Prog.pure_eq_ret, bind_assoc, pure_bind]
  iintro ⟨⟨Hw, Ho, Hb, Hkp⟩, HX, HP, ⟨HrK, HkS, HkZ⟩, ⟨HrV, HvS, HvZ⟩, Hq, %f, %hf, Hc⟩ Hk
  iapply (ld_k m c (sl (i 0).val) (nx c (i 0).val) (i 1) (k0_off18_eq i)) $$ HkS
  iintro HkS
  iapply (ld_q m c (nx c (i 0).val) (i 1) (k0_off19_eq i)) $$ Hq
  iintro Hq
  iapply (ldw_b c) $$ Hb
  iintro Hb
  iapply (ld_v m c (sl (i 0).val) (nx c (i 0).val) (i 1) (k0_off18_eq i)) $$ HvS
  iintro HvS
  iapply (st_c m c (nx c (i 0).val) (i 1) (k0_off19_eq i) rfl hf) $$ Hc
  iintro Hc
  iapply wp_done
  iapply Hk
  isplitl [Hw Ho Hb Hkp]
  · isplitl [Hw]; · iexact Hw
    isplitl [Ho]; · iexact Ho
    isplitl [Hb]; · iexact Hb
    iexact Hkp
  isplitl [HX]; · iexact HX
  isplitl [HP]; · iexact HP
  isplitl [HrK HkS HkZ]
  · isplitl [HrK]; · iexact HrK
    isplitl [HkS]; · iexact HkS
    iexact HkZ
  isplitl [HrV HvS HvZ]
  · isplitl [HrV]; · iexact HrV
    isplitl [HvS]; · iexact HvS
    iexact HvZ
  isplitl [Hq]; · iexact Hq
  iexact Hc

/-- A batch's keys and values landed. -/
theorem spec_seg3 (K : Dev nD × Fin 17 → ℕ) (c : Dev nD) (i : grid0.Coords) (h3 : k0_cond3 i = 1#1) {O : CellTallies nD τ sig Unit} (hO : Above 1 O) (Q : PUnit → sProp 𝕄) :
    iprop(recs m K ∗ Ow c O ∗ restK m c (i 0).val ∗ restV m c (i 0).val) ⊢ iprop(((Ow c O
        ∗ (((c : Thread nD τ).loc main_arg2 ↦{fullShare} kin m c) ∗ ((c : Thread nD τ).loc cc0_scratch3 ↦[kSlot (sl (i 0).val)]{fullShare} KST m c (nx c (i 0).val)) ∗ z0 (F := F) c (dkq (sl (i 0).val)))
        ∗ (((c : Thread nD τ).loc main_arg3 ↦{fullShare} vin m c) ∗ ((c : Thread nD τ).loc cc0_scratch4 ↦[kSlot (sl (i 0).val)]{fullShare} VST m c (nx c (i 0).val)) ∗ z0 (F := F) c (dvq (sl (i 0).val)))) -∗ Q ⟨⟩)
      -∗ WP c (seg3 i c h3) Q) := by
  unfold seg3
  simp only [Prog.lift, Prog.bind_op, Prog.bind_ret, Prog.pure_eq_ret, bind_assoc, pure_bind]
  iintro ⟨#HR, HO, HK, HV⟩ Hk
  ihave HK := (restK_take m c _ (b_lt i)) $$ HK
  icases HK with ⟨HK, HKr⟩
  ihave HV := (restV_take m c _ (b_lt i)) $$ HV
  icases HV with ⟨HV, HVr⟩
  iapply (wp_landK m K c (s := sl (i 0).val) (j := nx c (i 0).val) (sem_dk (k0_off8_eq i)) hO) $$ [HK HO]
  · isplitr; · iexact HR
    isplitl [HK]; · iexact HK
    iexact HO
  iintro ⟨HkS, HkA, HkZ, HO⟩
  iapply (wp_landV m K c (s := sl (i 0).val) (j := nx c (i 0).val) (sem_dv (k0_off8_eq i)) hO) $$ [HV HO]
  · isplitr; · iexact HR
    isplitl [HV]; · iexact HV
    iexact HO
  iintro ⟨HvS, HvA, HvZ, HO⟩
  iapply wp_done
  iapply Hk
  isplitl [HO]; · iexact HO
  isplitl [HKr HkS HkA HkZ]
  · isplitl [HKr HkA]; · iapply HKr; iexact HkA
    isplitl [HkS]; · iexact HkS
    iexact HkZ
  isplitl [HVr HvA]; · iapply HVr; iexact HvA
  isplitl [HvS]; · iexact HvS
  iexact HvZ

theorem nx_succ_val (c : Dev nD) (n : ℕ) : (c.val + n) % 4 = (nx c n).val := rfl
theorem off13 (c : Dev nD) (i : grid0.Coords) : k0_off13 i c = ![(nx c ((i 0).val + 1)).val, 0, 8 * c.val, 0] := by
  rw [k0_off13_eq, nx_val, show ((c.val + (i 0).val) % 4 + 1) % 4 = (c.val + ((i 0).val + 1)) % 4 from by omega]

/-- The next batch's keys and values on their way. -/
theorem spec_seg4 (c : Dev nD) (i : grid0.Coords) (h3 : k0_cond3 i = 1#1) (h4 : k0_cond4 i = 1#1) (hb : (i 0).val + 1 < 4) (Q : PUnit → sProp 𝕄) :
    iprop((((c : Thread nD τ).loc main_arg2 ↦{fullShare} kin m c) ∗ idleK (F := F) c (sl ((i 0).val + 1))) ∗ (((c : Thread nD τ).loc main_arg3 ↦{fullShare} vin m c) ∗ idleV (F := F) c (sl ((i 0).val + 1))))
      ⊢ iprop(((restK m c ((i 0).val + 1) ∗ restV m c ((i 0).val + 1)) -∗ Q ⟨⟩) -∗ WP c (seg4 i c h3 h4) Q) := by
  unfold seg4
  simp only [Prog.lift, Prog.bind_op, Prog.bind_ret, Prog.pure_eq_ret, bind_assoc, pure_bind]
  iintro ⟨⟨HK, HkI⟩, ⟨HV, HvI⟩⟩ Hk
  ihave HK := (restK_put m c _ hb) $$ HK
  icases HK with ⟨HK, HKr⟩
  ihave HV := (restV_put m c _ hb) $$ HV
  icases HV with ⟨HV, HVr⟩
  iapply (wp_fetchK m c (s := sl ((i 0).val + 1)) (j := nx c ((i 0).val + 1)) (off13 c i) (k0_off12_eq i) (sem_dk (k0_off11_eq i))) $$ [HK HkI]
  · isplitl [HK]; · iexact HK
    iexact HkI
  iintro HK
  iapply (wp_fetchV m c (s := sl ((i 0).val + 1)) (j := nx c ((i 0).val + 1)) (off13 c i) (k0_off12_eq i) (sem_dv (k0_off11_eq i))) $$ [HV HvI]
  · isplitl [HV]; · iexact HV
    iexact HvI
  iintro HV
  iapply wp_done
  iapply Hk
  isplitl [HK HKr]; · iapply HKr; iexact HK
  iapply HVr; iexact HV

/-- The first batch's keys and values on their way. -/
theorem spec_seg2 (c : Dev nD) (i : grid0.Coords) (h2 : k0_cond2 i = 1#1) (Q : PUnit → sProp 𝕄) :
    iprop((((c : Thread nD τ).loc main_arg2 ↦{fullShare} kin m c) ∗ idleK (F := F) c (sl (i 0).val)) ∗ (((c : Thread nD τ).loc main_arg3 ↦{fullShare} vin m c) ∗ idleV (F := F) c (sl (i 0).val)))
      ⊢ iprop(((restK m c (i 0).val ∗ restV m c (i 0).val) -∗ Q ⟨⟩) -∗ WP c (seg2 i c h2) Q) := by
  unfold seg2
  simp only [Prog.lift, Prog.bind_op, Prog.bind_ret, Prog.pure_eq_ret, bind_assoc, pure_bind]
  iintro ⟨⟨HK, HkI⟩, ⟨HV, HvI⟩⟩ Hk
  ihave HK := (restK_put m c _ (b_lt i)) $$ HK
  icases HK with ⟨HK, HKr⟩
  ihave HV := (restV_put m c _ (b_lt i)) $$ HV
  icases HV with ⟨HV, HVr⟩
  iapply (wp_fetchK m c (s := sl (i 0).val) (j := nx c (i 0).val) (k0_off7_eq i c) (k0_off6_eq i) (sem_dk (k0_off5_eq i))) $$ [HK HkI]
  · isplitl [HK]; · iexact HK
    iexact HkI
  iintro HK
  iapply (wp_fetchV m c (s := sl (i 0).val) (j := nx c (i 0).val) (k0_off7_eq i c) (k0_off6_eq i) (sem_dv (k0_off5_eq i))) $$ [HV HvI]
  · isplitl [HV]; · iexact HV
    iexact HvI
  iintro HV
  iapply wp_done
  iapply Hk
  isplitl [HK HKr]; · iapply HKr; iexact HK
  iapply HVr; iexact HV

/-- A batch's activations arrived. -/
theorem spec_seg5 (K : Dev nD × Fin 17 → ℕ) (c : Dev nD) (i : grid0.Coords) (h3 : k0_cond3 i = 1#1) (h5 : k0_cond5 i = 1#1) (k : Fin 3) (hb : (i 0).val = k.val + 1) {O : CellTallies nD τ sig Unit} (hO : Above 3 O) (Q : PUnit → sProp 𝕄) :
    iprop(recs m K ∗ Ow c O ∗ XR m c k.val) ⊢ iprop(((Ow c O ∗ XR m c (k.val + 1)) -∗ Q ⟨⟩) -∗ WP c (seg5 i c h3 h5) Q) := by
  unfold seg5
  simp only [Prog.lift, Prog.bind_op, Prog.bind_ret, Prog.pure_eq_ret, bind_assoc, pure_bind]
  iintro ⟨#HR, HO, HX⟩ Hk
  ihave HX := (XR_next m c k) $$ HX
  icases HX with ⟨HX, HXr⟩
  unfold xrWait
  icases HX with ⟨Hat, Hc⟩
  iapply (wp_wait_x m K c (xrq (nx c (k.val + 1))) (sem_xr (by rw [k0_off14_eq, hb]; rfl)) (Nat.succ_ne_zero _) (by show _ + 5 < 17; omega) (dutiesD_xr (nx_ne c k)) (lvS_xr' _) hO) $$ [Hat Hc HO]
  · isplitr; · iexact HR
    isplitl [Hc]; · iexact Hc
    isplitl [HO]; · iexact HO
    iexact Hat
  rw [payD_xr]
  unfold xrPay
  iintro ⟨HO, Hz, Hx⟩
  iapply wp_done
  iapply Hk
  isplitl [HO]; · iexact HO
  iapply HXr
  unfold xrDone
  isplitl [Hx]; · iexact Hx
  iexact Hz

theorem off17 (c : Dev nD) (i : grid0.Coords) : k0_off17 i c = ![(nx c (i 0).val).val, 0, 0] := k0_off17_eq i c

/-- A batch's queries computed. -/
theorem spec_segQ' (c : Dev nD) (i : grid0.Coords) (h3 : k0_cond3 i = 1#1) (q : PosShare TreeShare) (Q : PUnit → sProp 𝕄) :
    iprop(xAt c (nx c (i 0).val) q (XALL m) ∗ ((c : Thread nD τ).loc cc0_scratch7 ↦{fullShare} WQB m c) ∗ (∃ f, (c : Thread nD τ).loc cc0_scratch5 ↦{fullShare} (f : S1024x1024.Idx → Elt F .bf16)))
      ⊢ iprop(((xAt c (nx c (i 0).val) q (XALL m) ∗ ((c : Thread nD τ).loc cc0_scratch7 ↦{fullShare} WQB m c) ∗ ((c : Thread nD τ).loc cc0_scratch5 ↦{fullShare} QB m c (nx c (i 0).val))) -∗ Q ⟨⟩)
        -∗ WP c (segQ i c h3) Q) := by
  unfold segQ
  simp only [Prog.lift, Prog.bind_op, Prog.bind_ret, Prog.pure_eq_ret, bind_assoc, pure_bind]
  iintro ⟨Hx, Hw, ⟨%f, Hq⟩⟩ Hk
  iapply (ld_x m c (nx c (i 0).val) (off17 c i)) $$ Hx
  iintro Hx
  iapply (ldw_w c) $$ Hw
  iintro Hw
  iapply (stw_q c) $$ Hq
  iintro Hq
  iapply wp_done
  iapply Hk
  isplitl [Hx]; · iexact Hx
  isplitl [Hw]; · iexact Hw
  iexact Hq

theorem spec_segQ (c : Dev nD) (i : grid0.Coords) (h3 : k0_cond3 i = 1#1) (Q : PUnit → sProp 𝕄) :
    iprop(Keep m c ∗ XR m c (i 0).val ∗ (∃ f, (c : Thread nD τ).loc cc0_scratch5 ↦{fullShare} (f : S1024x1024.Idx → Elt F .bf16)))
      ⊢ iprop(((Keep m c ∗ XR m c (i 0).val ∗ ((c : Thread nD τ).loc cc0_scratch5 ↦{fullShare} QB m c (nx c (i 0).val))) -∗ Q ⟨⟩)
        -∗ WP c (segQ i c h3) Q) := by
  unfold Keep
  iintro ⟨⟨Hw, Ho, Hb, Ha0, Ha1, Ha4, Hd, Hz, Hx, HL⟩, HX, Hq⟩ Hk
  by_cases h0 : (i 0).val = 0
  · have e : nx c (i 0).val = c := by rw [h0, nx_zero]
    iapply (spec_segQ' m c i h3 (qsh 3) Q) $$ [Hx Hw Hq]
    · isplitl [Hx]; · rw [e]; iexact Hx
      isplitl [Hw]; · iexact Hw
      iexact Hq
    iintro ⟨Hx, Hw, Hq⟩
    iapply Hk
    isplitr [HX Hq]
    · isplitl [Hw]; · iexact Hw
      isplitl [Ho]; · iexact Ho
      isplitl [Hb]; · iexact Hb
      isplitl [Ha0]; · iexact Ha0
      isplitl [Ha1]; · iexact Ha1
      isplitl [Ha4]; · iexact Ha4
      isplitl [Hd]; · iexact Hd
      isplitl [Hz]; · iexact Hz
      isplitl [Hx]; · rw [e]; iexact Hx
      iexact HL
    isplitl [HX]; · iexact HX
    iexact Hq
  · obtain ⟨k, hk⟩ : ∃ k : Fin 3, (i 0).val = k.val + 1 := ⟨⟨(i 0).val - 1, by have := b_lt i; omega⟩, by show (i 0).val = (i 0).val - 1 + 1; omega⟩
    rw [hk]
    ihave HX := (XR_read m c k) $$ HX
    icases HX with ⟨HX, HXr⟩
    unfold xrDone
    icases HX with ⟨HXx, HXz⟩
    iapply (spec_segQ' m c i h3 fullShare Q) $$ [HXx Hw Hq]
    · isplitl [HXx]; · rw [hk]; iexact HXx
      isplitl [Hw]; · iexact Hw
      iexact Hq
    rw [hk]
    iintro ⟨HXx, Hw, Hq⟩
    iapply Hk
    isplitr [HXr Hq HXx HXz]
    · isplitl [Hw]; · iexact Hw
      isplitl [Ho]; · iexact Ho
      isplitl [Hb]; · iexact Hb
      isplitl [Ha0]; · iexact Ha0
      isplitl [Ha1]; · iexact Ha1
      isplitl [Ha4]; · iexact Ha4
      isplitl [Hd]; · iexact Hd
      isplitl [Hz]; · iexact Hz
      isplitl [Hx]; · iexact Hx
      iexact HL
    isplitr [Hq]
    · iapply HXr
      isplitl [HXx]; · iexact HXx
      iexact HXz
    iexact Hq

/-- The batch prepared: from `Edge` to `Mid`. -/
theorem spec_edge (K : Dev nD × Fin 17 → ℕ) (c : Dev nD) (i : grid0.Coords) (h3 : k0_cond3 i = 1#1)
    (h4 : k0_cond4 i = 1#1 ↔ (i 0).val + 1 < 4) (h5 : k0_cond5 i = 1#1 ↔ (i 0).val ≠ 0) {O : CellTallies nD τ sig Unit} (hO : Above 3 O) (Q : PUnit → sProp 𝕄) :
    iprop(recs m K ∗ Ow c O ∗ Edge m c (i 0).val) ⊢ iprop(((Ow c O ∗ Mid m c (i 0).val 0) -∗ Q ⟨⟩)
      -∗ WP c (seg3 i c h3 >>= fun _ => (if h' : k0_cond4 i = 1#1 then seg4 i c h3 h' else pure ⟨⟩) >>= fun _ =>
        (if h' : k0_cond5 i = 1#1 then seg5 i c h3 h' else pure ⟨⟩) >>= fun _ => segQ i c h3) Q) := by
  unfold WP
  rw [wp_bind, wp_bind, wp_bind]
  unfold Edge
  iintro ⟨#HR, HO, HKp, HX, HP, ⟨HK, HkI⟩, ⟨HV, HvI⟩, Hq, Hc⟩ Hk
  iapply (spec_seg3 m K c i h3 (above_mono (by decide) hO)) $$ [HO HK HV]
  · isplitr; · iexact HR
    isplitl [HO]; · iexact HO
    isplitl [HK] <;> iassumption
  iintro ⟨HO, ⟨HK, HkS, HkZ⟩, ⟨HV, HvS, HvZ⟩⟩
  have fin : iprop(recs m K ∗ Ow c O ∗ Keep m c ∗ XR m c ((i 0).val - 1) ∗ PG m c (i 0).val ∗ (∃ f, (c : Thread nD τ).loc cc0_scratch5 ↦{fullShare} (f : S1024x1024.Idx → Elt F .bf16)) ∗ (∃ f, (c : Thread nD τ).loc cc0_scratch6 ↦{fullShare} (f : S1024x1024.Idx → Elt F .bf16))
      ∗ (((c : Thread nD τ).loc cc0_scratch3 ↦[kSlot (sl (i 0).val)]{fullShare} KST m c (nx c (i 0).val)) ∗ z0 (F := F) c (dkq (sl (i 0).val))) ∗ (((c : Thread nD τ).loc cc0_scratch4 ↦[kSlot (sl (i 0).val)]{fullShare} VST m c (nx c (i 0).val)) ∗ z0 (F := F) c (dvq (sl (i 0).val)))
      ∗ restK m c ((i 0).val + 1) ∗ restV m c ((i 0).val + 1) ∗ ((Ow c O ∗ Mid m c (i 0).val 0) -∗ Q ⟨⟩))
      ⊢ WP c (if h' : k0_cond5 i = 1#1 then seg5 i c h3 h' else pure ⟨⟩) fun _ => WP c (segQ i c h3) Q := by
    have fin' : iprop(Ow c O ∗ Keep m c ∗ XR m c (i 0).val ∗ PG m c (i 0).val ∗ (∃ f, (c : Thread nD τ).loc cc0_scratch5 ↦{fullShare} (f : S1024x1024.Idx → Elt F .bf16)) ∗ (∃ f, (c : Thread nD τ).loc cc0_scratch6 ↦{fullShare} (f : S1024x1024.Idx → Elt F .bf16))
      ∗ (((c : Thread nD τ).loc cc0_scratch3 ↦[kSlot (sl (i 0).val)]{fullShare} KST m c (nx c (i 0).val)) ∗ z0 (F := F) c (dkq (sl (i 0).val))) ∗ (((c : Thread nD τ).loc cc0_scratch4 ↦[kSlot (sl (i 0).val)]{fullShare} VST m c (nx c (i 0).val)) ∗ z0 (F := F) c (dvq (sl (i 0).val)))
      ∗ restK m c ((i 0).val + 1) ∗ restV m c ((i 0).val + 1) ∗ ((Ow c O ∗ Mid m c (i 0).val 0) -∗ Q ⟨⟩))
        ⊢ WP c (segQ i c h3) Q := by
      iintro ⟨HO, HKp, HX, HP, Hq, ⟨%f, Hc⟩, ⟨HkS, HkZ⟩, ⟨HvS, HvZ⟩, HK, HV, Hk⟩
      iapply (spec_segQ m c i h3 Q) $$ [HKp HX Hq]
      · isplitl [HKp]; · iexact HKp
        isplitl [HX]; · iexact HX
        iexact Hq
      iintro ⟨HKp, HX, Hq⟩
      iapply Hk
      isplitl [HO]; · iexact HO
      unfold Mid
      isplitl [HKp]; · iexact HKp
      isplitl [HX]; · iexact HX
      isplitl [HP]; · iexact HP
      isplitl [HK HkS HkZ]
      · isplitl [HK]; · iexact HK
        isplitl [HkS]; · iexact HkS
        iexact HkZ
      isplitl [HV HvS HvZ]
      · isplitl [HV]; · iexact HV
        isplitl [HvS]; · iexact HvS
        iexact HvZ
      isplitl [Hq]; · iexact Hq
      iexists f
      isplitr; · ipureintro; exact upto_zero m _ _ f
      iexact Hc
    iintro ⟨#HR, HO, HKp, HX, Hrest⟩
    by_cases h0 : (i 0).val = 0
    · rw [dif_neg (fun h => (h5.mp h) h0)]
      iapply wp_skip
      iapply fin'
      isplitl [HO]; · iexact HO
      isplitl [HKp]; · iexact HKp
      isplitl [HX]; · rw [h0]; iexact HX
      iexact Hrest
    · obtain ⟨k, hk⟩ : ∃ k : Fin 3, (i 0).val = k.val + 1 := ⟨⟨(i 0).val - 1, by have := b_lt i; omega⟩, by show (i 0).val = (i 0).val - 1 + 1; omega⟩
      rw [dif_pos (h5.mpr h0)]
      iapply (spec_seg5 m K c i h3 (h5.mpr h0) k hk hO) $$ [HO HX]
      · isplitr; · iexact HR
        isplitl [HO]; · iexact HO
        rw [hk, Nat.add_sub_cancel]; iexact HX
      iintro ⟨HO, HX⟩
      iapply fin'
      isplitl [HO]; · iexact HO
      isplitl [HKp]; · iexact HKp
      isplitl [HX]; · rw [hk]; iexact HX
      iexact Hrest
  by_cases hb : (i 0).val + 1 < 4
  · rw [dif_pos (h4.mpr hb)]
    iapply (spec_seg4 m c i h3 (h4.mpr hb) hb) $$ [HK HV HkI HvI]
    · isplitl [HK HkI]
      · isplitl [HK] <;> iassumption
      isplitl [HV] <;> iassumption
    iintro ⟨HK, HV⟩
    iapply fin
    isplitr; · iexact HR
    isplitl [HO]; · iexact HO
    isplitl [HKp]; · iexact HKp
    isplitl [HX]; · iexact HX
    isplitl [HP]; · iexact HP
    isplitl [Hq]; · iexact Hq
    isplitl [Hc]; · iexact Hc
    isplitl [HkS HkZ]
    · isplitl [HkS] <;> iassumption
    isplitl [HvS HvZ]
    · isplitl [HvS] <;> iassumption
    isplitl [HK]; · iexact HK
    isplitl [HV]; · iexact HV
    iexact Hk
  · rw [dif_neg (fun h => hb (h4.mp h))]
    iapply wp_skip
    iapply fin
    isplitr; · iexact HR
    isplitl [HO]; · iexact HO
    isplitl [HKp]; · iexact HKp
    isplitl [HX]; · iexact HX
    isplitl [HP]; · iexact HP
    isplitl [Hq]; · iexact Hq
    isplitl [Hc]; · iexact Hc
    isplitl [HkS HkZ]
    · isplitl [HkS] <;> iassumption
    isplitl [HvS HvZ]
    · isplitl [HvS] <;> iassumption
    rw [restK_last m c _ hb, restV_last m c _ hb]
    isplitl [HK HkI]
    · isplitl [HK] <;> iassumption
    isplitl [HV HvI]
    · isplitl [HV] <;> iassumption
    iexact Hk

theorem off20 (c : Dev nD) (i : grid0.Coords) : k0_off20 i c = ![(nx c (i 0).val).val, 0, 0] := k0_off20_eq i c

/-- A batch's part computed. -/
theorem spec_seg6 (c : Dev nD) (i : grid0.Coords) (h6 : k0_cond6 i = 1#1) (Q : PUnit → sProp 𝕄) :
    iprop(((c : Thread nD τ).loc cc0_scratch6 ↦{fullShare} CTX m c (nx c (i 0).val)) ∗ ((c : Thread nD τ).loc cc0_scratch8 ↦{fullShare} WOB m c) ∗ (∃ f, pAt (F := F) c (nx c (i 0).val) f))
      ⊢ iprop(((((c : Thread nD τ).loc cc0_scratch6 ↦{fullShare} CTX m c (nx c (i 0).val)) ∗ ((c : Thread nD τ).loc cc0_scratch8 ↦{fullShare} WOB m c) ∗ pAt c (nx c (i 0).val) (PALL m c)) -∗ Q ⟨⟩)
        -∗ WP c (seg6 i c h6) Q) := by
  unfold seg6
  simp only [Prog.lift, Prog.bind_op, Prog.bind_ret, Prog.pure_eq_ret, bind_assoc, pure_bind]
  iintro ⟨Hc, Ho, ⟨%f, Hp⟩⟩ Hk
  iapply (ldw_c c) $$ Hc
  iintro Hc
  iapply (ldw_o c) $$ Ho
  iintro Ho
  iapply (ld_p_any c (nx c (i 0).val) (off20 c i)) $$ Hp
  iintro Hp
  iapply (st_p m c (nx c (i 0).val) (off20 c i) rfl) $$ Hp
  iintro Hp
  iapply wp_done
  iapply Hk
  isplitl [Hc]; · iexact Hc
  isplitl [Ho]; · iexact Ho
  iexact Hp

/-- A batch's part sent. -/
theorem spec_seg7 (K : Dev nD × Fin 17 → ℕ) (c : Dev nD) (i : grid0.Coords) (h6 : k0_cond6 i = 1#1) (h7 : k0_cond7 i = 1#1) (k : Fin 3) (hk : (i 0).val = k.val + 1)
    (O : CellTallies nD τ sig Unit) (Q : PUnit → sProp 𝕄) :
    iprop(recs m K ∗ pAt c (nx c (k.val + 1)) (PALL m c) ∗ (∃ f, iAt (F := F) (nx c (k.val + 1)) k.rev f)
        ∗ Ow c (O + tallyAt (dcell (nx c (k.val + 1)) (prq k.rev.castSucc)) () N)
        ∗ tok (F := F) c (psq (nx c (k.val + 1))) ∗ tok (F := F) (nx c (k.val + 1)) (prq k.rev.castSucc))
      ⊢ iprop(((cr (F := F) c (psq (nx c (k.val + 1))) ∗ Ow c O) -∗ Q ⟨⟩) -∗ WP c (seg7 i c h6 h7) Q) := by
  have e3 : 3 - (i 0).val = k.rev.val := by rw [hk, Fin.val_rev]
  unfold seg7
  simp only [Prog.lift, Prog.bind_op, Prog.bind_ret, Prog.pure_eq_ret, bind_assoc, pure_bind]
  iintro H Hk
  iapply (wp_send_p m K c _ k (Fin.ext (by show k0_dev7 i c = _; rw [k0_dev7_eq, hk]; rfl)) (by rw [k0_off24_eq, hk]; rfl) (by rw [k0_off23_eq, e3])
    (sem_ps (by rw [k0_off21_eq, hk]; rfl)) (sem_pr (j := k.rev.castSucc) (by rw [k0_off22_eq, e3]; rfl)) O) $$ H
  iintro H
  iapply wp_done
  iapply Hk
  iexact H

theorem sl_two (n : ℕ) : sl (n + 2) = sl n := Fin.ext (by show (n + 2) % 2 = n % 2; omega)

/-- What follows a batch, once its part is out. -/
theorem mid_edge (c : Dev nD) (i : grid0.Coords) :
    iprop(Keep m c ∗ XR m c (i 0).val ∗ PG m c ((i 0).val + 1)
    ∗ (restK m c ((i 0).val + 1) ∗ ((c : Thread nD τ).loc cc0_scratch3 ↦[kSlot (sl (i 0).val)]{fullShare} KST m c (nx c (i 0).val)) ∗ z0 (F := F) c (dkq (sl (i 0).val)))
    ∗ (restV m c ((i 0).val + 1) ∗ ((c : Thread nD τ).loc cc0_scratch4 ↦[kSlot (sl (i 0).val)]{fullShare} VST m c (nx c (i 0).val)) ∗ z0 (F := F) c (dvq (sl (i 0).val)))
    ∗ ((c : Thread nD τ).loc cc0_scratch5 ↦{fullShare} QB m c (nx c (i 0).val)) ∗ ((c : Thread nD τ).loc cc0_scratch6 ↦{fullShare} CTX m c (nx c (i 0).val)))
      ⊢ Edge m c ((i 0).val + 1) := by
  unfold Edge idleK idleV
  rw [show (i 0).val + 1 + 1 = (i 0).val + 2 from rfl, sl_two, Nat.add_sub_cancel]
  iintro ⟨HKp, HX, HP, ⟨HK, HkS, HkZ⟩, ⟨HV, HvS, HvZ⟩, Hq, Hc⟩
  isplitl [HKp]; · iexact HKp
  isplitl [HX]; · iexact HX
  isplitl [HP]; · iexact HP
  isplitl [HK HkS HkZ]
  · isplitl [HK]; · iexact HK
    isplitl [HkS]; · iexists _; iexact HkS
    iexact HkZ
  isplitl [HV HvS HvZ]
  · isplitl [HV]; · iexact HV
    isplitl [HvS]; · iexists _; iexact HvS
    iexact HvZ
  isplitl [Hq]; · iexists _; iexact Hq
  iexists _; iexact Hc

theorem owR_step (c : Dev nD) : ∀ k : Fin 3, owR c (4 - (k.val + 1)) = owR c (4 - (k.val + 1) - 1) + tallyAt (dcell (nx c (k.val + 1)) (prq k.rev.castSucc)) () N
  | 0 => rfl
  | 1 => rfl
  | 2 => rfl

/-- The batch closed: from `Mid` to the next `Edge`. -/
theorem spec_close (K : Dev nD × Fin 17 → ℕ) (c : Dev nD) (i : grid0.Coords) (h6 : k0_cond6 i = 1#1) (h7 : k0_cond7 i = 1#1 ↔ (i 0).val ≠ 0) (Q : PUnit → sProp 𝕄) :
    iprop(recs m K ∗ Ow c (owR c (4 - (i 0).val)) ∗ Mid m c (i 0).val 8) ⊢ iprop(((Ow c (owR c (4 - (i 0).val - 1)) ∗ Edge m c ((i 0).val + 1)) -∗ Q ⟨⟩)
      -∗ WP c (seg6 i c h6 >>= fun _ => if h' : k0_cond7 i = 1#1 then seg7 i c h6 h' else pure ⟨⟩) Q) := by
  unfold WP
  rw [wp_bind]
  unfold Mid Keep
  iintro ⟨#HR, HO, ⟨Hw, Ho, HKp⟩, HX, HP, HK, HV, Hq, %f, %hf, Hc⟩ Hk
  rw [upto_all m hf]
  by_cases h0 : (i 0).val = 0
  · rw [h0]
    ihave HP := (PG_zero m c) $$ HP
    icases HP with ⟨Hp, HPr⟩
    iapply (spec_seg6 m c i h6) $$ [Hc Ho Hp]
    · rw [h0, nx_zero]
      isplitl [Hc]; · iexact Hc
      isplitl [Ho]; · iexact Ho
      iexact Hp
    iintro ⟨Hc, Ho, Hp⟩
    rw [dif_neg (fun h => (h7.mp h) h0)]
    iapply wp_skip
    iapply Hk
    isplitl [HO]; · iexact HO
    have hme := mid_edge m c i
    rw [h0] at hme
    iapply hme
    rw [h0, nx_zero]
    unfold Keep
    isplitl [Hw Ho HKp]
    · isplitl [Hw]; · iexact Hw
      isplitl [Ho] <;> iassumption
    isplitl [HX]; · iexact HX
    isplitl [HPr Hp]; · iapply HPr; iexact Hp
    isplitl [HK]; · iexact HK
    isplitl [HV]; · iexact HV
    isplitl [Hq] <;> iassumption
  · obtain ⟨k, hk⟩ : ∃ k : Fin 3, (i 0).val = k.val + 1 := ⟨⟨(i 0).val - 1, by have := b_lt i; omega⟩, by show (i 0).val = (i 0).val - 1 + 1; omega⟩
    rw [hk, owR_step]
    ihave HP := (PG_next m c k) $$ HP
    icases HP with ⟨HP, HPr⟩
    unfold pgWait
    icases HP with ⟨Hat, Hp, Hi, Ht1, Ht2⟩
    iapply (spec_seg6 m c i h6) $$ [Hc Ho Hp]
    · rw [hk]
      isplitl [Hc]; · iexact Hc
      isplitl [Ho]; · iexact Ho
      iexact Hp
    rw [hk]
    iintro ⟨Hc, Ho, Hp⟩
    rw [dif_pos (h7.mpr h0)]
    iapply (spec_seg7 m K c i h6 (h7.mpr h0) k hk _ Q) $$ [HO Hp Hi Ht1 Ht2]
    · isplitr; · iexact HR
      isplitl [Hp]; · iexact Hp
      isplitl [Hi]; · iexact Hi
      isplitl [HO]; · iexact HO
      isplitl [Ht1] <;> iassumption
    iintro ⟨Hcr, HO⟩
    iapply Hk
    isplitl [HO]; · iexact HO
    have hme := mid_edge m c i
    rw [hk] at hme
    iapply hme
    unfold Keep
    isplitl [Hw Ho HKp]
    · isplitl [Hw]; · iexact Hw
      isplitl [Ho] <;> iassumption
    isplitl [HX]; · iexact HX
    isplitl [HPr Hat Hcr]
    · iapply HPr
      unfold pgDone
      isplitl [Hat] <;> iassumption
    isplitl [HK]; · iexact HK
    isplitl [HV]; · iexact HV
    isplitl [Hq] <;> iassumption

end Cert.AttnProof

end
-- ==== Proof.Open.lean ====
/-
The first point's opening: the barrier, the activations sent on, the weights staged.
-/
module

public import proofs.«01_k».proof.Proof.Body

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem aQ_set : aQ.view.set = Finset.univ := View.set_whole _
theorem aO_set : aO.view.set = Finset.univ := View.set_whole _

theorem stage_x (K : Dev nD × Fin 17 → ℕ) (c : Dev nD) {srcw : Memref sig .tc .hbm S1024x1024 .f32} {sem : DmaSem sig} (hsem : sem = dsq) {O : CellTallies nD τ sig Unit} (hO : Above 1 O)
    {h1 h2 h3 h4 h5} {α : Type} {Q : α → sProp 𝕄} {kk : PUnit → Prog (TpuEff nD τ sig (Elt F) Λ₀ .tc) α} :
    iprop(recs m K ∗ ((c : Thread nD τ).loc main_arg0 ↦{fullShare} xin m c) ∗ (∃ f, (c : Thread nD τ).loc cc0_stg0_0 ↦{fullShare} f) ∗ semVal (dcell c dsq) 0 ∗ Ow c O)
      ⊢ iprop((((c : Thread nD τ).loc main_arg0 ↦{fullShare} xin m c) ∗ ((c : Thread nD τ).loc cc0_stg0_0 ↦{fullShare} (xin m c : S1x1024x1024.Idx → Elt F .f32)) ∗ semVal (dcell c dsq) 0 ∗ Ow c O -∗ WP c (kk ⟨⟩) Q)
        -∗ WP c (.op (.enqueueDma xS (.here gS) (.dma sem) h1 h2 h3) fun _ => .op (.waitDma2 sem srcw gS h4 h5) kk) Q) := by
  have h := wp_stage m K c (src := xS) (srcw := srcw) (fs := xin m c) (xin m c) (gS_read_x _) hsem hO (h1 := h1) (h2 := h2) (h3 := h3) (h4 := h4) (h5 := h5) (Q := Q) (kk := kk)
  rw [xS_set] at h
  exact h

theorem stage_q (K : Dev nD × Fin 17 → ℕ) (c : Dev nD) {srcw : Memref sig .tc .hbm S1024x1024 .f32} {sem : DmaSem sig} (hsem : sem = dsq) {O : CellTallies nD τ sig Unit} (hO : Above 1 O)
    {h1 h2 h3 h4 h5} {α : Type} {Q : α → sProp 𝕄} {kk : PUnit → Prog (TpuEff nD τ sig (Elt F) Λ₀ .tc) α} :
    iprop(recs m K ∗ ((c : Thread nD τ).loc main_arg1 ↦{fullShare} wqin m c) ∗ (∃ f, (c : Thread nD τ).loc cc0_stg0_0 ↦{fullShare} f) ∗ semVal (dcell c dsq) 0 ∗ Ow c O)
      ⊢ iprop((((c : Thread nD τ).loc main_arg1 ↦{fullShare} wqin m c) ∗ ((c : Thread nD τ).loc cc0_stg0_0 ↦{fullShare} (lift3 (wqin m c) : S1x1024x1024.Idx → Elt F .f32)) ∗ semVal (dcell c dsq) 0 ∗ Ow c O -∗ WP c (kk ⟨⟩) Q)
        -∗ WP c (.op (.enqueueDma aQ (.here gS) (.dma sem) h1 h2 h3) fun _ => .op (.waitDma2 sem srcw gS h4 h5) kk) Q) := by
  have h := wp_stage m K c (src := aQ) (srcw := srcw) (fs := wqin m c) (lift3 (wqin m c)) (gS_read_lift _) hsem hO (h1 := h1) (h2 := h2) (h3 := h3) (h4 := h4) (h5 := h5) (Q := Q) (kk := kk)
  rw [aQ_set] at h
  exact h

theorem stage_o (K : Dev nD × Fin 17 → ℕ) (c : Dev nD) {srcw : Memref sig .tc .hbm S1024x1024 .f32} {sem : DmaSem sig} (hsem : sem = dsq) {O : CellTallies nD τ sig Unit} (hO : Above 1 O)
    {h1 h2 h3 h4 h5} {α : Type} {Q : α → sProp 𝕄} {kk : PUnit → Prog (TpuEff nD τ sig (Elt F) Λ₀ .tc) α} :
    iprop(recs m K ∗ ((c : Thread nD τ).loc main_arg4 ↦{fullShare} woin m c) ∗ (∃ f, (c : Thread nD τ).loc cc0_stg0_0 ↦{fullShare} f) ∗ semVal (dcell c dsq) 0 ∗ Ow c O)
      ⊢ iprop((((c : Thread nD τ).loc main_arg4 ↦{fullShare} woin m c) ∗ ((c : Thread nD τ).loc cc0_stg0_0 ↦{fullShare} (lift3 (woin m c) : S1x1024x1024.Idx → Elt F .f32)) ∗ semVal (dcell c dsq) 0 ∗ Ow c O -∗ WP c (kk ⟨⟩) Q)
        -∗ WP c (.op (.enqueueDma aO (.here gS) (.dma sem) h1 h2 h3) fun _ => .op (.waitDma2 sem srcw gS h4 h5) kk) Q) := by
  have h := wp_stage m K c (src := aO) (srcw := srcw) (fs := woin m c) (lift3 (woin m c)) (gS_read_lift _) hsem hO (h1 := h1) (h2 := h2) (h3 := h3) (h4 := h4) (h5 := h5) (Q := Q) (kk := kk)
  rw [aO_set] at h
  exact h

/-- The slot and the place a device lends at the barrier. -/
def Lend (c : Dev nD) (k : Fin 3) : sProp 𝕄 := iprop((∃ f, xAt (F := F) c (nx c (k.val + 1)) fullShare f) ∗ (∃ f, iAt (F := F) c k f))
/-- The slot and the place it is lent. -/
def Lease (c : Dev nD) (k : Fin 3) : sProp 𝕄 := iprop((∃ f, xAt (F := F) (nx c (k.val + 1)) c fullShare f) ∗ (∃ f, iAt (F := F) (nx c (k.val + 1)) k.rev f))

theorem barPay_lease (c : Dev nD) (k : Fin 3) : barPay (F := F) c (nx c (k.val + 1)) = Lease c k := by
  unfold barPay Lease; rw [place_nx]

theorem bars (c : Dev nD) : iprop(barPay (F := F) c (nx c 1) ∗ barPay (F := F) c (nx c 2) ∗ barPay (F := F) c (nx c 3)) = all3 (Lease (F := F) c) := by
  show iprop(barPay (F := F) c (nx c ((0 : Fin 3).val + 1)) ∗ barPay (F := F) c (nx c ((1 : Fin 3).val + 1)) ∗ barPay (F := F) c (nx c ((2 : Fin 3).val + 1))) = _
  rw [barPay_lease, barPay_lease, barPay_lease]

theorem O₀_eq (c : Dev nD) : O₀ c = owB2 c + tallyAt (bcell (nx c ((0 : Fin 3).val + 1))) () 1 := rfl
theorem owB2_eq (c : Dev nD) : owB2 c = owB1 c + tallyAt (bcell (nx c ((1 : Fin 3).val + 1))) () 1 := rfl
theorem owB1_eq (c : Dev nD) : owB1 c = owX3 c + tallyAt (bcell (nx c ((2 : Fin 3).val + 1))) () 1 := rfl
theorem owX3_eq (c : Dev nD) : owX3 c = owX2 c + tallyAt (dcell (nx c ((0 : Fin 3).val + 1)) (xrq c)) () N := rfl
theorem owX2_eq (c : Dev nD) : owX2 c = owX1 c + tallyAt (dcell (nx c ((1 : Fin 3).val + 1)) (xrq c)) () N := rfl
theorem owX1_eq (c : Dev nD) : owX1 c = owR c 3 + tallyAt (dcell (nx c ((2 : Fin 3).val + 1)) (xrq c)) () N := rfl

theorem dev1 (c : Dev nD) (h) : (⟨k0_dev1 c, h⟩ : Dev nD) = nx c ((0 : Fin 3).val + 1) := Fin.ext (k0_dev1_eq c)
theorem dev2 (c : Dev nD) (h) : (⟨k0_dev2 c, h⟩ : Dev nD) = nx c ((1 : Fin 3).val + 1) := Fin.ext (k0_dev2_eq c)
theorem dev3 (c : Dev nD) (h) : (⟨k0_dev3 c, h⟩ : Dev nD) = nx c ((2 : Fin 3).val + 1) := Fin.ext (k0_dev3_eq c)
theorem dev4 (c : Dev nD) (h) : (⟨k0_dev4 c, h⟩ : Dev nD) = nx c ((0 : Fin 3).val + 1) := Fin.ext (k0_dev4_eq c)
theorem dev5 (c : Dev nD) (h) : (⟨k0_dev5 c, h⟩ : Dev nD) = nx c ((1 : Fin 3).val + 1) := Fin.ext (k0_dev5_eq c)
theorem dev6 (c : Dev nD) (h) : (⟨k0_dev6 c, h⟩ : Dev nD) = nx c ((2 : Fin 3).val + 1) := Fin.ext (k0_dev6_eq c)

/-- The barrier, and the device's own activations staged. -/
theorem spec_part1 (K : Dev nD × Fin 17 → ℕ) (c : Dev nD) (i : grid0.Coords) (v2 : BitVec 32) (h1 : k0_cond1 i = 1#1) (Q : _ → sProp 𝕄) :
    iprop(recs m K ∗ Ow c (O₀ c) ∗ all3 (fun k => dutyTok ER (bcell (nx c (k.val + 1))) 0 c) ∗ all3 (Lend (F := F) c) ∗ (atPos ER (bcell c) 0 ∅ 0 ∗ cred (tallyAt (bcell c) () 3))
        ∗ ((c : Thread nD τ).loc main_arg0 ↦{fullShare} xin m c) ∗ (∃ f, (c : Thread nD τ).loc cc0_stg0_0 ↦{fullShare} f) ∗ semVal (dcell c dsq) 0)
      ⊢ iprop(((Ow c (owX3 c) ∗ all3 (Lease (F := F) c) ∗ semVal (bcell c) 0 ∗ ((c : Thread nD τ).loc main_arg0 ↦{fullShare} xin m c) ∗ (∃ f, (c : Thread nD τ).loc cc0_stg0_0 ↦{fullShare} f) ∗ semVal (dcell c dsq) 0) -∗ Q (xin m c))
        -∗ WP c (k0_part1 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 c v2 h1) Q) := by
  rw [k0_part1_eq_skeleton]
  unfold k0_part1_skel
  simp only [semSignalWord, semWaitWord, Prog.lift, Prog.bind_op, Prog.bind_ret, Prog.pure_eq_ret, bind_assoc, pure_bind]
  iintro ⟨#HR, HO, ⟨Ht0, Ht1, Ht2⟩, ⟨HL0, HL1, HL2⟩, ⟨Hat, Hcr⟩, Ha, Hg, Hd⟩ Hk
  unfold Lend
  icases HL0 with ⟨Hx0, Hi0⟩
  icases HL1 with ⟨Hx1, Hi1⟩
  icases HL2 with ⟨Hx2, Hi2⟩
  rw [O₀_eq]
  iapply (wp_sig m K c _ 0 (dev1 c _) (owB2 c)) $$ [HO Ht0 Hx0 Hi0]
  · isplitr; · iexact HR
    isplitl [HO]; · iexact HO
    isplitl [Ht0]; · iexact Ht0
    isplitl [Hx0] <;> iassumption
  rw [owB2_eq]
  iintro HO
  iapply (wp_sig m K c _ 1 (dev2 c _) (owB1 c)) $$ [HO Ht1 Hx1 Hi1]
  · isplitr; · iexact HR
    isplitl [HO]; · iexact HO
    isplitl [Ht1]; · iexact Ht1
    isplitl [Hx1] <;> iassumption
  rw [owB1_eq]
  iintro HO
  iapply (wp_sig m K c _ 2 (dev3 c _) (owX3 c)) $$ [HO Ht2 Hx2 Hi2]
  · isplitr; · iexact HR
    isplitl [HO]; · iexact HO
    isplitl [Ht2]; · iexact Ht2
    isplitl [Hx2] <;> iassumption
  iintro HO
  iapply (wp_bar_wait m K c (above_owX3 c)) $$ [HO Hat Hcr]
  · isplitr; · iexact HR
    isplitl [Hcr]; · iexact Hcr
    isplitl [HO] <;> iassumption
  rw [bars]
  iintro ⟨HO, Hz, HB⟩
  iapply (stage_x m K c sem_ds (above_mono (by decide) (above_owX3 c))) $$ [Ha Hg Hd HO]
  · isplitr; · iexact HR
    isplitl [Ha]; · iexact Ha
    isplitl [Hg]; · iexact Hg
    isplitl [Hd] <;> iassumption
  iintro ⟨Ha, Hg, Hd, HO⟩
  iapply (ldw_g c) $$ Hg
  iintro Hg
  iapply wp_done
  iapply Hk
  isplitl [HO]; · iexact HO
  isplitl [HB]; · iexact HB
  isplitl [Hz]; · iexact Hz
  isplitl [Ha]; · iexact Ha
  isplitl [Hg]; · iexists _; iexact Hg
  iexact Hd

theorem shares4 (c : Dev nD) (f : S4x1024x1024.Idx → Elt F .bf16) : xAt c c fullShare f ⊣⊢ iprop(xAt c c (qsh 0) f ∗ xAt c c (qsh 1) f ∗ xAt c c (qsh 2) f ∗ xAt c c (qsh 3) f) := by
  unfold xAt qsh
  refine ⟨?_, ?_⟩
  · iintro H
    ihave H := (pointsTo_share (PosShare.mem_left_op_right fullShare)).1 $$ H
    icases H with ⟨H0, H⟩
    ihave H := (pointsTo_share (PosShare.mem_left_op_right fullShare.right)).1 $$ H
    icases H with ⟨H1, H⟩
    ihave H := (pointsTo_share (PosShare.mem_left_op_right fullShare.right.right)).1 $$ H
    icases H with ⟨H2, H3⟩
    isplitl [H0]; · iexact H0
    isplitl [H1]; · iexact H1
    isplitl [H2] <;> iassumption
  · iintro ⟨H0, H1, H2, H3⟩
    iapply (pointsTo_share (PosShare.mem_left_op_right fullShare)).2
    isplitl [H0]; · iexact H0
    iapply (pointsTo_share (PosShare.mem_left_op_right fullShare.right)).2
    isplitl [H1]; · iexact H1
    iapply (pointsTo_share (PosShare.mem_left_op_right fullShare.right.right)).2
    isplitl [H2] <;> iassumption

/-- What the sending of the activations to the device `k + 1` places on takes. -/
def Pass (c : Dev nD) (k : Fin 3) : sProp 𝕄 :=
  iprop((∃ f, xAt (F := F) (nx c (k.val + 1)) c fullShare f) ∗ tok (F := F) c (xsq (nx c (k.val + 1))) ∗ tok (F := F) (nx c (k.val + 1)) (xrq c))

theorem off2_0 (c : Dev nD) : k0_off2 c 1#32 = ![(nx c ((0 : Fin 3).val + 1)).val] := k0_off2_eq c 0
theorem off2_1 (c : Dev nD) : k0_off2 c 2#32 = ![(nx c ((1 : Fin 3).val + 1)).val] := k0_off2_eq c 1
theorem off2_2 (c : Dev nD) : k0_off2 c 3#32 = ![(nx c ((2 : Fin 3).val + 1)).val] := k0_off2_eq c 2

/-- The own activations kept and sent to the first two devices. -/
theorem spec_part2 (K : Dev nD × Fin 17 → ℕ) (c : Dev nD) (i : grid0.Coords) (v2 : BitVec 32) (h1 : k0_cond1 i = 1#1) (Q : PUnit → sProp 𝕄) :
    iprop(recs m K ∗ Ow c (owX3 c) ∗ Pass (F := F) c 0 ∗ Pass (F := F) c 1 ∗ (∃ f, xAt (F := F) c c fullShare f))
      ⊢ iprop(((Ow c (owX1 c) ∗ cr (F := F) c (xsq (nx c ((0 : Fin 3).val + 1))) ∗ cr (F := F) c (xsq (nx c ((1 : Fin 3).val + 1))) ∗ xAt c c (qsh 2) (XALL m) ∗ xAt c c (qsh 3) (XALL m)) -∗ Q ⟨⟩)
        -∗ WP c (k0_part2 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 c v2 h1 (xin m c)) Q) := by
  rw [k0_part2_eq_skeleton]
  unfold k0_part2_skel
  simp only [semSignalWord, semWaitWord, Prog.lift, Prog.bind_op, Prog.bind_ret, Prog.pure_eq_ret, bind_assoc, pure_bind]
  unfold Pass
  iintro ⟨#HR, HO, ⟨Hx0, Ht0, Hu0⟩, ⟨Hx1, Ht1, Hu1⟩, ⟨%f, Hx⟩⟩ Hk
  iapply (ld_x_any c c (k0_off1_eq c)) $$ Hx
  iintro Hx
  iapply (st_x m c c (k0_off1_eq c) rfl) $$ Hx
  iintro Hx
  ihave Hx := (shares4 c (XALL m)).1 $$ Hx
  icases Hx with ⟨Hs0, Hs1, Hs2, Hs3⟩
  rw [owX3_eq]
  iapply (wp_send_x m K c _ 0 (dev4 c _) (k0_off4_eq c) (k0_off4_eq c) (sem_xs (off2_0 c)) (sem_xr (k0_off3_eq c)) (owX2 c)) $$ [HO Hs0 Hx0 Ht0 Hu0]
  · isplitr; · iexact HR
    isplitl [Hs0]; · iexact Hs0
    isplitl [Hx0]; · iexact Hx0
    isplitl [HO]; · iexact HO
    isplitl [Ht0] <;> iassumption
  rw [owX2_eq]
  iintro ⟨Hc0, HO⟩
  iapply (wp_send_x m K c _ 1 (dev5 c _) (k0_off4_eq c) (k0_off4_eq c) (sem_xs (off2_1 c)) (sem_xr (k0_off3_eq c)) (owX1 c)) $$ [HO Hs1 Hx1 Ht1 Hu1]
  · isplitr; · iexact HR
    isplitl [Hs1]; · iexact Hs1
    isplitl [Hx1]; · iexact Hx1
    isplitl [HO]; · iexact HO
    isplitl [Ht1] <;> iassumption
  iintro ⟨Hc1, HO⟩
  iapply wp_done
  iapply Hk
  isplitl [HO]; · iexact HO
  isplitl [Hc0]; · iexact Hc0
  isplitl [Hc1]; · iexact Hc1
  isplitl [Hs2] <;> iassumption

/-- The activations sent to the third device, the weights staged. -/
theorem spec_part3 (K : Dev nD × Fin 17 → ℕ) (c : Dev nD) (i : grid0.Coords) (h1 : k0_cond1 i = 1#1) {α : Type} (Q : α → sProp 𝕄) (kk : _ → Prog (TpuEff nD τ sig (Elt F) Λ₀ .tc) α) :
    iprop(recs m K ∗ Ow c (owX1 c) ∗ Pass (F := F) c 2 ∗ xAt c c (qsh 2) (XALL m) ∗ ((c : Thread nD τ).loc main_arg1 ↦{fullShare} wqin m c) ∗ ((c : Thread nD τ).loc main_arg4 ↦{fullShare} woin m c)
        ∗ (∃ f, (c : Thread nD τ).loc cc0_stg0_0 ↦{fullShare} f) ∗ semVal (dcell c dsq) 0
        ∗ (∃ f, (c : Thread nD τ).loc cc0_scratch7 ↦{fullShare} (f : S1024x1024.Idx → Elt F .bf16)) ∗ (∃ f, (c : Thread nD τ).loc cc0_scratch8 ↦{fullShare} (f : S1024x1024.Idx → Elt F .bf16)))
      ⊢ iprop(((Ow c (owR c 3) ∗ cr (F := F) c (xsq (nx c ((2 : Fin 3).val + 1))) ∗ ((c : Thread nD τ).loc main_arg1 ↦{fullShare} wqin m c) ∗ ((c : Thread nD τ).loc main_arg4 ↦{fullShare} woin m c)
          ∗ ((c : Thread nD τ).loc cc0_stg0_0 ↦{fullShare} lift3 (woin m c)) ∗ semVal (dcell c dsq) 0 ∗ ((c : Thread nD τ).loc cc0_scratch7 ↦{fullShare} WQB m c) ∗ ((c : Thread nD τ).loc cc0_scratch8 ↦{fullShare} WOB m c))
            -∗ WP c (kk ⟨k0_pay6, k0_pay7, k0_pay8, k0_pay9⟩) Q)
        -∗ WP c (k0_part3 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 c h1 >>= fun v145 => k0_part4 i aX (Memref.isWhole_whole main_arg0) aQ (Memref.isWhole_whole main_arg1) aK (Memref.isWhole_whole main_arg2) aV (Memref.isWhole_whole main_arg3) aO (Memref.isWhole_whole main_arg4) gM (Memref.isWhole_whole cc0_stg0_0) xM (Memref.isWhole_whole cc0_scratch0) pM (Memref.isWhole_whole cc0_scratch1) iM (Memref.isWhole_whole cc0_scratch2) kM (Memref.isWhole_whole cc0_scratch3) vM (Memref.isWhole_whole cc0_scratch4) qM (Memref.isWhole_whole cc0_scratch5) cM (Memref.isWhole_whole cc0_scratch6) wM (Memref.isWhole_whole cc0_scratch7) oM (Memref.isWhole_whole cc0_scratch8) bM (Memref.isWhole_whole cc0_scratch9) cc0_scratch10 cc0_scratch11 cc0_scratch12 cc0_scratch13 cc0_scratch14 cc0_scratch15 cc0_scratch16 v145 >>= kk) Q) := by
  rw [k0_part3_eq_skeleton, k0_part4_eq_skeleton]
  unfold k0_part3_skel k0_part4_skel
  simp only [semSignalWord, semWaitWord, Prog.lift, Prog.bind_op, Prog.bind_ret, Prog.pure_eq_ret, bind_assoc, pure_bind]
  unfold Pass
  iintro ⟨#HR, HO, ⟨Hx2, Ht2, Hu2⟩, Hs2, Hq, Ho, Hg, Hd, ⟨%fw, Hw⟩, ⟨%fo, Hob⟩⟩ Hk
  rw [owX1_eq]
  iapply (wp_send_x m K c _ 2 (dev6 c _) (k0_off4_eq c) (k0_off4_eq c) (sem_xs (off2_2 c)) (sem_xr (k0_off3_eq c)) (owR c 3)) $$ [HO Hs2 Hx2 Ht2 Hu2]
  · isplitr; · iexact HR
    isplitl [Hs2]; · iexact Hs2
    isplitl [Hx2]; · iexact Hx2
    isplitl [HO]; · iexact HO
    isplitl [Ht2] <;> iassumption
  iintro ⟨Hc2, HO⟩
  iapply (stage_q m K c sem_ds (above_mono (by decide) (above_owR c 3))) $$ [Hq Hg Hd HO]
  · isplitr; · iexact HR
    isplitl [Hq]; · iexact Hq
    isplitl [Hg]; · iexact Hg
    isplitl [Hd] <;> iassumption
  iintro ⟨Hq, Hg, Hd, HO⟩
  iapply (ldw_g c) $$ Hg
  iintro Hg
  iapply (stw_w c) $$ Hw
  iintro Hw
  iapply (stage_o m K c sem_ds (above_mono (by decide) (above_owR c 3))) $$ [Ho Hg Hd HO]
  · isplitr; · iexact HR
    isplitl [Ho]; · iexact Ho
    isplitl [Hg]; · iexists _; iexact Hg
    isplitl [Hd] <;> iassumption
  iintro ⟨Ho, Hg, Hd, HO⟩
  iapply (ldw_g c) $$ Hg
  iintro Hg
  iapply (stw_o c) $$ Hob
  iintro Hob
  iapply Hk
  isplitl [HO]; · iexact HO
  isplitl [Hc2]; · iexact Hc2
  isplitl [Hq]; · iexact Hq
  isplitl [Ho]; · iexact Ho
  isplitl [Hg]; · iexact Hg
  isplitl [Hd]; · iexact Hd
  isplitl [Hw]; · iexact Hw
  iexact Hob

/-- The opening, whole. -/
theorem spec_seg1 (K : Dev nD × Fin 17 → ℕ) (c : Dev nD) (i : grid0.Coords) (v2 : BitVec 32) (h1 : k0_cond1 i = 1#1) (Q : PUnit → sProp 𝕄) :
    iprop(recs m K ∗ Ow c (O₀ c) ∗ all3 (fun k => dutyTok ER (bcell (nx c (k.val + 1))) 0 c) ∗ all3 (Lend (F := F) c) ∗ (atPos ER (bcell c) 0 ∅ 0 ∗ cred (tallyAt (bcell c) () 3))
        ∗ (((c : Thread nD τ).loc main_arg0 ↦{fullShare} xin m c) ∗ ((c : Thread nD τ).loc main_arg1 ↦{fullShare} wqin m c) ∗ ((c : Thread nD τ).loc main_arg4 ↦{fullShare} woin m c)) ∗ (∃ f, (c : Thread nD τ).loc cc0_stg0_0 ↦{fullShare} f) ∗ semVal (dcell c dsq) 0
        ∗ all3 (fun k => iprop(tok (F := F) c (xsq (nx c (k.val + 1))) ∗ tok (F := F) (nx c (k.val + 1)) (xrq c))) ∗ (∃ f, xAt (F := F) c c fullShare f)
        ∗ (∃ f, (c : Thread nD τ).loc cc0_scratch7 ↦{fullShare} (f : S1024x1024.Idx → Elt F .bf16)) ∗ (∃ f, (c : Thread nD τ).loc cc0_scratch8 ↦{fullShare} (f : S1024x1024.Idx → Elt F .bf16)) ∗ (∃ f, (c : Thread nD τ).loc cc0_scratch9 ↦{fullShare} (f : S1024x1024.Idx → Elt F .bf16)))
      ⊢ iprop(((Ow c (owR c 3) ∗ all3 (fun k => iprop(∃ f, iAt (F := F) (nx c (k.val + 1)) k.rev f)) ∗ semVal (bcell c) 0 ∗ all3 (fun k => cr (F := F) c (xsq (nx c (k.val + 1)))) ∗ xAt c c (qsh 3) (XALL m)
          ∗ (((c : Thread nD τ).loc main_arg0 ↦{fullShare} xin m c) ∗ ((c : Thread nD τ).loc main_arg1 ↦{fullShare} wqin m c) ∗ ((c : Thread nD τ).loc main_arg4 ↦{fullShare} woin m c))
          ∗ ((c : Thread nD τ).loc cc0_stg0_0 ↦{fullShare} lift3 (woin m c)) ∗ semVal (dcell c dsq) 0
          ∗ ((c : Thread nD τ).loc cc0_scratch7 ↦{fullShare} WQB m c) ∗ ((c : Thread nD τ).loc cc0_scratch8 ↦{fullShare} WOB m c) ∗ ((c : Thread nD τ).loc cc0_scratch9 ↦{fullShare} (BIAS : S1024x1024.Idx → Elt F .bf16))) -∗ Q ⟨⟩)
        -∗ WP c (seg1 i c v2 h1) Q) := by
  unfold seg1 WP
  rw [wp_bind]
  iintro ⟨#HR, HO, HT, HL, HB, ⟨Hx, Hq, Ho⟩, Hg, Hd, ⟨⟨Ht0, Hu0⟩, ⟨Ht1, Hu1⟩, ⟨Ht2, Hu2⟩⟩, Hxs, Hw, Hob, ⟨%fb, Hbb⟩⟩ Hk
  iapply (spec_part1 m K c i v2 h1) $$ [HO HT HL HB Hx Hg Hd]
  · isplitr; · iexact HR
    isplitl [HO]; · iexact HO
    isplitl [HT]; · iexact HT
    isplitl [HL]; · iexact HL
    isplitl [HB]; · iexact HB
    isplitl [Hx]; · iexact Hx
    isplitl [Hg] <;> iassumption
  iintro ⟨HO, ⟨HL0, HL1, HL2⟩, Hz, Hx, Hg, Hd⟩
  unfold Lease
  icases HL0 with ⟨Hl0, Hi0⟩
  icases HL1 with ⟨Hl1, Hi1⟩
  icases HL2 with ⟨Hl2, Hi2⟩
  rw [wp_bind]
  iapply (spec_part2 m K c i v2 h1) $$ [HO Hl0 Ht0 Hu0 Hl1 Ht1 Hu1 Hxs]
  · isplitr; · iexact HR
    isplitl [HO]; · iexact HO
    unfold Pass
    isplitl [Hl0 Ht0 Hu0]
    · isplitl [Hl0]; · iexact Hl0
      isplitl [Ht0] <;> iassumption
    isplitl [Hl1 Ht1 Hu1]
    · isplitl [Hl1]; · iexact Hl1
      isplitl [Ht1] <;> iassumption
    iexact Hxs
  iintro ⟨HO, Hc0, Hc1, Hs2, Hs3⟩
  iapply (spec_part3 m K c i h1) $$ [HO Hl2 Ht2 Hu2 Hs2 Hq Ho Hg Hd Hw Hob]
  · isplitr; · iexact HR
    isplitl [HO]; · iexact HO
    unfold Pass
    isplitl [Hl2 Ht2 Hu2]
    · isplitl [Hl2]; · iexact Hl2
      isplitl [Ht2] <;> iassumption
    isplitl [Hs2]; · iexact Hs2
    isplitl [Hq]; · iexact Hq
    isplitl [Ho]; · iexact Ho
    isplitl [Hg]; · iexact Hg
    isplitl [Hd]; · iexact Hd
    isplitl [Hw] <;> iassumption
  simp only [semSignalWord, semWaitWord, Prog.lift, Prog.bind_op, Prog.bind_ret, Prog.pure_eq_ret, bind_assoc, pure_bind]
  iintro ⟨HO, Hc2, Hq, Ho, Hg, Hd, Hw, Hob⟩
  iapply (stw_b c) $$ Hbb
  iintro Hbb
  iapply wp_done
  iapply Hk
  isplitl [HO]; · iexact HO
  isplitl [Hi0 Hi1 Hi2]
  · isplitl [Hi0]; · iexact Hi0
    isplitl [Hi1] <;> iassumption
  isplitl [Hz]; · iexact Hz
  isplitl [Hc0 Hc1 Hc2]
  · isplitl [Hc0]; · iexact Hc0
    isplitl [Hc1] <;> iassumption
  isplitl [Hs3]; · iexact Hs3
  isplitl [Hx Hq Ho]
  · isplitl [Hx]; · iexact Hx
    isplitl [Hq] <;> iassumption
  isplitl [Hg]; · iexact Hg
  isplitl [Hd]; · iexact Hd
  isplitl [Hw]; · iexact Hw
  isplitl [Hob]; · iexact Hob
  iexact Hbb

end Cert.AttnProof

end
-- ==== Proof.Enter.lean ====
/-
The launch's state cut into the parts the opening takes, and put together again at the end.
-/
module

public import proofs.«01_k».proof.Proof.Open

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem x_split (c : Dev nD) : (∃ f, (c : Thread nD τ).loc cc0_scratch0 ↦{fullShare} (f : S4x1024x1024.Idx → Elt F .bf16) : sProp 𝕄) ⊢ iprop((∃ f, xAt (F := F) c c fullShare f) ∗ all3 fun k => iprop(∃ f, xAt (F := F) c (nx c (k.val + 1)) fullShare f)) := by
  iintro ⟨%f, H⟩
  have e := slots_split (ℓ := (c : Thread nD τ).loc cc0_scratch0) xSet xSet_disj xSet_cover fullShare f
  rw [rot4 c] at e
  ihave H := (Entails.of_eq e) $$ H
  icases H with ⟨H, H0, H1, H2⟩
  isplitl [H]; · iexists f; iexact H
  isplitl [H0]; · iexists f; iexact H0
  isplitl [H1]; · iexists f; iexact H1
  iexists f; iexact H2

theorem x_join (c : Dev nD) (f₀ : S4x1024x1024.Idx → Elt F .bf16) : iprop((∃ f, xAt (F := F) c c fullShare f) ∗ all3 fun k => iprop(∃ f, xAt (F := F) c (nx c (k.val + 1)) fullShare f)) ⊢ (∃ f, (c : Thread nD τ).loc cc0_scratch0 ↦{fullShare} (f : S4x1024x1024.Idx → Elt F .bf16) : sProp 𝕄) := by
  have e := slots_join (F := F) (ℓ := (c : Thread nD τ).loc cc0_scratch0) xSet xSet_disj xSet_cover fullShare f₀
  rw [rot4 c] at e
  exact e

theorem p_split (c : Dev nD) : (∃ f, (c : Thread nD τ).loc cc0_scratch1 ↦{fullShare} (f : S4x1024x1024.Idx → Elt F .bf16) : sProp 𝕄) ⊢ iprop((∃ f, pAt (F := F) c c f) ∗ all3 fun k => iprop(∃ f, pAt (F := F) c (nx c (k.val + 1)) f)) := by
  iintro ⟨%f, H⟩
  have e := slots_split (ℓ := (c : Thread nD τ).loc cc0_scratch1) xSet xSet_disj xSet_cover fullShare f
  rw [rot4 c] at e
  ihave H := (Entails.of_eq e) $$ H
  icases H with ⟨H, H0, H1, H2⟩
  isplitl [H]; · iexists f; iexact H
  isplitl [H0]; · iexists f; iexact H0
  isplitl [H1]; · iexists f; iexact H1
  iexists f; iexact H2

theorem p_join (c : Dev nD) (f₀ : S4x1024x1024.Idx → Elt F .bf16) : iprop((∃ f, pAt (F := F) c c f) ∗ all3 fun k => iprop(∃ f, pAt (F := F) c (nx c (k.val + 1)) f)) ⊢ (∃ f, (c : Thread nD τ).loc cc0_scratch1 ↦{fullShare} (f : S4x1024x1024.Idx → Elt F .bf16) : sProp 𝕄) := by
  have e := slots_join (F := F) (ℓ := (c : Thread nD τ).loc cc0_scratch1) xSet xSet_disj xSet_cover fullShare f₀
  rw [rot4 c] at e
  exact e

theorem i_split (c : Dev nD) : (∃ f, (c : Thread nD τ).loc cc0_scratch2 ↦{fullShare} (f : S3x1024x1024.Idx → Elt F .bf16) : sProp 𝕄) ⊢ all3 fun k => iprop(∃ f, iAt (F := F) c k f) := by
  iintro ⟨%f, H⟩
  have e := slots_split (ℓ := (c : Thread nD τ).loc cc0_scratch2) pSet pSet_disj pSet_cover fullShare f
  rw [list3] at e
  ihave H := (Entails.of_eq e) $$ H
  icases H with ⟨H0, H1, H2⟩
  isplitl [H0]; · iexists f; iexact H0
  isplitl [H1]; · iexists f; iexact H1
  iexists f; iexact H2

theorem i_join (c : Dev nD) (f₀ : S3x1024x1024.Idx → Elt F .bf16) : (all3 fun k => iprop(∃ f, iAt (F := F) c k f)) ⊢ (∃ f, (c : Thread nD τ).loc cc0_scratch2 ↦{fullShare} (f : S3x1024x1024.Idx → Elt F .bf16) : sProp 𝕄) := by
  have e := slots_join (F := F) (ℓ := (c : Thread nD τ).loc cc0_scratch2) pSet pSet_disj pSet_cover fullShare f₀
  rw [list3] at e
  exact e

theorem idleK_split (c : Dev nD) : iprop((∃ f, (c : Thread nD τ).loc cc0_scratch3 ↦{fullShare} (f : S2x1024x8x128.Idx → Elt F .f32)) ∗ z0 (F := F) c (dkq 0) ∗ z0 (F := F) c (dkq 1)) ⊢ iprop(idleK (F := F) c 0 ∗ idleK (F := F) c 1) := by
  unfold idleK
  iintro ⟨⟨%f, H⟩, Hz0, Hz1⟩
  have e := slots_split (ℓ := (c : Thread nD τ).loc cc0_scratch3) kSlot kSlot_disj kSlot_cover fullShare f
  rw [list2] at e
  ihave H := (Entails.of_eq e) $$ H
  icases H with ⟨H0, H1⟩
  isplitl [H0 Hz0]
  · isplitl [H0]
    · iexists f; iexact H0
    iexact Hz0
  isplitl [H1]
  · iexists f; iexact H1
  iexact Hz1

theorem idleK_join (c : Dev nD) (f₀ : S2x1024x8x128.Idx → Elt F .f32) : iprop(idleK (F := F) c 0 ∗ idleK (F := F) c 1) ⊢ iprop((∃ f, (c : Thread nD τ).loc cc0_scratch3 ↦{fullShare} (f : S2x1024x8x128.Idx → Elt F .f32)) ∗ z0 (F := F) c (dkq 0) ∗ z0 (F := F) c (dkq 1)) := by
  unfold idleK
  have e := slots_join (F := F) (ℓ := (c : Thread nD τ).loc cc0_scratch3) kSlot kSlot_disj kSlot_cover fullShare f₀
  rw [list2] at e
  iintro ⟨⟨H0, Hz0⟩, ⟨H1, Hz1⟩⟩
  isplitl [H0 H1]
  · iapply e
    isplitl [H0] <;> iassumption
  isplitl [Hz0] <;> iassumption

theorem idleV_split (c : Dev nD) : iprop((∃ f, (c : Thread nD τ).loc cc0_scratch4 ↦{fullShare} (f : S2x1024x8x128.Idx → Elt F .f32)) ∗ z0 (F := F) c (dvq 0) ∗ z0 (F := F) c (dvq 1)) ⊢ iprop(idleV (F := F) c 0 ∗ idleV (F := F) c 1) := by
  unfold idleV
  iintro ⟨⟨%f, H⟩, Hz0, Hz1⟩
  have e := slots_split (ℓ := (c : Thread nD τ).loc cc0_scratch4) kSlot kSlot_disj kSlot_cover fullShare f
  rw [list2] at e
  ihave H := (Entails.of_eq e) $$ H
  icases H with ⟨H0, H1⟩
  isplitl [H0 Hz0]
  · isplitl [H0]
    · iexists f; iexact H0
    iexact Hz0
  isplitl [H1]
  · iexists f; iexact H1
  iexact Hz1

theorem idleV_join (c : Dev nD) (f₀ : S2x1024x8x128.Idx → Elt F .f32) : iprop(idleV (F := F) c 0 ∗ idleV (F := F) c 1) ⊢ iprop((∃ f, (c : Thread nD τ).loc cc0_scratch4 ↦{fullShare} (f : S2x1024x8x128.Idx → Elt F .f32)) ∗ z0 (F := F) c (dvq 0) ∗ z0 (F := F) c (dvq 1)) := by
  unfold idleV
  have e := slots_join (F := F) (ℓ := (c : Thread nD τ).loc cc0_scratch4) kSlot kSlot_disj kSlot_cover fullShare f₀
  rw [list2] at e
  iintro ⟨⟨H0, Hz0⟩, ⟨H1, Hz1⟩⟩
  isplitl [H0 H1]
  · iapply e
    isplitl [H0] <;> iassumption
  isplitl [Hz0] <;> iassumption

/-- The opening and the first fetch: from the launch's state to the first batch. -/
theorem spec_open (K : Dev nD × Fin 17 → ℕ) (c : Dev nD) (i : grid0.Coords) (v2 : BitVec 32) (h1 : k0_cond1 i = 1#1) (h2 : k0_cond2 i = 1#1) (h0 : (i 0).val = 0) (Q : PUnit → sProp 𝕄) :
    iprop(recs m K ∗ Ow c (O₀ c) ∗ Start m c ∗ (∃ f, (c : Thread nD τ).loc cc0_stg0_0 ↦{fullShare} f))
      ⊢ iprop(((Ow c (owR c 3) ∗ Edge m c 0 ∗ ((c : Thread nD τ).loc cc0_stg0_0 ↦{fullShare} lift3 (woin m c))) -∗ Q ⟨⟩)
        -∗ WP c (seg1 i c v2 h1) fun _ => WP c (seg2 i c h2) Q) := by
  unfold Start Args Scr Loc0 Ghost Deal
  iintro ⟨#HR, HO, ⟨⟨Ha0, Ha1, Ha2, Ha3, Ha4⟩, ⟨Hx, Hp, Hi, Hks, Hvs, Hqs, Hcs, Hw, Ho, Hb⟩, ⟨Hd, Hdk, Hdv⟩,
    ⟨⟨⟨Hb0, ⟨Hu0, Hr0, Ht0, Hs0⟩, ⟨HX0, HY0, HZ0, HW0⟩, HC0, HD0⟩, ⟨Hb1, ⟨Hu1, Hr1, Ht1, Hs1⟩, ⟨HX1, HY1, HZ1, HW1⟩, HC1, HD1⟩, ⟨Hb2, ⟨Hu2, Hr2, Ht2, Hs2⟩, ⟨HX2, HY2, HZ2, HW2⟩, HC2, HD2⟩⟩, HB, Hown⟩⟩, Hg⟩ Hk
  ihave Hx := (x_split c) $$ Hx
  icases Hx with ⟨Hx, ⟨Hx0, Hx1, Hx2⟩⟩
  ihave Hp := (p_split c) $$ Hp
  icases Hp with ⟨Hp, ⟨Hp0, Hp1, Hp2⟩⟩
  ihave Hi := (i_split c) $$ Hi
  icases Hi with ⟨Hi0, Hi1, Hi2⟩
  ihave HK := (idleK_split c) $$ [Hks Hdk]
  · isplitl [Hks] <;> iassumption
  icases HK with ⟨HK0, HK1⟩
  ihave HV := (idleV_split c) $$ [Hvs Hdv]
  · isplitl [Hvs] <;> iassumption
  icases HV with ⟨HV0, HV1⟩
  iapply (spec_seg1 m K c i v2 h1) $$ [HO Hb0 Hb1 Hb2 Hx0 Hx1 Hx2 Hi0 Hi1 Hi2 HB Ha0 Ha1 Ha4 Hg Hd Ht0 Ht1 Ht2 Hu0 Hu1 Hu2 Hx Hw Ho Hb]
  · isplitr; · iexact HR
    isplitl [HO]; · iexact HO
    isplitl [Hb0 Hb1 Hb2]
    · isplitl [Hb0]; · iexact Hb0
      isplitl [Hb1] <;> iassumption
    isplitl [Hx0 Hx1 Hx2 Hi0 Hi1 Hi2]
    · unfold Lend
      isplitl [Hx0 Hi0]
      · isplitl [Hx0] <;> iassumption
      isplitl [Hx1 Hi1]
      · isplitl [Hx1] <;> iassumption
      isplitl [Hx2] <;> iassumption
    isplitl [HB]; · iexact HB
    isplitl [Ha0 Ha1 Ha4]
    · isplitl [Ha0]; · iexact Ha0
      isplitl [Ha1] <;> iassumption
    isplitl [Hg]; · iexact Hg
    isplitl [Hd]; · iexact Hd
    isplitl [Ht0 Ht1 Ht2 Hu0 Hu1 Hu2]
    · isplitl [Ht0 Hu0]
      · isplitl [Ht0] <;> iassumption
      isplitl [Ht1 Hu1]
      · isplitl [Ht1] <;> iassumption
      isplitl [Ht2] <;> iassumption
    isplitl [Hx]; · iexact Hx
    isplitl [Hw]; · iexact Hw
    isplitl [Ho] <;> iassumption
  iintro ⟨HO, ⟨Hi0, Hi1, Hi2⟩, Hz, ⟨Hc0, Hc1, Hc2⟩, Hx, ⟨Ha0, Ha1, Ha4⟩, Hg, Hd, Hw, Ho, Hb⟩
  have h := spec_seg2 m c i h2 Q
  rw [h0] at h
  iapply h $$ [Ha2 HK0 Ha3 HV0]
  · isplitl [Ha2 HK0]
    · isplitl [Ha2]; · iexact Ha2
      iexact HK0
    isplitl [Ha3]; · iexact Ha3
    iexact HV0
  iintro ⟨HrK, HrV⟩
  iapply Hk
  isplitl [HO]; · iexact HO
  isplitr [Hg]
  · unfold Edge
    isplitl [Hw Ho Hb Ha0 Ha1 Ha4 Hd Hz Hx Hown HX0 HX1 HX2 Hc0 Hc1 Hc2 HW0 HW1 HW2 HD0 HD1 HD2]
    · unfold Keep Lent
      isplitl [Hw]; · iexact Hw
      isplitl [Ho]; · iexact Ho
      isplitl [Hb]; · iexact Hb
      isplitl [Ha0]; · iexact Ha0
      isplitl [Ha1]; · iexact Ha1
      isplitl [Ha4]; · iexact Ha4
      isplitl [Hd]; · iexact Hd
      isplitl [Hz]; · iexact Hz
      isplitl [Hx]; · iexact Hx
      isplitl [HX0 HX1 HX2 Hc0 Hc1 Hc2]
      · isplitl [HX0 Hc0]
        · isplitl [HX0] <;> iassumption
        isplitl [HX1 Hc1]
        · isplitl [HX1] <;> iassumption
        isplitl [HX2] <;> iassumption
      isplitl [HW0 HW1 HW2 HD0 HD1 HD2]
      · isplitl [HW0 HD0]
        · isplitl [HW0] <;> iassumption
        isplitl [HW1 HD1]
        · isplitl [HW1] <;> iassumption
        isplitl [HW2] <;> iassumption
      iexact Hown
    isplitl [HY0 HY1 HY2 HC0 HC1 HC2]
    · rw [show 0 - 1 = 0 from rfl, XR_zero]
      unfold xrWait
      isplitl [HY0 HC0]
      · isplitl [HY0] <;> iassumption
      isplitl [HY1 HC1]
      · isplitl [HY1] <;> iassumption
      isplitl [HY2] <;> iassumption
    isplitl [Hp Hp0 Hp1 Hp2 Hi0 Hi1 Hi2 HZ0 HZ1 HZ2 Hs0 Hs1 Hs2 Hr0 Hr1 Hr2]
    · rw [PG_start]
      unfold pgWait
      isplitl [Hp]; · iexact Hp
      isplitl [HZ0 Hp0 Hi0 Hs0 Hr0]
      · isplitl [HZ0]; · iexact HZ0
        isplitl [Hp0]; · iexact Hp0
        isplitl [Hi0]; · iexact Hi0
        isplitl [Hs0] <;> iassumption
      isplitl [HZ1 Hp1 Hi1 Hs1 Hr1]
      · isplitl [HZ1]; · iexact HZ1
        isplitl [Hp1]; · iexact Hp1
        isplitl [Hi1]; · iexact Hi1
        isplitl [Hs1] <;> iassumption
      isplitl [HZ2]; · iexact HZ2
      isplitl [Hp2]; · iexact Hp2
      isplitl [Hi2]; · iexact Hi2
      isplitl [Hs2] <;> iassumption
    isplitl [HrK HK1]
    · isplitl [HrK]; · iexact HrK
      iexact HK1
    isplitl [HrV HV1]
    · isplitl [HrV]; · iexact HrV
      iexact HV1
    isplitl [Hqs] <;> iassumption
  iexact Hg

end Cert.AttnProof

end
-- ==== Proof.Leave.lean ====
/-
The last point's end: the parts received and added up, the copies sent waited for, everything put together again.
-/
module

public import proofs.«01_k».proof.Proof.Enter

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem off27_0 (c : Dev nD) : k0_off27 c 1#32 = ![(nx c ((0 : Fin 3).val + 1)).val] := k0_off27_eq c 0
theorem off27_1 (c : Dev nD) : k0_off27 c 2#32 = ![(nx c ((1 : Fin 3).val + 1)).val] := k0_off27_eq c 1
theorem off27_2 (c : Dev nD) : k0_off27 c 3#32 = ![(nx c ((2 : Fin 3).val + 1)).val] := k0_off27_eq c 2

def prWait (c : Dev nD) (r : Fin 3) : sProp 𝕄 := iprop(at0 (F := F) c (prq r.castSucc) ∗ cr (F := F) c (prq r.castSucc))
def xsWait (c : Dev nD) (k : Fin 3) : sProp 𝕄 := iprop(at0 (F := F) c (xsq (nx c (k.val + 1))) ∗ cr (F := F) c (xsq (nx c (k.val + 1))))
def prDone (c : Dev nD) (r : Fin 3) : sProp 𝕄 := iprop(iAt c r (PINALL m c) ∗ z0 (F := F) c (prq r.castSucc))
def xsDone (c : Dev nD) (k : Fin 3) : sProp 𝕄 := iprop(xAt c c (qsh k.castSucc) (XALL m) ∗ z0 (F := F) c (xsq (nx c (k.val + 1))))
def psDone (c : Dev nD) (k : Fin 3) : sProp 𝕄 := iprop(pAt c (nx c (k.val + 1)) (PALL m c) ∗ z0 (F := F) c (psq (nx c (k.val + 1))))

theorem payD_xs' (c : Dev nD) (k : Fin 3) : payD m c (xsq (nx c (k.val + 1))) = xAt c c (qsh k.castSucc) (XALL m) := by
  rw [payD_xs]; unfold xsPay; rw [gap_nx]

theorem lvS_pr4 (r : Fin 4) : lvS (.dma (prq r) : SemLoc sig) < 4 := by revert r; decide

theorem wait_pr (K : Dev nD × Fin 17 → ℕ) (c : Dev nD) (r : Fin 3) {sem : DmaSem sig} (hsem : sem = prq r.castSucc) {O : CellTallies nD τ sig Unit} (hO : Above 4 O)
    {sp' : Space} {s' : Shape} {e' : EltTy} {srcw : Memref sig .tc sp' s' e'} {off : Fin 3 → ℕ} {inb : ∀ a, off a + S1x1024x1024.size a ≤ S3x1024x1024.size a} {hsrc hdst}
    {α : Type} {Q : α → sProp 𝕄} {kk : PUnit → Prog (TpuEff nD τ sig (Elt F) Λ₀ .tc) α} :
    iprop(recs m K ∗ Ow c O ∗ prWait (F := F) c r) ⊢ iprop(((Ow c O ∗ iAt c r (PINALL m c) ∗ z0 (F := F) c (prq r.castSucc)) -∗ WP c (kk ⟨⟩) Q)
        -∗ WP c (.op (.waitDma2 sem srcw ((iM.slice (Rect.unit (s := S3x1024x1024) off S1x1024x1024.size inb) (fun _ => rfl)).squeeze S1024x1024 squeezes_S1x1024x1024_S1024x1024) hsrc hdst) kk) Q) := by
  unfold prWait
  iintro ⟨#HR, HO, Hat, Hc⟩ Hk
  iapply (wp_wait_i m K c (prq r.castSucc) hsem (Nat.succ_ne_zero _) (by have := r.isLt; show r.val + 13 < 17; omega) (dutiesD_pr c r) (lvS_pr4 _) hO) $$ [Hat Hc HO]
  · isplitr; · iexact HR
    isplitl [Hc]; · iexact Hc
    isplitl [HO] <;> iassumption
  rw [payD_pr]
  unfold prPay
  iintro ⟨HO, Hz, Hp⟩
  iapply Hk
  isplitl [HO]; · iexact HO
  isplitl [Hp] <;> iassumption

theorem wait_xs (K : Dev nD × Fin 17 → ℕ) (c : Dev nD) (k : Fin 3) {sem : DmaSem sig} (hsem : sem = xsq (nx c (k.val + 1))) {O : CellTallies nD τ sig Unit} (hO : Above 4 O)
    {sp' : Space} {s' : Shape} {e' : EltTy} {srcw : Memref sig .tc sp' s' e'} {off : Fin 3 → ℕ} {inb : ∀ a, off a + S1x1024x1024.size a ≤ S4x1024x1024.size a} {hsrc hdst}
    {α : Type} {Q : α → sProp 𝕄} {kk : PUnit → Prog (TpuEff nD τ sig (Elt F) Λ₀ .tc) α} :
    iprop(recs m K ∗ Ow c O ∗ xsWait (F := F) c k) ⊢ iprop(((Ow c O ∗ xsDone m c k) -∗ WP c (kk ⟨⟩) Q)
        -∗ WP c (.op (.waitDma2 sem srcw ((xM.slice (Rect.unit (s := S4x1024x1024) off S1x1024x1024.size inb) (fun _ => rfl)).squeeze S1024x1024 squeezes_S1x1024x1024_S1024x1024) hsrc hdst) kk) Q) := by
  unfold xsWait xsDone
  iintro ⟨#HR, HO, Hat, Hc⟩ Hk
  iapply (wp_wait_x m K c (xsq (nx c (k.val + 1))) hsem (Nat.succ_ne_zero _) (by show _ + 1 < 17; omega) (dutiesD_xs (nx_ne c k)) (lvS_xs _) (above_mono (by decide : 1 ≤ 4) hO)) $$ [Hat Hc HO]
  · isplitr; · iexact HR
    isplitl [Hc]; · iexact Hc
    isplitl [HO] <;> iassumption
  rw [payD_xs']
  iintro ⟨HO, Hz, Hp⟩
  iapply Hk
  isplitl [HO]; · iexact HO
  isplitl [Hp] <;> iassumption

theorem wait_ps (K : Dev nD × Fin 17 → ℕ) (c : Dev nD) (k : Fin 3) {sem : DmaSem sig} (hsem : sem = psq (nx c (k.val + 1))) {O : CellTallies nD τ sig Unit} (hO : Above 4 O)
    {sp' : Space} {s' : Shape} {e' : EltTy} {srcw : Memref sig .tc sp' s' e'} {off : Fin 3 → ℕ} {inb : ∀ a, off a + S1x1024x1024.size a ≤ S4x1024x1024.size a} {hsrc hdst}
    {α : Type} {Q : α → sProp 𝕄} {kk : PUnit → Prog (TpuEff nD τ sig (Elt F) Λ₀ .tc) α} :
    iprop(recs m K ∗ Ow c O ∗ pgDone (F := F) c k) ⊢ iprop(((Ow c O ∗ psDone m c k) -∗ WP c (kk ⟨⟩) Q)
        -∗ WP c (.op (.waitDma2 sem srcw ((pM.slice (Rect.unit (s := S4x1024x1024) off S1x1024x1024.size inb) (fun _ => rfl)).squeeze S1024x1024 squeezes_S1x1024x1024_S1024x1024) hsrc hdst) kk) Q) := by
  unfold pgDone psDone
  iintro ⟨#HR, HO, Hat, Hc⟩ Hk
  iapply (wp_wait_p m K c (psq (nx c (k.val + 1))) hsem (Nat.succ_ne_zero _) (by show _ + 9 < 17; omega) (dutiesD_ps (nx_ne c k)) (lvS_ps _) (above_mono (by decide : 1 ≤ 4) hO)) $$ [Hat Hc HO]
  · isplitr; · iexact HR
    isplitl [Hc]; · iexact Hc
    isplitl [HO] <;> iassumption
  rw [payD_ps]
  unfold psPay
  iintro ⟨HO, Hz, Hp⟩
  iapply Hk
  isplitl [HO]; · iexact HO
  isplitl [Hp] <;> iassumption

theorem out_eq (c : Dev nD) : k0_pay11 (k0_pay10 (POUT m c c) (POUT m (nx c ((2 : Fin 3).val + 1)) c)) (POUT m (nx c ((1 : Fin 3).val + 1)) c) (POUT m (nx c ((0 : Fin 3).val + 1)) c) = OUT m c := rfl

theorem off25' (c : Dev nD) : k0_off25 c = ![c.val, 0, 0] := k0_off25_eq c

/-- The end. -/
theorem spec_seg8 (K : Dev nD × Fin 17 → ℕ) (c : Dev nD) (i : grid0.Coords) (v2 : BitVec 32) (h8 : k0_cond8 i = 1#1) {O : CellTallies nD τ sig Unit} (hO : Above 4 O) (Q : PUnit → sProp 𝕄) :
    iprop(recs m K ∗ Ow c O ∗ pAt c c (PALL m c) ∗ all3 (prWait (F := F) c) ∗ all3 (xsWait (F := F) c) ∗ all3 (pgDone (F := F) c) ∗ (∃ f, (c : Thread nD τ).loc cc0_stg0_0 ↦{fullShare} f))
      ⊢ iprop(((Ow c O ∗ pAt c c (PALL m c) ∗ all3 (prDone m c) ∗ all3 (xsDone m c) ∗ all3 (psDone m c) ∗ ((c : Thread nD τ).loc cc0_stg0_0 ↦{fullShare} OUT m c)) -∗ Q ⟨⟩)
        -∗ WP c (seg8 i c v2 h8) Q) := by
  unfold seg8
  rw [k0_part5_eq_skeleton, k0_part6_eq_skeleton, k0_part7_eq_skeleton]
  unfold k0_part5_skel k0_part6_skel k0_part7_skel
  simp only [semSignalWord, semWaitWord, Prog.lift, Prog.bind_op, Prog.bind_ret, Prog.pure_eq_ret, bind_assoc, pure_bind]
  iintro ⟨#HR, HO, Hp, ⟨Hr0, Hr1, Hr2⟩, ⟨Hs0, Hs1, Hs2⟩, ⟨Ht0, Ht1, Ht2⟩, ⟨%f, Hg⟩⟩ Hk
  iapply (ld_p m c c (off25' c)) $$ Hp
  iintro Hp
  iapply (wait_pr m K c 2 (sem_pr (j := 2) rfl) hO) $$ [HO Hr2]
  · isplitr; · iexact HR
    isplitl [HO] <;> iassumption
  iintro ⟨HO, Hr2, Hz2⟩
  iapply (ld_i m c 2 rfl) $$ Hr2
  iintro Hr2
  iapply (wait_pr m K c 1 (sem_pr (j := 1) rfl) hO) $$ [HO Hr1]
  · isplitr; · iexact HR
    isplitl [HO] <;> iassumption
  iintro ⟨HO, Hr1, Hz1⟩
  iapply (ld_i m c 1 rfl) $$ Hr1
  iintro Hr1
  iapply (wait_pr m K c 0 (sem_pr (j := 0) rfl) hO) $$ [HO Hr0]
  · isplitr; · iexact HR
    isplitl [HO] <;> iassumption
  iintro ⟨HO, Hr0, Hz0⟩
  iapply (ld_i m c 0 rfl) $$ Hr0
  iintro Hr0
  iapply (stw_g c) $$ Hg
  iintro Hg
  iapply (wait_xs m K c 0 (sem_xs (off27_0 c)) hO) $$ [HO Hs0]
  · isplitr; · iexact HR
    isplitl [HO] <;> iassumption
  iintro ⟨HO, Hs0⟩
  iapply (wait_ps m K c 0 (sem_ps (off27_0 c)) hO) $$ [HO Ht0]
  · isplitr; · iexact HR
    isplitl [HO] <;> iassumption
  iintro ⟨HO, Ht0⟩
  iapply (wait_xs m K c 1 (sem_xs (off27_1 c)) hO) $$ [HO Hs1]
  · isplitr; · iexact HR
    isplitl [HO] <;> iassumption
  iintro ⟨HO, Hs1⟩
  iapply (wait_ps m K c 1 (sem_ps (off27_1 c)) hO) $$ [HO Ht1]
  · isplitr; · iexact HR
    isplitl [HO] <;> iassumption
  iintro ⟨HO, Ht1⟩
  iapply (wait_xs m K c 2 (sem_xs (off27_2 c)) hO) $$ [HO Hs2]
  · isplitr; · iexact HR
    isplitl [HO] <;> iassumption
  iintro ⟨HO, Hs2⟩
  iapply (wait_ps m K c 2 (sem_ps (off27_2 c)) hO) $$ [HO Ht2]
  · isplitr; · iexact HR
    isplitl [HO] <;> iassumption
  iintro ⟨HO, Ht2⟩
  iapply wp_done
  iapply Hk
  isplitl [HO]; · iexact HO
  isplitl [Hp]; · iexact Hp
  isplitl [Hr0 Hz0 Hr1 Hz1 Hr2 Hz2]
  · unfold prDone
    isplitl [Hr0 Hz0]
    · isplitl [Hr0] <;> iassumption
    isplitl [Hr1 Hz1]
    · isplitl [Hr1] <;> iassumption
    isplitl [Hr2] <;> iassumption
  isplitl [Hs0 Hs1 Hs2]
  · isplitl [Hs0]; · iexact Hs0
    isplitl [Hs1] <;> iassumption
  isplitl [Ht0 Ht1 Ht2]
  · isplitl [Ht0]; · iexact Ht0
    isplitl [Ht1] <;> iassumption
  rw [out_eq]
  iexact Hg

theorem duties_none {c : Dev nD} {q : DmaSem sig} (h : dutiesD c q = ∅) : ∀ r, 0 ≤ r → (sched (F := F) m).duties (dcell c q) r = ∅ := fun r _ => by
  rcases r with _ | r
  · exact (duties_dma m c q).trans h
  · exact duties_later m _ _ (Nat.succ_le_succ (Nat.zero_le r))

/-- A semaphore of the exchange that nothing was due on. -/
theorem close_own (K : Dev nD × Fin 17 → ℕ) (c : Dev nD) (q : DmaSem sig) (h0 : q.val ≠ 0) (h17 : q.val < 17) (h : dutiesD c q = ∅) :
    iprop(recs m K ∗ at0 (F := F) c q) ⊢ iprop(|={Set.univ}=> z0 (F := F) c q) := by
  iintro ⟨#HR, Hat⟩
  ihave HI := (recs_dma m K c q h0 h17) $$ HR
  icases HI with ⟨HI, -⟩
  iapply (Rounds.cell_close ER (sched m) (Set.mem_univ (K (c, ⟨q.val, h17⟩))) (fun h => h) (R := 0) (duties_none m h))
  isplitl [HI] <;> iassumption

theorem fam_eq (c : Dev nD) (q : Fin 4 → DmaSem sig) : fam (F := F) c q = iprop(z0 (F := F) c (q c) ∗ z0 (F := F) c (q (nx c 1)) ∗ z0 (F := F) c (q (nx c 2)) ∗ z0 (F := F) c (q (nx c 3))) := rot4 c _
theorem fam_pr (c : Dev nD) : fam (F := F) c prq = iprop(z0 (F := F) c (prq 0) ∗ z0 (F := F) c (prq 1) ∗ z0 (F := F) c (prq 2) ∗ z0 (F := F) c (prq 3)) := by
  unfold fam
  rw [bigSep_eq_bigSepL_of_eq [0, 1, 2, 3] (by decide) (by decide)]
  rfl

/-- The end, from the state before a fifth batch to the final one. -/
theorem spec_final (K : Dev nD × Fin 17 → ℕ) (c : Dev nD) (i : grid0.Coords) (v2 : BitVec 32) (h8 : k0_cond8 i = 1#1) (Q : PUnit → sProp 𝕄) :
    iprop(recs m K ∗ Ow c (owR c 0) ∗ Edge m c 4 ∗ (∃ f, (c : Thread nD τ).loc cc0_stg0_0 ↦{fullShare} f))
      ⊢ iprop(((Ow c (owR c 0) ∗ Final m c ∗ ((c : Thread nD τ).loc cc0_stg0_0 ↦{fullShare} OUT m c)) -∗ Q ⟨⟩)
        -∗ WP c (seg8 i c v2 h8) Q) := by
  unfold Edge Keep Lent
  rw [show 4 - 1 = 3 from rfl, XR_all, PG_all, restK_last m c 4 (by decide), restV_last m c 4 (by decide)]
  iintro ⟨#HR, HO, ⟨⟨Hw, Ho, Hb, Ha0, Ha1, Ha4, Hd, Hz, Hx, HLs, HLr, ⟨Hox, Hoy, Hop, Hor⟩⟩, ⟨HX0, HX1, HX2⟩, ⟨Hp, HP⟩, ⟨⟨HK, HK0⟩, HK1⟩, ⟨⟨HV, HV0⟩, HV1⟩, Hq, Hc⟩, Hg⟩ Hk
  imod (close_own m K c (xsq c) (Nat.succ_ne_zero _) (by show _ + 1 < 17; omega) (dutiesD_xs_own c)) $$ [Hox] with Hox
  · isplitr <;> iassumption
  imod (close_own m K c (xrq c) (Nat.succ_ne_zero _) (by show _ + 5 < 17; omega) (dutiesD_xr_own c)) $$ [Hoy] with Hoy
  · isplitr <;> iassumption
  imod (close_own m K c (psq c) (Nat.succ_ne_zero _) (by show _ + 9 < 17; omega) (dutiesD_ps_own c)) $$ [Hop] with Hop
  · isplitr <;> iassumption
  imod (close_own m K c (prq 3) (Nat.succ_ne_zero _) (by decide) (dutiesD_pr_last c)) $$ [Hor] with Hor
  · isplitr <;> iassumption
  iapply (spec_seg8 m K c i v2 h8 (O := owR c 0) (above_zero 4)) $$ [HO Hp HP HLs HLr Hg]
  · isplitr; · iexact HR
    isplitl [HO]; · iexact HO
    isplitl [Hp]; · iexact Hp
    unfold prWait xsWait
    isplitl [HLr]; · iexact HLr
    isplitl [HLs]; · iexact HLs
    isplitl [HP] <;> iassumption
  unfold prDone xsDone psDone
  iintro ⟨HO, Hp, ⟨⟨Hi0, Hr0⟩, ⟨Hi1, Hr1⟩, ⟨Hi2, Hr2⟩⟩, ⟨⟨Hs0, Hy0⟩, ⟨Hs1, Hy1⟩, ⟨Hs2, Hy2⟩⟩, ⟨⟨Hp0, Ht0⟩, ⟨Hp1, Ht1⟩, ⟨Hp2, Ht2⟩⟩, Hg⟩
  unfold xrDone
  icases HX0 with ⟨HX0, HZ0⟩
  icases HX1 with ⟨HX1, HZ1⟩
  icases HX2 with ⟨HX2, HZ2⟩
  ihave Hx := (shares4 c (XALL m)).2 $$ [Hs0 Hs1 Hs2 Hx]
  · isplitl [Hs0]; · iexact Hs0
    isplitl [Hs1]; · iexact Hs1
    isplitl [Hs2]; · iexact Hs2
    iexact Hx
  ihave HK01 := (idleK_join c (KST m c c)) $$ [HK0 HK1]
  · isplitl [HK0]; · iexact HK0
    iexact HK1
  icases HK01 with ⟨Hks, Hdk⟩
  ihave HV01 := (idleV_join c (VST m c c)) $$ [HV0 HV1]
  · isplitl [HV0]; · iexact HV0
    iexact HV1
  icases HV01 with ⟨Hvs, Hdv⟩
  iapply Hk
  isplitl [HO]; · iexact HO
  isplitr [Hg]
  · unfold Final Args Scr Quiet Loc0
    isplitl [Ha0 Ha1 HK HV Ha4]
    · isplitl [Ha0]; · iexact Ha0
      isplitl [Ha1]; · iexact Ha1
      isplitl [HK]; · iexact HK
      isplitl [HV] <;> iassumption
    isplitl [Hx HX0 HX1 HX2 Hp Hp0 Hp1 Hp2 Hi0 Hi1 Hi2 Hks Hvs Hq Hc Hw Ho Hb]
    · isplitl [Hx HX0 HX1 HX2]
      · iapply (x_join c (XALL m))
        isplitl [Hx]; · iexists _; iexact Hx
        isplitl [HX0]; · iexists _; iexact HX0
        isplitl [HX1]; · iexists _; iexact HX1
        iexists _; iexact HX2
      isplitl [Hp Hp0 Hp1 Hp2]
      · iapply (p_join c (PALL m c))
        isplitl [Hp]; · iexists _; iexact Hp
        isplitl [Hp0]; · iexists _; iexact Hp0
        isplitl [Hp1]; · iexists _; iexact Hp1
        iexists _; iexact Hp2
      isplitl [Hi0 Hi1 Hi2]
      · iapply (i_join c (PINALL m c))
        isplitl [Hi0]; · iexists _; iexact Hi0
        isplitl [Hi1]; · iexists _; iexact Hi1
        iexists _; iexact Hi2
      isplitl [Hks]; · iexact Hks
      isplitl [Hvs]; · iexact Hvs
      isplitl [Hq]; · iexact Hq
      isplitl [Hc]; · iexact Hc
      isplitl [Hw]; · iexists _; iexact Hw
      isplitl [Ho]; · iexists _; iexact Ho
      iexists _; iexact Hb
    isplitl [Hz]; · iexact Hz
    isplitr [Hd Hdk Hdv]
    · rw [fam_eq, fam_eq, fam_eq, fam_pr]
      isplitl [Hox Hy0 Hy1 Hy2]
      · isplitl [Hox]; · iexact Hox
        isplitl [Hy0]; · iexact Hy0
        isplitl [Hy1]; · iexact Hy1
        iexact Hy2
      isplitl [Hoy HZ0 HZ1 HZ2]
      · isplitl [Hoy]; · iexact Hoy
        isplitl [HZ0]; · iexact HZ0
        isplitl [HZ1]; · iexact HZ1
        iexact HZ2
      isplitl [Hop Ht0 Ht1 Ht2]
      · isplitl [Hop]; · iexact Hop
        isplitl [Ht0]; · iexact Ht0
        isplitl [Ht1]; · iexact Ht1
        iexact Ht2
      isplitl [Hr0]; · iexact Hr0
      isplitl [Hr1]; · iexact Hr1
      isplitl [Hr2]; · iexact Hr2
      iexact Hor
    isplitl [Hd]; · iexact Hd
    isplitl [Hdk]; · iexact Hdk
    iexact Hdv
  iexact Hg

end Cert.AttnProof

end
-- ==== Proof.Point.lean ====
/-
The body at a point of the grid.
-/
module

public import proofs.«01_k».proof.Proof.Leave

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Which pieces run where -/

theorem on1 (i : grid0.Coords) : k0_cond1 i = 1#1 ↔ (i 0).val = 0 ∧ (i 1).val = 0 := by revert i; decide
theorem on2 (i : grid0.Coords) : k0_cond2 i = 1#1 ↔ (i 0).val = 0 ∧ (i 1).val = 0 := by revert i; decide
theorem on3 (i : grid0.Coords) : k0_cond3 i = 1#1 ↔ (i 1).val = 0 := by revert i; decide
theorem on4 (i : grid0.Coords) : k0_cond4 i = 1#1 ↔ (i 0).val + 1 < 4 := by revert i; decide
theorem on5 (i : grid0.Coords) : k0_cond5 i = 1#1 ↔ (i 0).val ≠ 0 := by revert i; decide
theorem on6 (i : grid0.Coords) : k0_cond6 i = 1#1 ↔ (i 1).val = 7 := by revert i; decide
theorem on7 (i : grid0.Coords) : k0_cond7 i = 1#1 ↔ (i 0).val ≠ 0 := by revert i; decide
theorem on8 (i : grid0.Coords) : k0_cond8 i = 1#1 ↔ (i 0).val = 3 ∧ (i 1).val = 7 := by revert i; decide

/-! ## The invariant -/

/-- What a device holds before head `h` of batch `b`. -/
def Spot (c : Dev nD) (b h : ℕ) : sProp 𝕄 := if h = 0 then Edge m c b else Mid m c b h

/-- What a device holds before point `n`. -/
def Inv (c : Dev nD) (n : ℕ) : sProp 𝕄 := if n = 0 then Start m c else if n = 32 then Final m c else Spot m c (n / 8) (n % 8)

/-- The result's block as a point leaves it. -/
def left (c : Dev nD) (n : ℕ) : Vec F S1x1024x1024 .f32 := if n = 31 then OUT m c else lift3 (woin m c)

/-- The result's block before point `n`. -/
def Stg (c : Dev nD) (n : ℕ) : sProp 𝕄 :=
  if n = 0 then iprop(∃ f, (c : Thread nD τ).loc cc0_stg0_0 ↦{fullShare} f) else iprop((c : Thread nD τ).loc cc0_stg0_0 ↦{fullShare} (lift3 (woin m c) : Vec F S1x1024x1024 .f32))

/-- The opening, or nothing. -/
theorem phase_open (K : Dev nD × Fin 17 → ℕ) (c : Dev nD) (i : grid0.Coords) (v2 : BitVec 32) (Q : PUnit → sProp 𝕄) :
    iprop(recs m K ∗ Ow c (owedAt c (8 * (i 0).val + (i 1).val)) ∗ Inv m c (8 * (i 0).val + (i 1).val) ∗ Stg m c (8 * (i 0).val + (i 1).val))
      ⊢ iprop(((Ow c (owR c (4 - (i 0).val)) ∗ Spot m c (i 0).val (i 1).val ∗ ((c : Thread nD τ).loc cc0_stg0_0 ↦{fullShare} (lift3 (woin m c) : Vec F S1x1024x1024 .f32))) -∗ Q ⟨⟩)
        -∗ WP c (if h : k0_cond1 i = 1#1 then seg1 i c v2 h else pure ⟨⟩) fun _ => WP c (if h : k0_cond2 i = 1#1 then seg2 i c h else pure ⟨⟩) Q) := by
  have hb := b_lt i
  have hh := h_lt i
  by_cases h : (i 0).val = 0 ∧ (i 1).val = 0
  · have h1 := (on1 i).mpr h
    have h2 := (on2 i).mpr h
    rw [dif_pos h1, dif_pos h2]
    have e := spec_open m K c i v2 h1 h2 h.1 Q
    rw [h.1, h.2]
    exact e
  · rw [dif_neg (fun e => h ((on1 i).mp e)), dif_neg (fun e => h ((on2 i).mp e))]
    unfold Inv owedAt Stg
    rw [if_neg (by omega), if_neg (by omega), if_neg (by omega), if_neg (by omega), show (8 * (i 0).val + (i 1).val) / 8 = (i 0).val by omega, show (8 * (i 0).val + (i 1).val) % 8 = (i 1).val by omega]
    iintro ⟨-, H⟩ Hk
    iapply wp_skip
    iapply wp_skip
    iapply Hk
    iexact H

/-- The start of a batch, or nothing. -/
theorem phase_edge (K : Dev nD × Fin 17 → ℕ) (c : Dev nD) (i : grid0.Coords) (Q : PUnit → sProp 𝕄) :
    iprop(recs m K ∗ Ow c (owR c (4 - (i 0).val)) ∗ Spot m c (i 0).val (i 1).val)
      ⊢ iprop(((Ow c (owR c (4 - (i 0).val)) ∗ Mid m c (i 0).val (i 1).val) -∗ Q ⟨⟩)
        -∗ WP c (if h : k0_cond3 i = 1#1 then (seg3 i c h >>= fun _ =>
            (if h' : k0_cond4 i = 1#1 then seg4 i c h h' else pure ⟨⟩) >>= fun _ =>
            (if h' : k0_cond5 i = 1#1 then seg5 i c h h' else pure ⟨⟩) >>= fun _ =>
            segQ i c h) else pure ⟨⟩) Q) := by
  unfold Spot
  by_cases h : (i 1).val = 0
  · have h3 := (on3 i).mpr h
    rw [dif_pos h3, h, if_pos rfl]
    exact spec_edge m K c i h3 (on4 i) (on5 i) (above_owR c _) Q
  · rw [dif_neg (fun e => h ((on3 i).mp e)), if_neg h]
    iintro ⟨-, H⟩ Hk
    iapply wp_skip
    iapply Hk
    iexact H

/-- The end of a batch, or nothing. -/
theorem phase_close (K : Dev nD × Fin 17 → ℕ) (c : Dev nD) (i : grid0.Coords) (Q : PUnit → sProp 𝕄) :
    iprop(recs m K ∗ Ow c (owR c (4 - (i 0).val)) ∗ Mid m c (i 0).val ((i 1).val + 1))
      ⊢ iprop(((Ow c (owR c (4 - (8 * (i 0).val + (i 1).val + 1) / 8)) ∗ Spot m c ((8 * (i 0).val + (i 1).val + 1) / 8) ((8 * (i 0).val + (i 1).val + 1) % 8)) -∗ Q ⟨⟩)
        -∗ WP c (if h : k0_cond6 i = 1#1 then (seg6 i c h >>= fun _ => if h' : k0_cond7 i = 1#1 then seg7 i c h h' else pure ⟨⟩) else pure ⟨⟩) Q) := by
  have hh := h_lt i
  unfold Spot
  by_cases h : (i 1).val = 7
  · have h6 := (on6 i).mpr h
    rw [dif_pos h6, if_pos (by omega), show (8 * (i 0).val + (i 1).val + 1) / 8 = (i 0).val + 1 by omega, h]
    exact spec_close m K c i h6 (on7 i) Q
  · rw [dif_neg (fun e => h ((on6 i).mp e)), if_neg (by omega), show (8 * (i 0).val + (i 1).val + 1) / 8 = (i 0).val by omega, show (8 * (i 0).val + (i 1).val + 1) % 8 = (i 1).val + 1 by omega]
    iintro ⟨-, H⟩ Hk
    iapply wp_skip
    iapply Hk
    iexact H

/-- The end of the call, or nothing. -/
theorem phase_final (K : Dev nD × Fin 17 → ℕ) (c : Dev nD) (i : grid0.Coords) (v2 : BitVec 32) (Q : PUnit → sProp 𝕄) :
    iprop(recs m K ∗ Ow c (owR c (4 - (8 * (i 0).val + (i 1).val + 1) / 8)) ∗ Spot m c ((8 * (i 0).val + (i 1).val + 1) / 8) ((8 * (i 0).val + (i 1).val + 1) % 8)
        ∗ ((c : Thread nD τ).loc cc0_stg0_0 ↦{fullShare} (lift3 (woin m c) : Vec F S1x1024x1024 .f32)))
      ⊢ iprop(((Ow c (owedAt c (8 * (i 0).val + (i 1).val + 1)) ∗ Inv m c (8 * (i 0).val + (i 1).val + 1) ∗ ((c : Thread nD τ).loc cc0_stg0_0 ↦{fullShare} left m c (8 * (i 0).val + (i 1).val))) -∗ Q ⟨⟩)
        -∗ WP c (if h : k0_cond8 i = 1#1 then seg8 i c v2 h else pure ⟨⟩) Q) := by
  have hb := b_lt i
  have hh := h_lt i
  unfold Inv owedAt left
  rw [if_neg (Nat.succ_ne_zero _), if_neg (Nat.succ_ne_zero _)]
  by_cases h : (i 0).val = 3 ∧ (i 1).val = 7
  · have h8 := (on8 i).mpr h
    rw [dif_pos h8, if_pos (by omega), if_pos (by omega), h.1, h.2,
      show (8 * 3 + 7 + 1) / 8 = 4 from rfl, show (8 * 3 + 7 + 1) % 8 = 0 from rfl, show Spot m c 4 0 = Edge m c 4 from if_pos rfl]
    iintro ⟨#HR, HO, HE, Hg⟩ Hk
    iapply (spec_final m K c i v2 h8 Q) $$ [HO HE Hg]
    · isplitr; · iexact HR
      isplitl [HO]; · iexact HO
      isplitl [HE]; · iexact HE
      iexists _; iexact Hg
    iintro H
    iapply Hk
    iexact H
  · rw [dif_neg (fun e => h ((on8 i).mp e)), if_neg (by omega), if_neg (by omega)]
    iintro ⟨-, H⟩ Hk
    iapply wp_skip
    iapply Hk
    iexact H

/-- One point of the grid. -/
theorem spec_point (K : Dev nD × Fin 17 → ℕ) (c : Dev nD) (i : grid0.Coords) (Q : PUnit → sProp 𝕄) :
    iprop(recs m K ∗ Ow c (owedAt c (8 * (i 0).val + (i 1).val)) ∗ Inv m c (8 * (i 0).val + (i 1).val) ∗ Stg m c (8 * (i 0).val + (i 1).val))
      ⊢ iprop(((Ow c (owedAt c (8 * (i 0).val + (i 1).val + 1)) ∗ Inv m c (8 * (i 0).val + (i 1).val + 1) ∗ ((c : Thread nD τ).loc cc0_stg0_0 ↦{fullShare} left m c (8 * (i 0).val + (i 1).val))) -∗ Q ⟨⟩)
        -∗ WP c (bodyAt i) Q) := by
  rw [wp_body]
  iintro ⟨#HR, H⟩ Hk
  iapply (phase_open m K c i) $$ [H]
  · isplitr; · iexact HR
    iexact H
  iintro ⟨HO, HS, Hg⟩
  iapply (phase_edge m K c i) $$ [HO HS]
  · isplitr; · iexact HR
    isplitl [HO] <;> iassumption
  iintro ⟨HO, HS⟩
  iapply (spec_segA m c i) $$ HS
  iintro HS
  iapply (phase_close m K c i) $$ [HO HS]
  · isplitr; · iexact HR
    isplitl [HO] <;> iassumption
  iintro ⟨HO, HS⟩
  iapply (phase_final m K c i) $$ [HO HS Hg]
  · isplitr; · iexact HR
    isplitl [HO]; · iexact HO
    isplitl [HS] <;> iassumption
  iexact Hk

end Cert.AttnProof

end
-- ==== Proof.Kick.lean ====
/-
The launch: the cells' invariants, the tokens dealt to the devices that pay, the credit.
-/
module

public import proofs.«01_k».proof.Proof.Point
public import proofs.«01_k».proof.Proof.Gen.KernelIdeal.Launch
public import proofs.«01_k».proof.Proof.Gen.KernelIdeal.Points

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Semaphores at the launch and at the end -/

/-- The call's own semaphores, but for the one of the result's block. -/
abbrev osem : Fin 21 → SemLoc sig := fun k => .dma ⟨k.val + 1, by show _ < 22; omega⟩

theorem ownSemFacts : Pipeline.OwnSemFacts cfg0.spec osem := by decide

theorem list4 (Φ : Fin 4 → sProp 𝕄) : bigSep Finset.univ Φ = iprop(Φ 0 ∗ Φ 1 ∗ Φ 2 ∗ Φ 3) := by
  rw [bigSep_eq_bigSepL_of_eq [0, 1, 2, 3] (by decide) (by decide)]
  rfl
theorem list5 (Φ : Fin 5 → sProp 𝕄) : bigSep Finset.univ Φ = iprop(Φ 0 ∗ Φ 1 ∗ Φ 2 ∗ Φ 3 ∗ Φ 4) := by
  rw [bigSep_eq_bigSepL_of_eq [0, 1, 2, 3, 4] (by decide) (by decide)]
  rfl

theorem list17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) := by
  rw [bigSep_eq_bigSepL_of_eq [0, 1, 2, 3, 4, 5, 6, 7, 8, 9, 10, 11, 12, 13, 14, 15, 16] (by decide) (by decide)]
  rfl

theorem cells17 (c : Dev nD) (Ψ : GSem nD τ sig → sProp 𝕄) : (bigSep Finset.univ fun k : Fin 17 => Ψ (kcell (c, k))) = iprop(Ψ (bcell c) ∗ Ψ (dcell c (xsq 0)) ∗ Ψ (dcell c (xsq 1)) ∗ Ψ (dcell c (xsq 2)) ∗ Ψ (dcell c (xsq 3)) ∗ Ψ (dcell c (xrq 0)) ∗ Ψ (dcell c (xrq 1)) ∗ Ψ (dcell c (xrq 2)) ∗ Ψ (dcell c (xrq 3)) ∗ Ψ (dcell c (psq 0)) ∗ Ψ (dcell c (psq 1)) ∗ Ψ (dcell c (psq 2)) ∗ Ψ (dcell c (psq 3)) ∗ Ψ (dcell c (prq 0)) ∗ Ψ (dcell c (prq 1)) ∗ Ψ (dcell c (prq 2)) ∗ Ψ (dcell c (prq 3))) := list17 _

/-- A family over a device's protocol cells, by kinds. -/
theorem kinds (c : Dev nD) (Ψ : GSem nD τ sig → sProp 𝕄) :
    (bigSep Finset.univ fun k : Fin 17 => Ψ (kcell (c, k))) ⊢ iprop(Ψ (bcell c) ∗ (bigSep Finset.univ fun j : Fin 4 => Ψ (dcell c (xsq j))) ∗ (bigSep Finset.univ fun j : Fin 4 => Ψ (dcell c (xrq j)))
      ∗ (bigSep Finset.univ fun j : Fin 4 => Ψ (dcell c (psq j))) ∗ (bigSep Finset.univ fun j : Fin 4 => Ψ (dcell c (prq j)))) := by
  rw [cells17, list4, list4, list4, list4]
  iintro ⟨B, S0, S1, S2, S3, R0, R1, R2, R3, P0, P1, P2, P3, Q0, Q1, Q2, Q3⟩
  isplitl [B]; · iexact B
  isplitl [S0 S1 S2 S3]
  · isplitl [S0]; · iexact S0
    isplitl [S1]; · iexact S1
    isplitl [S2]; · iexact S2
    iexact S3
  isplitl [R0 R1 R2 R3]
  · isplitl [R0]; · iexact R0
    isplitl [R1]; · iexact R1
    isplitl [R2]; · iexact R2
    iexact R3
  isplitl [P0 P1 P2 P3]
  · isplitl [P0]; · iexact P0
    isplitl [P1]; · iexact P1
    isplitl [P2]; · iexact P2
    iexact P3
  isplitl [Q0]; · iexact Q0
  isplitl [Q1]; · iexact Q1
  isplitl [Q2]; · iexact Q2
  iexact Q3

theorem kinds_back (c : Dev nD) (Ψ : GSem nD τ sig → sProp 𝕄) :
    iprop(Ψ (bcell c) ∗ (bigSep Finset.univ fun j : Fin 4 => Ψ (dcell c (xsq j))) ∗ (bigSep Finset.univ fun j : Fin 4 => Ψ (dcell c (xrq j)))
      ∗ (bigSep Finset.univ fun j : Fin 4 => Ψ (dcell c (psq j))) ∗ (bigSep Finset.univ fun j : Fin 4 => Ψ (dcell c (prq j)))) ⊢ (bigSep Finset.univ fun k : Fin 17 => Ψ (kcell (c, k))) := by
  rw [cells17, list4, list4, list4, list4]
  iintro ⟨B, ⟨S0, S1, S2, S3⟩, ⟨R0, R1, R2, R3⟩, ⟨P0, P1, P2, P3⟩, Q0, Q1, Q2, Q3⟩
  isplitl [B]; · iexact B
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [P0]; · iexact P0
  isplitl [P1]; · iexact P1
  isplitl [P2]; · iexact P2
  isplitl [P3]; · iexact P3
  isplitl [Q0]; · iexact Q0
  isplitl [Q1]; · iexact Q1
  isplitl [Q2]; · iexact Q2
  iexact Q3

theorem own_flat (c : Dev nD) : (Pipeline.ownSems0 (Ix := Unit) (Name := ℕ) (U := UU) (Lvl := ℕ) (Val := Elt F) (τ := τ) osem c : sProp 𝕄)
    = iprop(z0 (F := F) c (xsq 0) ∗ z0 (F := F) c (xsq 1) ∗ z0 (F := F) c (xsq 2) ∗ z0 (F := F) c (xsq 3) ∗ z0 (F := F) c (xrq 0) ∗ z0 (F := F) c (xrq 1) ∗ z0 (F := F) c (xrq 2) ∗ z0 (F := F) c (xrq 3) ∗ z0 (F := F) c (psq 0) ∗ z0 (F := F) c (psq 1) ∗ z0 (F := F) c (psq 2) ∗ z0 (F := F) c (psq 3) ∗ z0 (F := F) c (prq 0) ∗ z0 (F := F) c (prq 1) ∗ z0 (F := F) c (prq 2) ∗ z0 (F := F) c (prq 3) ∗ z0 (F := F) c dsq ∗ z0 (F := F) c (dkq 0) ∗ z0 (F := F) c (dkq 1) ∗ z0 (F := F) c (dvq 0) ∗ z0 (F := F) c (dvq 1)) := by
  rw [Pipeline.ownSems0_eq_of_list c osem [0, 1, 2, 3, 4, 5, 6, 7, 8, 9, 10, 11, 12, 13, 14, 15, 16, 17, 18, 19, 20] (by decide) (by decide)]
  rfl

theorem own_split (c : Dev nD) : (Pipeline.ownSems0 (Ix := Unit) (Name := ℕ) (U := UU) (Lvl := ℕ) (Val := Elt F) (τ := τ) osem c : sProp 𝕄)
    ⊢ iprop((fam (F := F) c xsq ∗ fam (F := F) c xrq ∗ fam (F := F) c psq ∗ fam (F := F) c prq) ∗ Loc0 (F := F) c) := by
  rw [own_flat]
  unfold fam Loc0
  rw [list4, list4, list4, list4]
  iintro ⟨S0, S1, S2, S3, R0, R1, R2, R3, P0, P1, P2, P3, Q0, Q1, Q2, Q3, D, K0, K1, V0, V1⟩
  isplitl [S0 S1 S2 S3 R0 R1 R2 R3 P0 P1 P2 P3 Q0 Q1 Q2 Q3]
  · isplitl [S0 S1 S2 S3]
    · isplitl [S0]; · iexact S0
      isplitl [S1]; · iexact S1
      isplitl [S2]; · iexact S2
      iexact S3
    isplitl [R0 R1 R2 R3]
    · isplitl [R0]; · iexact R0
      isplitl [R1]; · iexact R1
      isplitl [R2]; · iexact R2
      iexact R3
    isplitl [P0 P1 P2 P3]
    · isplitl [P0]; · iexact P0
      isplitl [P1]; · iexact P1
      isplitl [P2]; · iexact P2
      iexact P3
    isplitl [Q0]; · iexact Q0
    isplitl [Q1]; · iexact Q1
    isplitl [Q2]; · iexact Q2
    iexact Q3
  isplitl [D]; · iexact D
  isplitl [K0 K1]
  · isplitl [K0] <;> iassumption
  isplitl [V0] <;> iassumption

theorem own_join (c : Dev nD) : iprop((fam (F := F) c xsq ∗ fam (F := F) c xrq ∗ fam (F := F) c psq ∗ fam (F := F) c prq) ∗ Loc0 (F := F) c)
    ⊢ (Pipeline.ownSems0 (Ix := Unit) (Name := ℕ) (U := UU) (Lvl := ℕ) (Val := Elt F) (τ := τ) osem c : sProp 𝕄) := by
  rw [own_flat]
  unfold fam Loc0
  rw [list4, list4, list4, list4]
  iintro ⟨⟨⟨S0, S1, S2, S3⟩, ⟨R0, R1, R2, R3⟩, ⟨P0, P1, P2, P3⟩, Q0, Q1, Q2, Q3⟩, D, ⟨K0, K1⟩, V0, V1⟩
  isplitl [S0]; · iexact S0
  isplitl [S1]; · iexact S1
  isplitl [S2]; · iexact S2
  isplitl [S3]; · iexact S3
  isplitl [R0]; · iexact R0
  isplitl [R1]; · iexact R1
  isplitl [R2]; · iexact R2
  isplitl [R3]; · iexact R3
  isplitl [P0]; · iexact P0
  isplitl [P1]; · iexact P1
  isplitl [P2]; · iexact P2
  isplitl [P3]; · iexact P3
  isplitl [Q0]; · iexact Q0
  isplitl [Q1]; · iexact Q1
  isplitl [Q2]; · iexact Q2
  isplitl [Q3]; · iexact Q3
  isplitl [D]; · iexact D
  isplitl [K0]; · iexact K0
  isplitl [K1]; · iexact K1
  isplitl [V0]; · iexact V0
  iexact V1

theorem unscoped_eq (c : Dev nD) : (unscopedSems0 c : sProp 𝕄) = semVal (bcell c) 0 := by
  unfold unscopedSems0
  rw [bigSep_eq_bigSepL_of_eq [SemLoc.reg barrier0] (by decide) (by decide)]
  rfl

/-! ## The duty tokens, dealt to the devices that pay -/

theorem csem_injective : ∀ {k k' : Fin 17}, csem k = csem k' → k = k' := by decide

theorem kcell_injective : Function.Injective (kcell : Dev nD × Fin 17 → GSem nD τ sig) := by
  rintro ⟨c, k⟩ ⟨c', k'⟩ h
  have h1 : c = c' := congrArg (fun g : GSem nD τ sig => g.1.1) h
  have h2 : csem k = csem k' := congrArg Prod.snd h
  have h3 : k = k' := csem_injective h2
  rw [h1, h3]

def allCells : Finset (GSem nD τ sig) := Finset.univ.map ⟨kcell, kcell_injective⟩

/-- The `j`-th token of device `c` in its exchange with the device `k + 1` places after it: the cell and the duty's name. -/
def deed (x : Dev nD × (Fin 3 × Fin 5)) : (Dev nD × Fin 17) × Dev nD :=
  match x.2.2 with
  | 0 => ((nx x.1 (x.2.1.val + 1), 0), x.1)
  | 1 => ((nx x.1 (x.2.1.val + 1), ⟨(xrq x.1).val, by show x.1.val + 5 < 17; have : x.1.val < 4 := x.1.isLt; omega⟩), 0)
  | 2 => ((nx x.1 (x.2.1.val + 1), ⟨(prq x.2.1.rev.castSucc).val, by show x.2.1.rev.val + 13 < 17; have := x.2.1.rev.isLt; omega⟩), 0)
  | 3 => ((x.1, ⟨(xsq (nx x.1 (x.2.1.val + 1))).val, by show (nx x.1 (x.2.1.val + 1)).val + 1 < 17; have : (nx x.1 (x.2.1.val + 1)).val < 4 := (nx x.1 (x.2.1.val + 1)).isLt; omega⟩), 0)
  | 4 => ((x.1, ⟨(psq (nx x.1 (x.2.1.val + 1))).val, by show (nx x.1 (x.2.1.val + 1)).val + 9 < 17; have : (nx x.1 (x.2.1.val + 1)).val < 4 := (nx x.1 (x.2.1.val + 1)).isLt; omega⟩), 0)

theorem deed_injective : Function.Injective deed := by
  have h : ∀ c c' : Dev nD, ∀ k k' : Fin 3, ∀ j j' : Fin 5, deed (c, k, j) = deed (c', k', j') → c = c' ∧ k = k' ∧ j = j' := by decide
  rintro ⟨c, k, j⟩ ⟨c', k', j'⟩ e
  obtain ⟨h1, h2, h3⟩ := h c c' k k' j j' e
  rw [h1, h2, h3]

def tokOf (x : Dev nD × (Fin 3 × Fin 5)) : GSem nD τ sig × ℕ × Dev nD := (kcell (deed x).1, 0, (deed x).2)

theorem tokOf_injective : Function.Injective tokOf := fun x y h => deed_injective <| by
  have h1 : (deed x).1 = (deed y).1 := kcell_injective (congrArg Prod.fst h)
  have h2 : (deed x).2 = (deed y).2 := congrArg (fun z => z.2.2) h
  exact Prod.ext h1 h2

def allToks : Finset (GSem nD τ sig × ℕ × Dev nD) := Finset.univ.map ⟨tokOf, tokOf_injective⟩

/-- The tokens of one exchange. -/
def Bonds (c : Dev nD) (k : Fin 3) : sProp 𝕄 :=
  iprop(dutyTok ER (bcell (nx c (k.val + 1))) 0 c ∗ tok (F := F) (nx c (k.val + 1)) (xrq c) ∗ tok (F := F) (nx c (k.val + 1)) (prq k.rev.castSucc)
    ∗ tok (F := F) c (xsq (nx c (k.val + 1))) ∗ tok (F := F) c (psq (nx c (k.val + 1))))

def Bond3 (c : Dev nD) : sProp 𝕄 := all3 (Bonds (F := F) c)

theorem bonds_eq (c : Dev nD) (k : Fin 3) :
    (bigSep Finset.univ fun j : Fin 5 => (dutyTok ER (tokOf (c, k, j)).1 (tokOf (c, k, j)).2.1 (tokOf (c, k, j)).2.2 : sProp 𝕄)) = Bonds (F := F) c k := by
  rw [list5]
  unfold Bonds
  have h0 : (dutyTok ER (tokOf (c, k, 0)).1 (tokOf (c, k, 0)).2.1 (tokOf (c, k, 0)).2.2 : sProp 𝕄) = dutyTok ER (bcell (nx c (k.val + 1))) 0 c := rfl
  have h1 : (dutyTok ER (tokOf (c, k, 1)).1 (tokOf (c, k, 1)).2.1 (tokOf (c, k, 1)).2.2 : sProp 𝕄) = tok (F := F) (nx c (k.val + 1)) (xrq c) :=
    congrArg (fun s => (dutyTok ER ((((nx c (k.val + 1)) : Dev nD) : Thread nD τ), s) 0 (0 : Dev nD) : sProp 𝕄)) (csem_dma (xrq c) (Nat.succ_ne_zero _) _)
  have h2 : (dutyTok ER (tokOf (c, k, 2)).1 (tokOf (c, k, 2)).2.1 (tokOf (c, k, 2)).2.2 : sProp 𝕄) = tok (F := F) (nx c (k.val + 1)) (prq k.rev.castSucc) :=
    congrArg (fun s => (dutyTok ER ((((nx c (k.val + 1)) : Dev nD) : Thread nD τ), s) 0 (0 : Dev nD) : sProp 𝕄)) (csem_dma (prq k.rev.castSucc) (Nat.succ_ne_zero _) _)
  have h3 : (dutyTok ER (tokOf (c, k, 3)).1 (tokOf (c, k, 3)).2.1 (tokOf (c, k, 3)).2.2 : sProp 𝕄) = tok (F := F) c (xsq (nx c (k.val + 1))) :=
    congrArg (fun s => (dutyTok ER (((c : Dev nD) : Thread nD τ), s) 0 (0 : Dev nD) : sProp 𝕄)) (csem_dma (xsq (nx c (k.val + 1))) (Nat.succ_ne_zero _) _)
  have h4 : (dutyTok ER (tokOf (c, k, 4)).1 (tokOf (c, k, 4)).2.1 (tokOf (c, k, 4)).2.2 : sProp 𝕄) = tok (F := F) c (psq (nx c (k.val + 1))) :=
    congrArg (fun s => (dutyTok ER (((c : Dev nD) : Thread nD τ), s) 0 (0 : Dev nD) : sProp 𝕄)) (csem_dma (psq (nx c (k.val + 1))) (Nat.succ_ne_zero _) _)
  rw [h0, h1, h2, h3, h4]

def u₀ : UU :=
  (initOf (Pipeline.cells cfgs cellOf_inj) (Pipeline.launchToks cfgs cellOf_inj), (initOf allCells allToks, 1))

/-- What the launch deals device `c`. -/
def G (c : Dev nD) : sProp 𝕄 :=
  iprop((bigSep Finset.univ fun k : Fin 17 => roundState ER (sched m) (kcell (c, k)) 0)
    ∗ (bigSep Finset.univ fun k : Fin 17 => atPos ER (kcell (c, k)) 0 ∅ 0) ∗ (bigSep Finset.univ fun k : Fin 17 => reached ER (kcell (c, k)) 0) ∗ Bond3 (F := F) c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 17 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => Bond3 (F := F) c := by
    unfold allToks
    rw [bigSep_map, bigSep_univ_prod]
    refine bigSep_congr fun c _ => ?_
    rw [bigSep_univ_prod, list3]
    show iprop((bigSep Finset.univ fun j : Fin 5 => (dutyTok ER (tokOf (c, 0, j)).1 (tokOf (c, 0, j)).2.1 (tokOf (c, 0, j)).2.2 : sProp 𝕄))
      ∗ (bigSep Finset.univ fun j : Fin 5 => (dutyTok ER (tokOf (c, 1, j)).1 (tokOf (c, 1, j)).2.1 (tokOf (c, 1, j)).2.2 : sProp 𝕄))
      ∗ (bigSep Finset.univ fun j : Fin 5 => (dutyTok ER (tokOf (c, 2, j)).1 (tokOf (c, 2, j)).2.1 (tokOf (c, 2, j)).2.2 : sProp 𝕄))) = _
    rw [bonds_eq, bonds_eq, bonds_eq]
    rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G
  simp only [bigSep_sep']
  isplitl [Hst]; · iexact Hst
  isplitl [Hat]; · iexact Hat
  isplitl [Hr]; · iexact Hr
  iexact Htok

/-! ## The cells' invariants -/

/-- The records without the levels. -/
def recs₀ (K : Dev nD × Fin 17 → ℕ) : sProp 𝕄 :=
  iprop((bigSep Finset.univ fun cq : Dev nD × Fin 17 => cellInv ER (sched m) (K cq) (kcell cq)) ∗ (bigSep Finset.univ fun cq : Dev nD × Fin 17 => reached ER (kcell cq) 0))

instance recs₀_persistent (K : Dev nD × Fin 17 → ℕ) : BI.Persistent (recs₀ m K) := by unfold recs₀; infer_instance

/-- What is a device's own. -/
def Own (c : Dev nD) : sProp 𝕄 :=
  iprop(Loc0 (F := F) c ∗ (bigSep Finset.univ fun k : Fin 17 => atPos ER (kcell (c, k)) 0 ∅ 0) ∗ Bond3 (F := F) c)

def G' (c : Dev nD) : sProp 𝕄 := iprop(∃ K, recs₀ m K ∗ Own (F := F) c)

theorem alloc_cells (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (sched m) κ (kcell (c, k)))) ∗ (bigSep Finset.univ fun k : Fin 17 => reached ER (kcell (c, k)) 0) ∗ Own (F := F) c) := by
  unfold G
  iintro ⟨Hos, Hus, Hst, Hat, Hr, Htok⟩
  ihave Hos := (own_split c) $$ Hos
  icases Hos with ⟨Hf, Hl⟩
  ihave Hus := (Entails.of_eq (unscoped_eq c)) $$ Hus
  ihave Hv := (kinds_back c fun g => semVal g 0) $$ [Hf Hus]
  · isplitl [Hus]; · iexact Hus
    unfold fam
    iexact Hf
  imod (show iprop((bigSep Finset.univ fun k : Fin 17 => semVal (kcell (c, k)) 0) ∗ bigSep Finset.univ fun k : Fin 17 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  unfold Own
  isplitl [Hl]; · iexact Hl
  isplitl [Hat] <;> iassumption

theorem share_out :
    (bigSep Finset.univ fun c : Dev nD => iprop((bigSep Finset.univ fun k : Fin 17 => iprop(∃ κ : ℕ, cellInv ER (sched m) κ (kcell (c, k)))) ∗ (bigSep Finset.univ fun k : Fin 17 => reached ER (kcell (c, k)) 0) ∗ Own (F := F) c) : sProp 𝕄)
      ⊢ bigSep Finset.univ (G' m) := by
  rw [bigSep_sep', bigSep_sep', ← bigSep_univ_prod (fun ck : Dev nD × Fin 17 => iprop(∃ κ : ℕ, cellInv ER (sched m) κ (kcell ck))),
    ← bigSep_univ_prod (fun ck : Dev nD × Fin 17 => (reached ER (kcell ck) 0 : sProp 𝕄))]
  iintro ⟨HI, #HR, Ho⟩
  ihave HK := (BI.bigSep_exists_pi Finset.univ (fun (ck : Dev nD × Fin 17) (κ : ℕ) => (cellInv ER (sched m) κ (kcell ck) : sProp 𝕄))) $$ HI
  icases HK with ⟨%K, #HI⟩
  have h : iprop(recs₀ m K ∗ bigSep Finset.univ (Own (F := F))) ⊢ bigSep Finset.univ (G' m) := by
    refine (sep_mono_left (BI.bigSep_of_persistent (Finset.univ : Finset (Dev nD)) (recs₀ m K))).trans ?_
    rw [← bigSep_sep']
    refine bigSep_mono fun c _ => ?_
    show iprop(recs₀ m K ∗ Own (F := F) c) ⊢ iprop(∃ K, recs₀ m K ∗ Own (F := F) c)
    iintro H
    iexists K
    iexact H
  iapply h
  isplitr
  · unfold recs₀
    isplitr <;> iassumption
  iexact Ho

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc_cells m c).trans (bigSep_fupd _ _)).trans (BI.fupd_mono (share_out m))

/-! ## The launch credit -/

/-- What every device owes the one `a` places after it, on a semaphore it names, makes each device one credit. -/
theorem due_next (a b : ℕ) (e1 : ∀ d : Dev nD, nx (nx d a) b = d) (e2 : ∀ d : Dev nD, nx (nx d b) a = d) (s : Dev nD → SemLoc sig) (n : ℕ) (c : Dev nD) :
    (Pipeline.launchCred (fun d => tallyAt (((nx d a : Dev nD) : Thread nD τ), s d) () n) c : sProp 𝕄) = cred (tallyAt ((c : Thread nD τ), s (nx c b)) () n) := by
  refine Pipeline.launchCred_of_sum (Ix := Unit) (Name := ℕ) (U := UU) (Lvl := ℕ) (Val := Elt F) _ (fun d => tallyAt ((d : Thread nD τ), s (nx d b)) () n) ?_ ?_ c
  · refine Fintype.sum_equiv ⟨fun d => nx d a, fun d => nx d b, e1, e2⟩ _ _ fun d => ?_
    show _ = tallyAt (((nx d a : Dev nD) : Thread nD τ), s (nx (nx d a) b)) () n
    rw [e1]
  · intro d g hg
    by_contra hne
    exact hg (tallyAt_ne_cell (fun e => hne (by rw [e])) () n)

theorem creds (c : Dev nD) : (Pipeline.launchCred O₀ c : sProp 𝕄)
    ⊢ iprop(cred (tallyAt (bcell c) () 3) ∗ all3 (fun k => iprop(cr (F := F) c (xrq (nx c (k.val + 1))) ∗ cr (F := F) c (prq k.castSucc)))) := by
  have e : (O₀ : Dev nD → CellTallies nD τ sig Unit) = fun d => ((((((((0 + tallyAt (((nx d 3 : Dev nD) : Thread nD τ), .dma (prq 0)) () N) + tallyAt (((nx d 2 : Dev nD) : Thread nD τ), .dma (prq 1)) () N)
      + tallyAt (((nx d 1 : Dev nD) : Thread nD τ), .dma (prq 2)) () N) + tallyAt (((nx d 3 : Dev nD) : Thread nD τ), .dma (xrq d)) () N) + tallyAt (((nx d 2 : Dev nD) : Thread nD τ), .dma (xrq d)) () N)
      + tallyAt (((nx d 1 : Dev nD) : Thread nD τ), .dma (xrq d)) () N) + tallyAt (((nx d 3 : Dev nD) : Thread nD τ), .reg barrier0) () 1) + tallyAt (((nx d 2 : Dev nD) : Thread nD τ), .reg barrier0) () 1)
      + tallyAt (((nx d 1 : Dev nD) : Thread nD τ), .reg barrier0) () 1 := rfl
  rw [e]
  simp only [Pipeline.launchCred_add]
  iintro ⟨⟨⟨⟨⟨⟨⟨⟨⟨-, HP0⟩, HP1⟩, HP2⟩, HX3⟩, HX2⟩, HX1⟩, HB3⟩, HB2⟩, HB1⟩
  ihave HP0 := (Entails.of_eq (due_next (F := F) 3 1 (by decide) (by decide) (fun _ => .dma (prq 0)) N c)) $$ HP0
  ihave HP1 := (Entails.of_eq (due_next (F := F) 2 2 (by decide) (by decide) (fun _ => .dma (prq 1)) N c)) $$ HP1
  ihave HP2 := (Entails.of_eq (due_next (F := F) 1 3 (by decide) (by decide) (fun _ => .dma (prq 2)) N c)) $$ HP2
  ihave HX3 := (Entails.of_eq (due_next (F := F) 3 1 (by decide) (by decide) (fun d => .dma (xrq d)) N c)) $$ HX3
  ihave HX2 := (Entails.of_eq (due_next (F := F) 2 2 (by decide) (by decide) (fun d => .dma (xrq d)) N c)) $$ HX2
  ihave HX1 := (Entails.of_eq (due_next (F := F) 1 3 (by decide) (by decide) (fun d => .dma (xrq d)) N c)) $$ HX1
  ihave HB3 := (Entails.of_eq (due_next (F := F) 3 1 (by decide) (by decide) (fun _ => .reg barrier0) 1 c)) $$ HB3
  ihave HB2 := (Entails.of_eq (due_next (F := F) 2 2 (by decide) (by decide) (fun _ => .reg barrier0) 1 c)) $$ HB2
  ihave HB1 := (Entails.of_eq (due_next (F := F) 1 3 (by decide) (by decide) (fun _ => .reg barrier0) 1 c)) $$ HB1
  isplitl [HB1 HB2 HB3]
  · have h3 : (tallyAt (bcell c) () 3 : CellTallies nD τ sig Unit) = (tallyAt (bcell c) () 1 + tallyAt (bcell c) () 1) + tallyAt (bcell c) () 1 := by
      rw [show (3 : ℕ) = 1 + 1 + 1 from rfl, tallyAt_add, tallyAt_add]
    rw [h3]
    iapply (cred_add _ _).2
    isplitl [HB1 HB2]
    · iapply (cred_add _ _).2
      isplitl [HB1] <;> iassumption
    iexact HB3
  isplitl [HX3 HP0]
  · isplitl [HX3]; · iexact HX3
    iexact HP0
  isplitl [HX2 HP1]
  · isplitl [HX2]; · iexact HX2
    iexact HP1
  isplitl [HX1]; · iexact HX1
  iexact HP2

/-- The protocol's start, from what the launch dealt and its credit. -/
theorem ghost_start (c : Dev nD) : iprop(Own (F := F) c ∗ Pipeline.launchCred O₀ c) ⊢ iprop(Loc0 (F := F) c ∗ Ghost (F := F) c) := by
  unfold Own Ghost Deal Bond3 Bonds
  iintro ⟨⟨Hl, Hat, ⟨⟨A0, B0, C0, D0, E0⟩, ⟨A1, B1, C1, D1, E1⟩, ⟨A2, B2, C2, D2, E2⟩⟩⟩, Hcr⟩
  ihave Hc := (creds c) $$ Hcr
  icases Hc with ⟨HcB, ⟨X0, Y0⟩, ⟨X1, Y1⟩, ⟨X2, Y2⟩⟩
  ihave Hat := (kinds c fun g => atPos ER g 0 ∅ 0) $$ Hat
  icases Hat with ⟨HB, HS, HR, HP, HQ⟩
  ihave HS := (Entails.of_eq (rot4 c fun j => atPos ER (dcell c (xsq j)) 0 ∅ 0)) $$ HS
  ihave HR := (Entails.of_eq (rot4 c fun j => atPos ER (dcell c (xrq j)) 0 ∅ 0)) $$ HR
  ihave HP := (Entails.of_eq (rot4 c fun j => atPos ER (dcell c (psq j)) 0 ∅ 0)) $$ HP
  ihave HQ := (Entails.of_eq (list4 fun j => atPos ER (dcell c (prq j)) 0 ∅ 0)) $$ HQ
  icases HS with ⟨S, S0, S1, S2⟩
  icases HR with ⟨R, R0, R1, R2⟩
  icases HP with ⟨P, P0, P1, P2⟩
  icases HQ with ⟨Q0, Q1, Q2, Q⟩
  isplitl [Hl]; · iexact Hl
  isplitl [A0 B0 C0 D0 E0 X0 Y0 S0 R0 P0 Q0 A1 B1 C1 D1 E1 X1 Y1 S1 R1 P1 Q1 A2 B2 C2 D2 E2 X2 Y2 S2 R2 P2 Q2]
  · isplitl [A0 B0 C0 D0 E0 X0 Y0 S0 R0 P0 Q0]
    · isplitl [A0]; · iexact A0
      isplitl [B0 C0 D0 E0]
      · isplitl [B0]; · iexact B0
        isplitl [C0]; · iexact C0
        isplitl [D0]; · iexact D0
        iexact E0
      isplitl [S0 R0 P0 Q0]
      · isplitl [S0]; · iexact S0
        isplitl [R0]; · iexact R0
        isplitl [P0]; · iexact P0
        iexact Q0
      isplitl [X0]; · iexact X0
      iexact Y0
    isplitl [A1 B1 C1 D1 E1 X1 Y1 S1 R1 P1 Q1]
    · isplitl [A1]; · iexact A1
      isplitl [B1 C1 D1 E1]
      · isplitl [B1]; · iexact B1
        isplitl [C1]; · iexact C1
        isplitl [D1]; · iexact D1
        iexact E1
      isplitl [S1 R1 P1 Q1]
      · isplitl [S1]; · iexact S1
        isplitl [R1]; · iexact R1
        isplitl [P1]; · iexact P1
        iexact Q1
      isplitl [X1]; · iexact X1
      iexact Y1
    isplitl [A2]; · iexact A2
    isplitl [B2 C2 D2 E2]
    · isplitl [B2]; · iexact B2
      isplitl [C2]; · iexact C2
      isplitl [D2]; · iexact D2
      iexact E2
    isplitl [S2 R2 P2 Q2]
    · isplitl [S2]; · iexact S2
      isplitl [R2]; · iexact R2
      isplitl [P2]; · iexact P2
      iexact Q2
    isplitl [X2]; · iexact X2
    iexact Y2
  isplitl [HB HcB]
  · isplitl [HB] <;> iassumption
  isplitl [S]; · iexact S
  isplitl [R]; · iexact R
  isplitl [P]; · iexact P
  iexact Q

end Cert.AttnProof

end
-- ==== Proof.Run.lean ====
/-
The run of the kernel on the four devices.
-/
module

public import proofs.«01_k».proof.Proof.Kick
public import Idealize.ShloMosaic.Lib.Pipeline.CollectiveSegs
public import Idealize.ShloMosaic.Lib.Pipeline.TableIdle

@[expose] public section

noncomputable section

namespace Cert.AttnProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

variable (ρ : Dev nD → PrngReg)

abbrev s₀ : MemSt nD τ sig (Elt F) := ⟨m, fun _ => 0, ρ⟩

/-! ## The call's data -/

/-- What a device holds before point `n`, with the records. -/
def Φ (c : Dev nD) (n : ℕ) : sProp 𝕄 := iprop((∃ K, recs m K) ∗ Inv m c n)

def dats (_ : Fin 1) (c : Dev nD) : Pipeline.Dat τ (Elt F) Unit ℕ UU ℕ cfg0 c where
  A w := (s₀ m ρ).mem ((cfg0.win w).arr.view.loc (c : Thread nD τ))
  after w t := match w with
    | ⟨0, _⟩ => left m c t.val
  Φ t := Φ m c t.val
  q _ := fullShare
  owed t := owedAt c t.val

theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem coords_val : ∀ t : Fin grid0.N, 8 * ((grid0.coords t) 0).val + ((grid0.coords t) 1).val = t.val := by decide

theorem one_slot (t : Fin cfg0.N) : (cfg0.win 0).stage (cfg0.slots t 0) = Memref.whole cc0_stg0_0 := by
  rw [show cfg0.slots t 0 = (0 : Fin 1) from Subsingleton.elim (α := Fin 1) _ _]

theorem row_aux (i : grid0.Coords) (s : Fin 1) (h : (win0_0.stage s).IsWhole) :
    (cc0_body (F := F) i (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (win0_0.stage s) h (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scratch15 cc0_scratch16) = bodyAt i := by
  have e : s = 0 := Subsingleton.elim _ _
  subst e
  rfl

theorem row (t : Fin cfg0.N) : defs₀ (F := F) .tc cfg0.body (cfg0.bodyArgs t (cfg0.slots t)) = bodyAt (grid0.coords t) := by
  have h : defs₀ (F := F) .tc cfg0.body (cfg0.bodyArgs t (cfg0.slots t)) = bodyAt0 t := by unfold defs₀; rw [Defs.onTc_tc]
  exact h.trans (row_aux _ _ _)

theorem flush_not (t : Fin cfg0.N) (h : t.val ≠ 31) : (cfg0.win 0).flush t = false := by
  have := (flush0_0 t).not.mpr (by have : t.val < 32 := t.isLt; omega)
  exact Bool.eq_false_iff.mpr this

theorem idle_iff : ∀ i : grid0.Coords, idle0 0 i = true ↔ ¬ ((i 0).val = 0 ∧ (i 1).val = 0) ∧ ¬ ((i 0).val = 3 ∧ (i 1).val = 7) := by decide

theorem idle_at (t : Fin cfg0.N) : cfg0.idle 0 (cfg0.grid.coords t) = true ↔ t.val ≠ 0 ∧ t.val ≠ 31 := by
  have e := coords_val t
  have h0 : ((grid0.coords t) 0).val < 4 := ((grid0.coords t) 0).isLt
  have h1 : ((grid0.coords t) 1).val < 8 := ((grid0.coords t) 1).isLt
  exact (idle_iff (grid0.coords t)).trans ⟨fun h => ⟨fun e' => h.1 (by omega), fun e' => h.2 (by omega)⟩, fun h => ⟨fun e' => h.1 (by omega), fun e' => h.2 (by omega)⟩⟩

theorem fresh_at : ∀ n, n < 32 → cfg0.fresh 0 n = decide (n = 0)
  | 0, _ => rfl
  | n + 1, h => by
    have hn : n < cfg0.N := by show n < 32; omega
    rw [cfg0.fresh_succ 0 n hn, fresh_at n (by omega), flush_not ⟨n, hn⟩ (by show n ≠ 31; omega), Bool.false_or]
    by_cases h0 : n = 0
    · have : cfg0.idle 0 (cfg0.grid.coords ⟨n, hn⟩) = false := Bool.eq_false_iff.mpr fun e => ((idle_at ⟨n, hn⟩).mp e).1 h0
      rw [this, Bool.false_and]; rfl
    · rw [decide_eq_false h0, Bool.and_false]; rfl

theorem before_eq (c : Dev nD) (t : Fin cfg0.N) (h : t.val ≠ 0) (d) : (dats m ρ 0 c).before (0 : Fin 1) t d = lift3 (woin m c) := by
  have hl : t.val < 32 := t.isLt
  rw [(dats m ρ 0 c).before_out_traj (0 : Fin 1) rfl (fun _ _ => rfl) (fun t' h0 hi _ => by
      have h1 := (idle_at t').mp hi
      show left m c t'.val = left m c (t'.val - 1)
      unfold left
      rw [if_neg h1.2, if_neg (by have : t'.val < 32 := t'.isLt; omega)]) t.val t rfl d,
    fresh_at t.val hl, decide_eq_false h, if_neg Bool.false_ne_true]
  show left m c (t.val - 1) = _
  unfold left
  rw [if_neg (by omega)]

/-- What the call asks of the staging buffer after the body. -/
def Goes (c : Dev nD) (t : Fin cfg0.N) : sProp 𝕄 :=
  match cfg0.idle 0 (cfg0.grid.coords t) with
  | true =>
    match (cfg0.win 0).flush t with
    | false => iprop(∃ d, owns (c : Thread nD τ) ((cfg0.win 0).stage (cfg0.slots t 0)) fullShare ((dats m ρ 0 c).before (0 : Fin 1) t d))
    | true => owns (c : Thread nD τ) ((cfg0.win 0).stage (cfg0.slots t 0)) fullShare ((dats m ρ 0 c).after (0 : Fin 1) t)
  | false => owns (c : Thread nD τ) ((cfg0.win 0).stage (cfg0.slots t 0)) fullShare ((dats m ρ 0 c).after (0 : Fin 1) t)

theorem goes_intro (c : Dev nD) (t : Fin cfg0.N) : iprop(((c : Thread nD τ).loc cc0_stg0_0) ↦{fullShare} left m c t.val) ⊢ Goes m ρ c t := by
  have h : owns (c : Thread nD τ) ((cfg0.win 0).stage (cfg0.slots t 0)) fullShare (left m c t.val) ⊢ Goes m ρ c t := by
    unfold Goes
    cases hi : cfg0.idle 0 (cfg0.grid.coords t)
    · exact Entails.rfl
    · have h1 := (idle_at t).mp hi
      rw [flush_not t h1.2]
      show owns (c : Thread nD τ) ((cfg0.win 0).stage (cfg0.slots t 0)) fullShare (left m c t.val)
        ⊢ iprop(∃ d, owns (c : Thread nD τ) ((cfg0.win 0).stage (cfg0.slots t 0)) fullShare ((dats m ρ 0 c).before (0 : Fin 1) t d))
      iintro H
      iexists (lift3 (woin m c))
      rw [before_eq m ρ c t h1.1]
      unfold left
      rw [if_neg h1.2]
      iexact H
  refine BIBase.Entails.trans ?_ h
  rw [one_slot, owns_all]
  iintro H
  iexists _
  isplitr; · (ipureintro; rfl)
  iexact H

theorem body_holds (c : Dev nD) : Pipeline.BodyObligation (dats (F := F) m ρ 0 c) (defs₀ (F := F)) 𝒱₀ () Set.univ := fun t => by
  rw [bigSep_W0, bigSep_W0, row]
  show iprop(Φ m c t.val ∗ (dats m ρ 0 c).owesAt () t.castSucc ∗ (∃ d, owns (c : Thread nD τ) ((cfg0.win 0).stage (cfg0.slots t 0)) fullShare ((dats m ρ 0 c).before (0 : Fin 1) t d)))
    ⊢ WP c (bodyAt (grid0.coords t)) fun _ => iprop(Φ m c (t.val + 1) ∗ (dats m ρ 0 c).owesAt () t.succ ∗ Goes m ρ c t)
  rw [one_slot]
  simp only [owns_all]
  have e := coords_val t
  unfold Φ Pipeline.Dat.owesAt Pipeline.owesWithin
  iintro ⟨⟨⟨%K, #HR⟩, HI⟩, ⟨%W, %hW, HO⟩, ⟨%d, %f, %hf, Hg⟩⟩
  have sp := spec_point m K c (grid0.coords t)
  rw [e] at sp
  iapply (sp _) $$ [HI HO Hg]
  · isplitr; · iexact HR
    isplitl [HO]
    · unfold Ow
      iexists W; iexact HO
    isplitl [HI]; · iexact HI
    unfold Stg
    by_cases h0 : t.val = 0
    · rw [if_pos h0]
      iexists f; iexact Hg
    · rw [if_neg h0, hf, before_eq m ρ c t h0]
      iexact Hg
  iintro ⟨HO, HI, Hg⟩
  unfold Ow
  icases HO with ⟨%W', HO⟩
  isplitl [HI]
  · isplitr
    · iexists K; iexact HR
    iexact HI
  isplitl [HO]
  · iexists W'
    isplitr; · ipureintro; exact fun _ _ => Or.inl trivial
    iexact HO
  iapply (goes_intro m ρ c t)
  iexact Hg

/-! ## The launch theorem's sides -/

theorem share_full (c : Dev nD) (w : Fin cfg0.W) : (dats m ρ 0 c).share w = fullShare := by unfold Pipeline.Dat.share; split <;> rfl

/-- What a device starts with, its scratch buffers apart. -/
def Ready (c : Dev nD) : sProp 𝕄 := iprop((∃ K, recs m K) ∗ Args m c ∗ Loc0 (F := F) c ∗ Ghost (F := F) c)

theorem ready_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Ready m c ∗ emp) := by
  unfold G' Ready recs₀ recs
  rw [show Pipeline.unscopedRestP Pipeline.Prefetch.none cfg0.spec c (fun b => m ((c : Thread nD τ).loc b)) = Args m c from unscopedRest0_eq c _]
  iintro ⟨Ha, Hlev, Hcr, -, ⟨%K, ⟨HI, HRe⟩, HG⟩⟩
  ihave H := (ghost_start c) $$ [HG Hcr]
  · isplitl [HG] <;> iassumption
  imodintro
  isplitl
  · isplitl [HI HRe Hlev]
    · iexists K
      isplitl [HI]; · iexact HI
      isplitl [HRe] <;> iassumption
    isplitl [Ha]; · iexact Ha
    iexact H
  · iempintro

theorem enter (c : Dev nD) :
    iprop(Ready m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop((∃ K, recs m K) ∗ Start m c) from rfl, show Pipeline.scopedRest cfg0.spec c = Scr (F := F) c from scopedRest0_eq c]
  unfold Ready Start
  iintro ⟨⟨HK, Ha, Hl, Hg⟩, -, Hs⟩
  isplitl [HK]; · iexact HK
  isplitl [Ha]; · iexact Ha
  isplitl [Hs]; · iexact Hs
  isplitl [Hl] <;> iassumption

theorem leave (c : Dev nD) :
    (dats m ρ 0 c).Φ (Fin.last cfg0.N) ⊢ iprop((unscopedSems0 c ∗ Args m c) ∗ Pipeline.ownSems0 osem c ∗ Pipeline.scopedRest cfg0.spec c) := by
  rw [show (dats m ρ 0 c).Φ (Fin.last cfg0.N) = iprop((∃ K, recs m K) ∗ Final m c) from rfl, show Pipeline.scopedRest cfg0.spec c = Scr (F := F) c from scopedRest0_eq c, unscoped_eq]
  unfold Final Quiet
  iintro ⟨-, Ha, Hs, HB, Hf⟩
  isplitl [HB Ha]
  · isplitl [HB] <;> iassumption
  isplitl [Hf]
  · iapply (own_join c); iexact Hf
  iexact Hs

theorem may_stage (c : Dev nD) : (levAts L lv : sProp 𝕄) ⊢ Pipeline.cellsWaits cfgs (dats m ρ) () 0 c :=
  Pipeline.cellsWaits_intro cfgs (dats m ρ) () 0 c fun w s t =>
    mayWait c _ (by fin_cases w; fin_cases s; decide) (above_owedAt c t.val)

theorem owed_end (c : Dev nD) : (dats m ρ 0 c).owed (Fin.last cfg0.N) = 0 := by
  have h : ∀ n, n = 32 → owedAt c n = 0 := by rintro _ rfl; unfold owedAt; rw [if_neg (by decide)]; rfl
  exact h grid0.N N_0

/-! ## The run -/

/-- A device's operands hold what they held. -/
def Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)
    ∧ s.mem ((c : Thread nD τ).loc main_arg4) = m ((c : Thread nD τ).loc main_arg4)

theorem read_args (c : Dev nD) (s' : Phys nD τ sig (Elt F)) : iprop(Args m c ∗ SI s') ⊢ (iprop(⌜Kept m c s'.mem⌝ ∗ SI s') : sProp 𝕄) := by
  unfold Args Kept
  iintro ⟨⟨H0, H1, H2, H3, H4⟩, HSI⟩
  icombine HSI H0 gives %h0
  icombine HSI H1 gives %h1
  icombine HSI H2 gives %h2
  icombine HSI H3 gives %h3
  icombine HSI H4 gives %h4
  isplitr
  · ipureintro
    exact ⟨Buf.eq_of_forall_mem_univ h0, Buf.eq_of_forall_mem_univ h1, Buf.eq_of_forall_mem_univ h2, Buf.eq_of_forall_mem_univ h3, Buf.eq_of_forall_mem_univ h4⟩
  iexact HSI

theorem array_end (c : Dev nD) : (dats m ρ 0 c).arrAt (0 : Fin 1) cfg0.N = OUT m c := by
  have hz : (fun a => (win0_0.index (⟨31, by decide⟩ : Fin grid0.N)) a * main_v1.ty.shape.size a) = fun _ => 0 := funext fun a => by fin_cases a <;> decide
  have h : (win0_0.blk (⟨31, by decide⟩ : Fin grid0.N)).view.read (Elt F) ((dats m ρ 0 c).arrAt (0 : Fin 1) cfg0.N) = OUT m c := by
    rw [show cfg0.N = (⟨31, by decide⟩ : Fin cfg0.N).val + 1 from rfl, (dats m ρ 0 c).arrAt_succ (0 : Fin 1) ⟨31, by decide⟩,
      if_pos ((flush0_0 ⟨31, by decide⟩).mpr rfl)]
    exact View.read_write_univ _ _
  have hr := fun f => Memref.read_access_unit_zero (Elt F) main_v1 hz (fun a => by fin_cases a <;> decide) f
  refine (hr _).symm.trans (Eq.trans ?_ h)
  rfl

/-- The run of the kernel: every device's result at its value, its operands as they were, every semaphore at zero. -/
theorem run_main : θ_run defs (onTc (τ := τ) (main (F := F))) (s₀ m ρ)
    (fun r => (∀ c : Dev nD, r.2.mem ((c : Thread nD τ).loc main_v1) = OUT m c ∧ Kept m c r.2) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_holds m ρ) (hne := block_pos0) (harr := arr_whole0) (hstage := stage_whole0) (hshare := share_full m ρ)
    (hdistinct := winFacts0.arr_inj)
    (O₀ := O₀) (howed₀ := fun _ => rfl) (howedN := owed_end m ρ)
    (L := L) (lv := lv) (hL := L_of_ne) (hwaits := may_stage m ρ)
    (G := G m) (G' := G' m) (u₀ := u₀)
    (hu₀ := by
      unfold u₀
      iintro Hu
      ihave H := (ownU_pair _ _) $$ Hu
      icases H with ⟨HP, HX⟩
      ihave H := (own_pair_emb EX _ _) $$ HX
      icases H with ⟨HX, -⟩
      imod (fund_all m) $$ HX with HG
      imodintro
      isplitl [HP] <;> iassumption)
    (hglob := glob m)
    (hA := fun _ _ => rfl) (hpf := fun _ k => k.elim0)
    (X := Ready m) (Y := fun c => iprop(unscopedSems0 c ∗ Args m c)) (Z := fun _ => iprop(emp))
    (hX := ready_intro m ρ) (hin := enter m ρ) (hout := leave m ρ)
    (QY := fun c s => Kept m c s ∧ ∀ sm : SemLoc sig, sm.isScoped .tc = false → s.sem ((c.tc : Thread nD τ), sm) = 0)
    (hY := fun c s' => by
      iintro ⟨⟨Hu, Ha⟩, -, HSI⟩
      ihave H := (read_args m c s') $$ [Ha HSI]
      · isplitl [Ha] <;> iassumption
      icases H with ⟨%hk, HSI⟩
      imod (Pipeline.unscopedSems0_read (X := unscopedSems0 c) (c := c) fupd_intro s') $$ [Hu HSI] with ⟨%hs, HSI⟩
      · isplitl [Hu] <;> iassumption
      imodintro
      isplitr; · (ipureintro; exact ⟨hk, hs⟩)
      iexact HSI)
    (hQ := fun _ h hs => ⟨fun c => ⟨((h c).1 (0 : Fin 1)).trans (array_end m ρ c), (h c).2.2.1⟩, sem_eq_zero hs fun c => (h c).2.2.2⟩)

end Cert.AttnProof

end
-- ==== Proof.Frames.lean ====
/-
The claims on the runs: every program ends with its operands unchanged and its semaphores at zero, and the named constants are what they stand for.
-/
module

public import proofs.«01_k».proof.Defs
public import proofs.«01_k».proof.Proof.Run
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.AttnProof

open Idealize.ShloMosaic Idealize.SL.Sem

/-- The constants read as the words the kernel is printed with. -/
@[reducible] def namedBits : Named Bits := ⟨fun _ _ φ bits => Scalar.ofBits φ bits⟩

set_option maxRecDepth 65536 in
theorem defs₀_same : @Cert.Kernel.defs₀ Bits _ _ = @Cert.KernelIdeal.defs₀ Bits _ namedBits _ := by
  unfold Cert.Kernel.defs₀ Cert.KernelIdeal.defs₀
  refine congrArg Defs.onTc ?_
  funext l x
  match l, x with
  | ⟨0, _⟩, (t, s) => rfl

theorem defs_same : @Cert.Kernel.defs Bits _ _ = @Cert.KernelIdeal.defs Bits _ namedBits _ := congrArg (Pipeline.defs _) defs₀_same

theorem main_same : @Cert.Kernel.main Bits _ = @Cert.KernelIdeal.main Bits _ := rfl

theorem frame_kernel : Cert.quiescent_Kernel := fun m ρ _ => by
  letI := namedBits
  rw [defs_same, main_same]
  exact (θ_run Cert.KernelIdeal.defs _ _).mono (fun _ h => ⟨fun c => (h.1 c).2, h.2⟩) (run_main (F := Bits) m ρ)

theorem frame_ideal : Cert.quiescent_KernelIdeal := fun m ρ _ =>
  (θ_run Cert.KernelIdeal.defs _ _).mono (fun _ h => ⟨fun c => (h.1 c).2, h.2⟩) (run_main (F := Ideal) m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xCE6E6B28#32 ⊥ rfl,
    IdealRules.named_const.statement Cert.KernelIdeal.κ "scale" .bf16 0x3DB5#16 (((Real.sqrt 128)⁻¹ : ℝ) : EReal) rfl⟩

end Cert.AttnProof

end
-- ==== Proof.Softmax.lean ====
/-
Weights on the extended reals: a row of exponentials divided by its sum is the row shifted by its maximum and divided by the shifted sum.
-/
module

public import Idealize.ShloMosaic.Lib.Pointwise
public import Idealize.ShloMosaic.Lib.IdealHost

@[expose] public section

noncomputable section

namespace Cert.AttnMath

open Idealize.ShloMosaic

/-- An extended real that is a real number. -/
def IsReal (x : EReal) : Prop := ∃ r : ℝ, x = (r : EReal)

theorem IsReal.mul {x y : EReal} : IsReal x → IsReal y → IsReal (x * y)
  | ⟨a, ha⟩, ⟨b, hb⟩ => ⟨a * b, by rw [ha, hb, EReal.coe_mul]⟩

theorem IsReal.sum {ι : Type} {s : Finset ι} {f : ι → EReal} (h : ∀ i, IsReal (f i)) : IsReal (∑ i ∈ s, f i) := by
  classical
  choose g hg using h
  refine ⟨∑ i ∈ s, g i, ?_⟩
  induction s using Finset.induction_on with
  | empty => simp
  | insert a s ha ih => rw [Finset.sum_insert ha, Finset.sum_insert ha, EReal.coe_add, ← ih, ← hg]

theorem coe_sum {ι : Type} (s : Finset ι) (g : ι → ℝ) : (∑ i ∈ s, (g i : EReal)) = ((∑ i ∈ s, g i : ℝ) : EReal) := by
  classical
  induction s using Finset.induction_on with
  | empty => simp
  | insert a s ha ih => rw [Finset.sum_insert ha, Finset.sum_insert ha, EReal.coe_add, ← ih]

theorem sum_mul_coe {ι : Type} (s : Finset ι) (f : ι → EReal) {r : ℝ} (hr : 0 ≤ r) : (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

theorem div_real (a b : ℝ) (hb : b ≠ 0) : Ideal.div (a : EReal) (b : EReal) = ((a / b : ℝ) : EReal) := by
  rw [Ideal.div_coe hb, ← EReal.coe_mul, mul_one_div]

/-- The score under the mask. -/
def masked {n : ℕ} (k : Fin n → Prop) [DecidablePred k] (s : Fin n → ℝ) (j : Fin n) : EReal := if k j then (s j : EReal) else ⊥

theorem softmax {n : ℕ} (k : Fin n → Prop) [DecidablePred k] (s : Fin n → ℝ) (v : Fin n → EReal) (j₀ : Fin n) (h₀ : k j₀) :
    (∑ j, Ideal.exp (masked k s j) * v j) * Ideal.div 1 (∑ j, Ideal.exp (masked k s j))
      = ∑ j, v j * Ideal.div (Ideal.exp (masked k s j - Finset.fold max ⊥ (masked k s) Finset.univ))
          (∑ j', Ideal.exp (masked k s j' - Finset.fold max ⊥ (masked k s) Finset.univ)) := by
  obtain ⟨M, hM⟩ : IsReal (Finset.fold max ⊥ (masked k s) Finset.univ) := by
    have hlt : Finset.fold max ⊥ (masked k s) Finset.univ < (⊤ : EReal) := by
      rw [Finset.fold_max_lt]
      refine ⟨bot_lt_top, fun j _ => ?_⟩
      unfold masked
      split
      · exact EReal.coe_lt_top _
      · exact bot_lt_top
    have hge : (s j₀ : EReal) ≤ Finset.fold max ⊥ (masked k s) Finset.univ := by
      rw [Finset.le_fold_max]
      exact Or.inr ⟨j₀, Finset.mem_univ _, by rw [masked, if_pos h₀]⟩
    generalize Finset.fold max ⊥ (masked k s) Finset.univ = x at hlt hge
    induction x with
    | bot => exact absurd hge (by simp)
    | top => exact absurd hlt (by simp)
    | coe r => exact ⟨r, rfl⟩
  rw [hM]
  let E : Fin n → ℝ := fun j => if k j then Real.exp (s j) else 0
  have hE : ∀ j, 0 ≤ E j := fun j => by
    show 0 ≤ (if k j then Real.exp (s j) else 0)
    split
    · exact (Real.exp_pos _).le
    · exact le_rfl
  have he : ∀ j, Ideal.exp (masked k s j) = (E j : EReal) := fun j => by
    show _ = (((if k j then Real.exp (s j) else 0) : ℝ) : EReal)
    unfold masked
    split
    · rfl
    · rfl
  have hw : ∀ j, Ideal.exp (masked k s j - (M : EReal)) = ((E j * Real.exp (-M) : ℝ) : EReal) := fun j => by
    show _ = ((((if k j then Real.exp (s j) else 0) * Real.exp (-M) : ℝ)) : EReal)
    unfold masked
    split
    · rw [← EReal.coe_sub, ← Real.exp_add, ← sub_eq_add_neg]; rfl
    · rw [EReal.bot_sub, zero_mul]; rfl
  have hL : 0 < ∑ j, E j := by
    refine Finset.sum_pos' (fun j _ => hE j) ⟨j₀, Finset.mem_univ _, ?_⟩
    show 0 < (if k j₀ then Real.exp (s j₀) else 0)
    rw [if_pos h₀]; exact Real.exp_pos _
  simp only [he, hw]
  rw [coe_sum, coe_sum, show (1 : EReal) = ((1 : ℝ) : EReal) from rfl, div_real _ _ hL.ne', sum_mul_coe _ _ (by positivity)]
  refine Finset.sum_congr rfl fun j _ => ?_
  rw [← Finset.sum_mul, div_real _ _ (mul_ne_zero hL.ne' (Real.exp_pos _).ne'), mul_comm (E j : EReal) (v j), mul_assoc, ← EReal.coe_mul]
  congr 2
  rw [mul_div_mul_right _ _ (Real.exp_pos _).ne', mul_one_div]

/-- The blocks a pair of positions keeps. -/
def keep (i j : ℕ) : Prop := i / 64 = j / 64 ∨ j / 64 = 0 ∨ (i / 64 + j / 64) % 3 = 0

instance (i j : ℕ) : Decidable (keep i j) := by unfold keep; infer_instance

/-- The mask's bit at a pair of positions. -/
def keepBit (i j : ℕ) : BitVec 1 := BitVec.ofBool (decide (keep i j))

theorem block_lt (i : Fin 1024) : i.val / 64 < 16 := by have := i.isLt; omega

theorem keep_zero (i : ℕ) : keep i 0 := Or.inr (Or.inl rfl)

theorem select_keep {α : Type} (i j : ℕ) (x y : α) : Scalar.select (keepBit i j) x y = if keep i j then x else y := by
  unfold keepBit
  by_cases h : keep i j
  · simp [h, Scalar.select]
  · simp [h, Scalar.select]

theorem sqrt_128 : Ideal.sqrt (Ideal.ofBits .f32 1124073472#32) = ((Real.sqrt 128 : ℝ) : EReal) := by
  have h : Ideal.ofBits .f32 1124073472#32 = ((128 : ℝ) : EReal) := by
    simp [Ideal.ofBits, Ideal.ieee]
    rw [← EReal.coe_mul]; norm_num
  rw [h, Ideal.sqrt_coe]; norm_num

theorem neg_inf : Ideal.ofBits .f32 4286578688#32 = ⊥ := by simp [Ideal.ofBits, Ideal.ieee]
theorem pos_inf : Ideal.ofBits .f32 2139095040#32 = ⊤ := by simp [Ideal.ofBits, Ideal.ieee]

theorem div_sqrt (a : ℝ) : Ideal.div (a : EReal) (Ideal.sqrt (Ideal.ofBits .f32 1124073472#32)) = ((a * (Real.sqrt 128)⁻¹ : ℝ) : EReal) := by
  rw [sqrt_128, div_real _ _ (by positivity), div_eq_mul_inv]

end Cert.AttnMath

end
-- ==== Proof.KernelAt.lean ====
/-
The kernel's steps read at an index.
-/
module

public import proofs.«01_k».proof.Proof.Values
public import proofs.«01_k».proof.Proof.Softmax

@[expose] public section

set_option maxRecDepth 65536

noncomputable section

namespace Cert.AttnKernel

open Cert.KernelIdeal Cert.KernelIdeal.Gen
open Idealize.ShloMosaic Cert.AttnMath

theorem pay1_at (e : FVec Ideal S1024x1024 .bf16) (V : Vec Ideal S1x1024x1x128 .f32) (i : Fin 1024) (d : Fin 128) :
    k0_pay1 (F := Ideal) e V (ix2 i d) = (∑ j, e (ix2 i j) * V (ix4 0 j 0 d)) * Ideal.div 1 (∑ j, e (ix2 i j)) := by
  pointwise [k0_pay1]

theorem pay2_at (e w : Vec Ideal S1024x1024 .bf16) (z : Fin 1) (i n : Fin 1024) :
    k0_pay2 (F := Ideal) e w (ix3 z i n) = ∑ k, e (ix2 i k) * w (ix2 k n) := by
  pointwise [k0_pay2]

theorem pay3_at (x : Vec Ideal S1x1024x1024 .f32) (z : Fin 1) (i n : Fin 1024) : k0_pay3 (F := Ideal) x (ix3 z i n) = x (ix3 0 i n) := by
  pointwise [k0_pay3]

theorem pay4_at (x : Vec Ideal S1x1024x1024 .f32) (i n : Fin 1024) : k0_pay4 (F := Ideal) x (ix2 i n) = x (ix3 0 i n) := by
  pointwise [k0_pay4]

theorem pay5_at (x : Vec Ideal S1x1024x1024 .f32) (i n : Fin 1024) : k0_pay5 (F := Ideal) x (ix2 i n) = x (ix3 0 i n) := by
  pointwise [k0_pay5]

theorem pay6_at (i n : Fin 1024) : k0_pay6 (ix2 i n) = BitVec.ofNat 32 (i.val / 64) := by
  pointwise [k0_pay6]
  revert i
  decide +kernel

theorem pay789_at (i n : Fin 1024) : Scalar.select (IntOp.andi (k0_pay8 (ix2 i n)) (k0_pay9 (ix2 i n))) (IntOp.subi (k0_pay7 (ix2 i n)) 1#32) (k0_pay7 (ix2 i n))
    = BitVec.ofNat 32 (n.val / 64) := by
  pointwise [k0_pay7, k0_pay8, k0_pay9]
  revert n
  decide +kernel

theorem bias_at (i n : Fin 1024) : k0_pay12 (F := Ideal) k0_pay6 k0_pay7 k0_pay8 k0_pay9 (ix2 i n) = if keep i.val n.val then 0 else ⊥ := by
  pointwise [k0_pay12]
  rw [pay789_at, pay6_at]
  have key : ∀ a b : Fin 16, IntOp.ori
        (IntOp.ori (IntOp.cmpi CmpIPredicate.eq (BitVec.ofNat 32 a.val) (BitVec.ofNat 32 b.val))
          (IntOp.cmpi CmpIPredicate.eq (BitVec.ofNat 32 b.val) 0#32))
        (IntOp.cmpi CmpIPredicate.eq
          (IntOp.remsi ArithUnit.vector (IntOp.addi (BitVec.ofNat 32 a.val) (BitVec.ofNat 32 b.val)) 3#32) 0#32)
      = BitVec.ofBool (decide (a.val = b.val ∨ b.val = 0 ∨ (a.val + b.val) % 3 = 0)) := by
    decide +kernel
  have hk := key ⟨i.val / 64, block_lt i⟩ ⟨n.val / 64, block_lt n⟩
  rw [← select_keep]
  exact congrArg (fun c => Scalar.select c (0 : EReal) ⊥) hk

theorem pay13_at (x : Vec Ideal S1x1024x1024 .bf16) (w : Vec Ideal S1024x1024 .bf16) (i n : Fin 1024) :
    k0_pay13 (F := Ideal) x w (ix2 i n) = ∑ k, x (ix3 0 i k) * w (ix2 k n) := by
  pointwise [k0_pay13]

theorem pay14_at (K : Vec Ideal S1x1024x1x128 .f32) (q : Vec Ideal S1024x128 .bf16) (b : Vec Ideal S1024x1024 .bf16) (i n : Fin 1024) :
    k0_pay14 (F := Ideal) K q b (ix2 i n) = Ideal.exp ((∑ d, q (ix2 i d) * K (ix4 0 n 0 d)) * (((Real.sqrt 128)⁻¹ : ℝ) : EReal) + b (ix2 i n)) := by
  pointwise [k0_pay14]
  rfl

theorem pay11_at (a b c d : Vec Ideal S1x1024x1024 .bf16) (z : Fin 1) (i n : Fin 1024) :
    k0_pay11 (F := Ideal) (k0_pay10 (F := Ideal) a b) c d (ix3 z i n) = a (ix3 0 i n) + b (ix3 0 i n) + c (ix3 0 i n) + d (ix3 0 i n) := by
  pointwise [k0_pay11, k0_pay10]

end Cert.AttnKernel

end
-- ==== Proof.RefTerm.lean ====
/-
The plain program's result, step by step: the mask, the scores under it, the weights, the weighted values and the projection.
-/
module

public import proofs.«01_k».proof.Proof.Gen.ReferenceIdeal.Run
public import Idealize.ShloMosaic.Lib.Pointwise

@[expose] public section

noncomputable section

namespace Cert.AttnRef

open Cert.ReferenceIdeal Cert.ReferenceIdeal.Facts₀ Cert.ReferenceIdeal.Facts
open Idealize.ShloMosaic
open Idealize.ShloMosaic.TcCoe

variable [Cert.ReferenceIdeal.Facts]

/-- The block of each position. -/
def rDiv  : IVec S1024 32 :=
  select (andi (cmpi .ne (signi (iotaInDim S1024 32 0)) (broadcastInDim S1024 ![] bcast_S_S1024 (signi (id (constantI S_ 32 64#32))))) (cmpi .ne (Host.remsi (iotaInDim S1024 32 0) (broadcastInDim S1024 ![] bcast_S_S1024 (id (constantI S_ 32 64#32)))) (broadcastInDim S1024 ![] bcast_S_S1024 (constantI S_ 32 0#32)))) (subi (Host.divsi (iotaInDim S1024 32 0) (broadcastInDim S1024 ![] bcast_S_S1024 (id (constantI S_ 32 64#32)))) (broadcastInDim S1024 ![] bcast_S_S1024 (constantI S_ 32 1#32))) (Host.divsi (iotaInDim S1024 32 0) (broadcastInDim S1024 ![] bcast_S_S1024 (id (constantI S_ 32 64#32))))

/-- The mask. -/
def rMask  : IVec S1024x1024 1 :=
  ori (ori (cmpi .eq (broadcastInDim S1024x1024 ![0, 1] bcast_S1024x1_S1024x1024_0_1 (broadcastInDim S1024x1 ![0] bcast_S1024_S1024x1_0 rDiv)) (broadcastInDim S1024x1024 ![0, 1] bcast_S1x1024_S1024x1024_0_1 (broadcastInDim S1x1024 ![1] bcast_S1024_S1x1024_1 rDiv))) (broadcastInDim S1024x1024 ![0, 1] bcast_S1x1024_S1024x1024_0_1 (cmpi .eq (broadcastInDim S1x1024 ![1] bcast_S1024_S1x1024_1 rDiv) (broadcastInDim S1x1024 ![] bcast_S_S1x1024 (constantI S_ 32 0#32))))) (cmpi .eq (select (andi (cmpi .ne (cmpi .slt (Host.remsi (addi (broadcastInDim S1024x1024 ![0, 1] bcast_S1024x1_S1024x1024_0_1 (broadcastInDim S1024x1 ![0] bcast_S1024_S1024x1_0 rDiv)) (broadcastInDim S1024x1024 ![0, 1] bcast_S1x1024_S1024x1024_0_1 (broadcastInDim S1x1024 ![1] bcast_S1024_S1x1024_1 rDiv))) (broadcastInDim S1024x1024 ![] bcast_S_S1024x1024 (select (cmpi .eq (id (constantI S_ 32 3#32)) (constantI S_ 32 0#32)) (constantI S_ 32 1#32) (id (constantI S_ 32 3#32))))) (broadcastInDim S1024x1024 ![] bcast_S_S1024x1024 (constantI S_ 32 0#32))) (broadcastInDim S1024x1024 ![] bcast_S_S1024x1024 (cmpi .slt (select (cmpi .eq (id (constantI S_ 32 3#32)) (constantI S_ 32 0#32)) (constantI S_ 32 1#32) (id (constantI S_ 32 3#32))) (constantI S_ 32 0#32)))) (cmpi .ne (Host.remsi (addi (broadcastInDim S1024x1024 ![0, 1] bcast_S1024x1_S1024x1024_0_1 (broadcastInDim S1024x1 ![0] bcast_S1024_S1024x1_0 rDiv)) (broadcastInDim S1024x1024 ![0, 1] bcast_S1x1024_S1024x1024_0_1 (broadcastInDim S1x1024 ![1] bcast_S1024_S1x1024_1 rDiv))) (broadcastInDim S1024x1024 ![] bcast_S_S1024x1024 (select (cmpi .eq (id (constantI S_ 32 3#32)) (constantI S_ 32 0#32)) (constantI S_ 32 1#32) (id (constantI S_ 32 3#32))))) (broadcastInDim S1024x1024 ![] bcast_S_S1024x1024 (constantI S_ 32 0#32)))) (addi (Host.remsi (addi (broadcastInDim S1024x1024 ![0, 1] bcast_S1024x1_S1024x1024_0_1 (broadcastInDim S1024x1 ![0] bcast_S1024_S1024x1_0 rDiv)) (broadcastInDim S1024x1024 ![0, 1] bcast_S1x1024_S1024x1024_0_1 (broadcastInDim S1x1024 ![1] bcast_S1024_S1x1024_1 rDiv))) (broadcastInDim S1024x1024 ![] bcast_S_S1024x1024 (select (cmpi .eq (id (constantI S_ 32 3#32)) (constantI S_ 32 0#32)) (constantI S_ 32 1#32) (id (constantI S_ 32 3#32))))) (broadcastInDim S1024x1024 ![] bcast_S_S1024x1024 (select (cmpi .eq (id (constantI S_ 32 3#32)) (constantI S_ 32 0#32)) (constantI S_ 32 1#32) (id (constantI S_ 32 3#32))))) (Host.remsi (addi (broadcastInDim S1024x1024 ![0, 1] bcast_S1024x1_S1024x1024_0_1 (broadcastInDim S1024x1 ![0] bcast_S1024_S1024x1_0 rDiv)) (broadcastInDim S1024x1024 ![0, 1] bcast_S1x1024_S1024x1024_0_1 (broadcastInDim S1x1024 ![1] bcast_S1024_S1x1024_1 rDiv))) (broadcastInDim S1024x1024 ![] bcast_S_S1024x1024 (select (cmpi .eq (id (constantI S_ 32 3#32)) (constantI S_ 32 0#32)) (constantI S_ 32 1#32) (id (constantI S_ 32 3#32)))))) (broadcastInDim S1024x1024 ![] bcast_S_S1024x1024 (constantI S_ 32 0#32)))

/-- The scaled scores. -/
def rScore (x : FVec Ideal S4x1024x1024 .f32) (Wq : FVec Ideal S1024x4096 .f32) (K : FVec Ideal S4x1024x32x128 .f32) : FVec Ideal S4x32x1024x1024 .f32 :=
  Host.divf (Host.dotGeneral dot_S4x1024x32x128_S4x1024x32x128_S4x32x1024x1024_3_3_1_1_02_02 none (shapeCast S4x1024x32x128 (Host.dotGeneral dot_S4x1024x1024_S1024x4096_S4x1024x4096_2_0_01_1_n_n none x Wq) shapeCasts_S4x1024x4096_S4x1024x32x128) K) (broadcastInDim S4x32x1024x1024 ![] bcast_S_S4x32x1024x1024 (Host.sqrt (constant S_ .f32 0x43000000#32)))

/-- The scores under the mask. -/
def rT (x : FVec Ideal S4x1024x1024 .f32) (Wq : FVec Ideal S1024x4096 .f32) (K : FVec Ideal S4x1024x32x128 .f32) : FVec Ideal S4x32x1024x1024 .f32 :=
  select (broadcastInDim S4x32x1024x1024 ![0, 1, 2, 3] bcast_S1x1x1024x1024_S4x32x1024x1024_0_1_2_3 (broadcastInDim S1x1x1024x1024 ![2, 3] bcast_S1024x1024_S1x1x1024x1024_2_3 rMask)) (rScore x Wq K) (broadcastInDim S4x32x1024x1024 ![] bcast_S_S4x32x1024x1024 (id (constant S_ .f32 0xFF800000#32)))

/-- The largest score of each row. -/
def rMax (x : FVec Ideal S4x1024x1024 .f32) (Wq : FVec Ideal S1024x4096 .f32) (K : FVec Ideal S4x1024x32x128 .f32) : FVec Ideal S4x32x1024 .f32 :=
  Host.reduce FloatOps.maximumf (rT x Wq K) (constant S_ .f32 0xFF800000#32) reducesTo_S4x32x1024x1024_S4x32x1024_d3 h_S_

/-- The exponentials. -/
def rE (x : FVec Ideal S4x1024x1024 .f32) (Wq : FVec Ideal S1024x4096 .f32) (K : FVec Ideal S4x1024x32x128 .f32) : FVec Ideal S4x32x1024x1024 .f32 :=
  Host.exp (subf (rT x Wq K) (broadcastInDim S4x32x1024x1024 ![0, 1, 2, 3] bcast_S4x32x1024x1_S4x32x1024x1024_0_1_2_3 (broadcastInDim S4x32x1024x1 ![0, 1, 2] bcast_S4x32x1024_S4x32x1024x1_0_1_2 (rMax x Wq K))))

/-- Whether a row keeps any column. -/
def rKeep  : IVec S1024 1 :=
  Host.reduce IntOp.ori rMask (constantI S_ 1 0#1) reducesTo_S1024x1024_S1024_d1 h_S_

/-- The weights. -/
def rP (x : FVec Ideal S4x1024x1024 .f32) (Wq : FVec Ideal S1024x4096 .f32) (K : FVec Ideal S4x1024x32x128 .f32) : FVec Ideal S4x32x1024x1024 .f32 :=
  select (broadcastInDim S4x32x1024x1024 ![0, 1, 2, 3] bcast_S1x1x1024x1_S4x32x1024x1024_0_1_2_3 (broadcastInDim S1x1x1024x1 ![2] bcast_S1024_S1x1x1024x1_2 rKeep)) (Host.divf (rE x Wq K) (broadcastInDim S4x32x1024x1024 ![0, 1, 2, 3] bcast_S4x32x1024x1_S4x32x1024x1024_0_1_2_3 (select (broadcastInDim S4x32x1024x1 ![0, 1, 2, 3] bcast_S1x1x1024x1_S4x32x1024x1_0_1_2_3 (broadcastInDim S1x1x1024x1 ![2] bcast_S1024_S1x1x1024x1_2 rKeep)) (broadcastInDim S4x32x1024x1 ![0, 1, 2] bcast_S4x32x1024_S4x32x1024x1_0_1_2 (Host.reduceAdd (rE x Wq K) (constant S_ .f32 0x00000000#32) reducesTo_S4x32x1024x1024_S4x32x1024_d3 h_S_)) (broadcastInDim S4x32x1024x1 ![] bcast_S_S4x32x1024x1 (id (constant S_ .f32 0x3F800000#32)))))) (broadcastInDim S4x32x1024x1024 ![] bcast_S_S4x32x1024x1024 (id (constant S_ .f32 0x00000000#32)))

/-- The result. -/
def rAll (x : FVec Ideal S4x1024x1024 .f32) (Wq : FVec Ideal S1024x4096 .f32) (K : FVec Ideal S4x1024x32x128 .f32) (V : FVec Ideal S4x1024x32x128 .f32) (Wo : FVec Ideal S4096x1024 .f32) : FVec Ideal S4x1024x1024 .f32 :=
  Host.dotGeneral dot_S4x1024x4096_S4096x1024_S4x1024x1024_2_0_01_1_n_n none (shapeCast S4x1024x4096 (transpose S4x1024x32x128 [0, 3, 1, 2] (Host.dotGeneral dot_S4x1024x32x128_S4x32x1024x1024_S4x32x128x1024_1_3_3_2_02_01 none V (rP x Wq K)) transposes_S4x32x128x1024_S4x1024x32x128_0_3_1_2) shapeCasts_S4x1024x32x128_S4x1024x4096) Wo

set_option maxRecDepth 65536 in
theorem res_eq (m : (ℓ : Loc nD τ sig) → Buf (Elt Ideal) ℓ) (c : Dev nD) :
    Cert.ReferenceIdeal.Value.res_main_v45 m c = rAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.AttnRef

end
-- ==== Proof.RefAt.lean ====
/-
The plain program's steps read at an index.
-/
module

public import proofs.«01_k».proof.Proof.RefTerm
public import proofs.«01_k».proof.Proof.Softmax

@[expose] public section

set_option maxRecDepth 65536

noncomputable section

namespace Cert.AttnRef

open Cert.ReferenceIdeal Cert.ReferenceIdeal.Facts₀ Cert.ReferenceIdeal.Facts
open Idealize.ShloMosaic Cert.AttnMath

variable [Cert.ReferenceIdeal.Facts]

theorem rDiv_at (i : Fin 1024) : rDiv (ix1 i) = BitVec.ofNat 32 (i.val / 64) := by
  pointwise [rDiv]
  revert i
  decide +kernel

theorem rMask_at (i j : Fin 1024) : rMask (ix2 i j) = keepBit i.val j.val := by
  pointwise [rMask]
  rw [rDiv_at, rDiv_at]
  have key : ∀ a b : Fin 16, IntOp.ori
      (IntOp.ori (IntOp.cmpi CmpIPredicate.eq (BitVec.ofNat 32 a.val) (BitVec.ofNat 32 b.val))
        (IntOp.cmpi CmpIPredicate.eq (BitVec.ofNat 32 b.val) 0#32))
      (IntOp.cmpi CmpIPredicate.eq
        (Scalar.select
          (IntOp.andi
            (IntOp.cmpi CmpIPredicate.ne
              (IntOp.cmpi CmpIPredicate.slt
                (IntOp.remsi ArithUnit.host (IntOp.addi (BitVec.ofNat 32 a.val) (BitVec.ofNat 32 b.val)) 3#32)
                0#32)
              0#1)
            (IntOp.cmpi CmpIPredicate.ne
              (IntOp.remsi ArithUnit.host (IntOp.addi (BitVec.ofNat 32 a.val) (BitVec.ofNat 32 b.val)) 3#32)
              0#32))
          (IntOp.addi
            (IntOp.remsi ArithUnit.host (IntOp.addi (BitVec.ofNat 32 a.val) (BitVec.ofNat 32 b.val)) 3#32) 3#32)
          (IntOp.remsi ArithUnit.host (IntOp.addi (BitVec.ofNat 32 a.val) (BitVec.ofNat 32 b.val)) 3#32))
        0#32) = BitVec.ofBool (decide (a.val = b.val ∨ b.val = 0 ∨ (a.val + b.val) % 3 = 0)) := by
    decide +kernel
  exact key ⟨i.val / 64, block_lt i⟩ ⟨j.val / 64, block_lt j⟩

theorem rKeep_at (i : Fin 1024) : rKeep (ix1 i) = 1#1 := by
  pointwise [rKeep]
  simp only [rMask_at]
  classical
  rw [← Finset.insert_erase (Finset.mem_univ (0 : Fin 1024)), Finset.fold_insert (Finset.notMem_erase _ _)]
  have h : keepBit i.val (0 : Fin 1024).val = 1#1 := by
    unfold keepBit
    rw [decide_eq_true (show keep i.val (0 : Fin 1024).val from keep_zero i.val)]; rfl
  rw [h]
  generalize Finset.fold IntOp.ori _ _ _ = c
  revert c
  decide

variable (x : FVec Ideal S4x1024x1024 .f32) (Wq : FVec Ideal S1024x4096 .f32) (K V : FVec Ideal S4x1024x32x128 .f32) (Wo : FVec Ideal S4096x1024 .f32)

/-- The scores before scaling: a query's products with the keys of its batch and head. -/
def dots (b : Fin 4) (h : Fin 32) (i j : Fin 1024) : EReal :=
  ∑ d : Fin 128, (∑ k : Fin 1024, x (ix3 b i k) * Wq (ix2 k ⟨h.val * 128 + d.val, by have := h.isLt; have := d.isLt; omega⟩)) * K (ix4 b j h d)

theorem rScore_at (b : Fin 4) (h : Fin 32) (i j : Fin 1024) : rScore x Wq K (ix4 b h i j) = Ideal.div (dots x Wq K b h i j) (Ideal.sqrt (Ideal.ofBits .f32 1124073472#32)) := by
  pointwise [rScore]
  rfl

theorem rT_at (b : Fin 4) (h : Fin 32) (i j : Fin 1024) : rT x Wq K (ix4 b h i j)
    = if keep i.val j.val then Ideal.div (dots x Wq K b h i j) (Ideal.sqrt (Ideal.ofBits .f32 1124073472#32)) else ⊥ := by
  pointwise [rT]
  rw [rMask_at, select_keep, rScore_at, ← neg_inf]
  rfl

theorem rMax_at (b : Fin 4) (h : Fin 32) (i : Fin 1024) : rMax x Wq K (ix3 b h i) = Finset.fold max ⊥ (fun j => rT x Wq K (ix4 b h i j)) Finset.univ := by
  pointwise [rMax]
  rw [neg_inf]

theorem rE_at (b : Fin 4) (h : Fin 32) (i j : Fin 1024) : rE x Wq K (ix4 b h i j) = Ideal.exp (rT x Wq K (ix4 b h i j) - rMax x Wq K (ix3 b h i)) := by
  pointwise [rE]

theorem rP_at (b : Fin 4) (h : Fin 32) (i j : Fin 1024) : rP x Wq K (ix4 b h i j) = Ideal.div (rE x Wq K (ix4 b h i j)) (∑ j', rE x Wq K (ix4 b h i j')) := by
  pointwise [rP]
  rw [rKeep_at]
  rfl

/-- One head's weighted values, as the plain program has them. -/
def rCtx (b : Fin 4) (i : Fin 1024) (h : Fin 32) (d : Fin 128) : EReal := ∑ j : Fin 1024, V (ix4 b j h d) * rP x Wq K (ix4 b h i j)

theorem rAll_at (b : Fin 4) (i n : Fin 1024) : rAll x Wq K V Wo (ix3 b i n)
    = ∑ C : Fin 4096, rCtx x Wq K V b i ⟨C.val / 128, by have := C.isLt; omega⟩ ⟨C.val % 128, Nat.mod_lt _ (by decide)⟩ * Wo (ix2 C n) := by
  pointwise [rAll]
  rfl

end Cert.AttnRef

end
-- ==== Proof.Value.lean ====
/-
The value of the run: each device's result is its block of the plain program's result.
-/
module

public import proofs.«01_k».proof.Proof.KernelAt
public import proofs.«01_k».proof.Proof.RefAt

@[expose] public section

set_option maxRecDepth 65536

noncomputable section

namespace Cert.AttnValue

open Idealize.ShloMosaic Cert.AttnMath Cert.AttnKernel Cert.AttnRef

/-- A memory of the kernel's devices. -/
abbrev Mem : Type := (ℓ : Loc Cert.KernelIdeal.nD Cert.KernelIdeal.τ Cert.KernelIdeal.sig) → Buf (Elt Ideal) ℓ

theorem pix2 (a b : Fin 1024) : Cert.AttnProof.ix2 a b = ix2 a b := by
  funext k
  match k with
  | 0 => rfl
  | 1 => rfl

theorem pixq (a : Fin 1024) (b : Fin 128) : Cert.AttnProof.ixq a b = ix2 a b := by
  funext k
  match k with
  | 0 => rfl
  | 1 => rfl

theorem pixKV (j : Fin 4) (a : Fin 1024) (h : Fin 32) (d : Fin 128) : Cert.AttnProof.ixKV j a h d = ix4 j a h d := by
  funext k
  match k with
  | 0 => rfl
  | 1 => rfl
  | 2 => rfl
  | 3 => rfl

theorem col_lt (c : Fin 4) (k : Fin 1024) : 1024 * c.val + k.val < 4096 := by have := c.isLt; have := k.isLt; omega
theorem head_lt (c : Fin 4) (h : Fin 8) : 8 * c.val + h.val < 32 := by have := c.isLt; have := h.isLt; omega

/-- Column `k` of device `c`'s block of the query projection, and row `k` of its block of the output projection. -/
def col (c : Fin 4) (k : Fin 1024) : Fin 4096 := ⟨1024 * c.val + k.val, col_lt c k⟩
/-- Head `h` of device `c`. -/
def hd (c : Fin 4) (h : Fin 8) : Fin 32 := ⟨8 * c.val + h.val, head_lt c h⟩

variable [Cert.ReferenceIdeal.Facts]

variable (m : Mem)
variable (X : FVec Ideal Cert.ReferenceIdeal.S4x1024x1024 .f32) (Wq : FVec Ideal Cert.ReferenceIdeal.S1024x4096 .f32)
  (K V : FVec Ideal Cert.ReferenceIdeal.S4x1024x32x128 .f32) (Wo : FVec Ideal Cert.ReferenceIdeal.S4096x1024 .f32)

/-- The devices hold their blocks of the whole arrays. -/
structure Holds : Prop where
  x : ∀ (c : Fin 4) (i k : Fin 1024), Cert.AttnProof.xin (F := Ideal) m c (ix3 0 i k) = X (ix3 c i k)
  wq : ∀ (c : Fin 4) (i k : Fin 1024), Cert.AttnProof.wqin (F := Ideal) m c (ix2 i k) = Wq (ix2 i (col c k))
  k : ∀ c, Cert.AttnProof.kin (F := Ideal) m c = K
  v : ∀ c, Cert.AttnProof.vin (F := Ideal) m c = V
  wo : ∀ (c : Fin 4) (i k : Fin 1024), Cert.AttnProof.woin (F := Ideal) m c (ix2 i k) = Wo (ix2 (col c i) k)

/-- The inputs of the scores are real numbers. -/
structure AllReal : Prop where
  x : ∀ i, IsReal (X i)
  wq : ∀ i, IsReal (Wq i)
  k : ∀ i, IsReal (K i)

variable {m X Wq K V Wo}

theorem WQB_at (H : Holds m X Wq K V Wo) (c : Fin 4) (i n : Fin 1024) : Cert.AttnProof.WQB (F := Ideal) m c (ix2 i n) = Wq (ix2 i (col c n)) := by
  unfold Cert.AttnProof.WQB
  rw [pay4_at, ← H.wq c i n, ← pix2]
  rfl

theorem WOB_at (H : Holds m X Wq K V Wo) (c : Fin 4) (i n : Fin 1024) : Cert.AttnProof.WOB (F := Ideal) m c (ix2 i n) = Wo (ix2 (col c i) n) := by
  unfold Cert.AttnProof.WOB
  rw [pay5_at, ← H.wo c i n, ← pix2]
  rfl

theorem QB_at (H : Holds m X Wq K V Wo) (c j : Fin 4) (i n : Fin 1024) :
    Cert.AttnProof.QB (F := Ideal) m c j (ix2 i n) = ∑ k : Fin 1024, X (ix3 j i k) * Wq (ix2 k (col c n)) := by
  unfold Cert.AttnProof.QB
  rw [pay13_at]
  refine Finset.sum_congr rfl fun k _ => ?_
  rw [WQB_at H, pay3_at, H.x]

theorem dots_at (H : Holds m X Wq K V Wo) (c j : Fin 4) (h : Fin 8) (i n : Fin 1024) :
    (∑ d : Fin 128, Cert.AttnProof.QH (F := Ideal) m c j h (ix2 i d) * Cert.AttnProof.KH (F := Ideal) m c j h (ix4 0 n 0 d)) = dots X Wq K j (hd c h) i n := by
  unfold dots
  refine Finset.sum_congr rfl fun d _ => ?_
  have hq : Cert.AttnProof.QH (F := Ideal) m c j h (ix2 i d) = ∑ k : Fin 1024, X (ix3 j i k) * Wq (ix2 k ⟨(hd c h).val * 128 + d.val, by have := (hd c h).isLt; have := d.isLt; omega⟩) := by
    have hd' : 128 * h.val + d.val < 1024 := by have := h.isLt; have := d.isLt; omega
    refine Eq.trans (b := Cert.AttnProof.QB (F := Ideal) m c j (ix2 i ⟨128 * h.val + d.val, hd'⟩)) (by rw [← pix2]; rfl) ?_
    rw [QB_at H]
    refine Finset.sum_congr rfl fun k _ => ?_
    have hc : col c ⟨128 * h.val + d.val, hd'⟩ = ⟨(hd c h).val * 128 + d.val, by have := (hd c h).isLt; have := d.isLt; omega⟩ :=
      Fin.ext (show 1024 * c.val + (128 * h.val + d.val) = (8 * c.val + h.val) * 128 + d.val by omega)
    rw [hc]
  have hk : Cert.AttnProof.KH (F := Ideal) m c j h (ix4 0 n 0 d) = K (ix4 j n (hd c h) d) := by
    refine Eq.trans (b := Cert.AttnProof.kin (F := Ideal) m c (ix4 j n (hd c h) d)) (by rw [← pixKV]; rfl) ?_
    rw [H.k]
  rw [hq, hk]

theorem dots_real (R : AllReal X Wq K) (j : Fin 4) (h : Fin 32) (i n : Fin 1024) : IsReal (dots X Wq K j h i n) :=
  IsReal.sum fun d => (IsReal.sum fun k => (R.x _).mul (R.wq _)).mul (R.k _)

theorem HEAD_at (H : Holds m X Wq K V Wo) (R : AllReal X Wq K) (c j : Fin 4) (h : Fin 8) (i : Fin 1024) (d : Fin 128) :
    Cert.AttnProof.HEAD (F := Ideal) m c j h (ix2 i d) = rCtx X Wq K V j i (hd c h) d := by
  choose s hs using fun n => dots_real R j (hd c h) i n
  have ht : ∀ n : Fin 1024, rT X Wq K (ix4 j (hd c h) i n) = masked (fun n : Fin 1024 => keep i.val n.val) (fun n => s n * (Real.sqrt 128)⁻¹) n := fun n => by
    rw [rT_at, hs, div_sqrt]; rfl
  have he : ∀ n : Fin 1024, Cert.KernelIdeal.Gen.k0_pay14 (F := Ideal) (Cert.AttnProof.KH (F := Ideal) m c j h) (Cert.AttnProof.QH (F := Ideal) m c j h) (Cert.AttnProof.BIAS (F := Ideal)) (ix2 i n)
      = Ideal.exp (masked (fun n : Fin 1024 => keep i.val n.val) (fun n => s n * (Real.sqrt 128)⁻¹) n) := fun n => by
    rw [pay14_at, dots_at H, hs]
    unfold Cert.AttnProof.BIAS
    rw [bias_at, ← EReal.coe_mul]
    unfold masked
    split
    · rw [add_zero]
    · rw [EReal.add_bot]
  have hv : ∀ n : Fin 1024, Cert.AttnProof.VH (F := Ideal) m c j h (ix4 0 n 0 d) = V (ix4 j n (hd c h) d) := fun n => by
    refine Eq.trans (b := Cert.AttnProof.vin (F := Ideal) m c (ix4 j n (hd c h) d)) (by rw [← pixKV]; rfl) ?_
    rw [H.v]
  unfold Cert.AttnProof.HEAD rCtx
  rw [pay1_at]
  simp only [he, hv, rP_at, rE_at, rMax_at, ht]
  exact softmax _ _ _ (0 : Fin 1024) (keep_zero i.val)

theorem POUT_at (H : Holds m X Wq K V Wo) (R : AllReal X Wq K) (c j : Fin 4) (i n : Fin 1024) :
    Cert.AttnProof.POUT (F := Ideal) m c j (ix3 0 i n) = ∑ k : Fin 1024, rCtx X Wq K V j i ⟨(col c k).val / 128, by have := (col c k).isLt; omega⟩ ⟨(col c k).val % 128, Nat.mod_lt _ (by decide)⟩ * Wo (ix2 (col c k) n) := by
  unfold Cert.AttnProof.POUT
  rw [pay2_at]
  refine Finset.sum_congr rfl fun k _ => ?_
  rw [WOB_at H]
  congr 1
  have h8 : k.val / 128 < 8 := by have := k.isLt; omega
  refine Eq.trans (b := Cert.AttnProof.HEAD (F := Ideal) m c j ⟨k.val / 128, h8⟩ (ix2 i ⟨k.val % 128, Nat.mod_lt _ (by decide)⟩)) (by rw [← pixq]; rfl) ?_
  rw [HEAD_at H R]
  congr 1
  · exact Fin.ext (show 8 * c.val + k.val / 128 = (1024 * c.val + k.val) / 128 by omega)
  · exact Fin.ext (show k.val % 128 = (1024 * c.val + k.val) % 128 by omega)

/-- A sum over the four devices' columns. -/
theorem sum_cols (f : Fin 4096 → EReal) : ∑ C : Fin 4096, f C = ∑ c : Fin 4, ∑ k : Fin 1024, f (col c k) := by
  have h := Equiv.sum_comp (finProdFinEquiv (m := 4) (n := 1024)) f
  rw [← h, Fintype.sum_prod_type]
  refine Finset.sum_congr rfl fun c _ => Finset.sum_congr rfl fun k _ => congrArg f (Fin.ext ?_)
  show k.val + 1024 * c.val = 1024 * c.val + k.val
  omega

/-- The four parts in the order device `c` adds them. -/
theorem sum_ring (c : Fin 4) (f : Fin 4 → EReal) : f c + f (Cert.AttnProof.nx c 3) + f (Cert.AttnProof.nx c 2) + f (Cert.AttnProof.nx c 1) = ∑ d : Fin 4, f d := by
  rw [Fin.sum_univ_four]
  match c with
  | 0 => exact show f 0 + f 3 + f 2 + f 1 = _ by ac_rfl
  | 1 => exact show f 1 + f 0 + f 3 + f 2 = _ by ac_rfl
  | 2 => exact show f 2 + f 1 + f 0 + f 3 = _ by ac_rfl
  | 3 => exact show f 3 + f 2 + f 1 + f 0 = _ by ac_rfl

theorem OUT_at (H : Holds m X Wq K V Wo) (R : AllReal X Wq K) (c : Fin 4) (i n : Fin 1024) :
    Cert.AttnProof.OUT (F := Ideal) m c (ix3 0 i n) = rAll X Wq K V Wo (ix3 c i n) := by
  unfold Cert.AttnProof.OUT
  rw [pay11_at, rAll_at, sum_cols, POUT_at H R, POUT_at H R, POUT_at H R, POUT_at H R]
  exact sum_ring c fun d => ∑ k : Fin 1024, rCtx X Wq K V c i ⟨(col d k).val / 128, by have := (col d k).isLt; omega⟩ ⟨(col d k).val % 128, Nat.mod_lt _ (by decide)⟩ * Wo (ix2 (col d k) n)

end Cert.AttnValue

end
-- ==== Proof.Finite.lean ====
/-
The precondition read at an element: the activations, the query projection and the keys are real numbers.
-/
module

public import proofs.«01_k».proof.Pre_finite_KernelIdeal
public import proofs.«01_k».proof.Pre_finite_ReferenceIdeal
public import proofs.«01_k».proof.Proof.Softmax
public import Idealize.ShloMosaic.Lib.ReduceAll

@[expose] public section

noncomputable section

namespace Cert.AttnValue

open Idealize.ShloMosaic Cert.AttnMath

instance preFacts : Cert.Pre_finite_KernelIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S4x1024x32x128 := by decide
  reducesTo_S4x1024x32x128_S_d0_1_2_3 := by decide

instance preRefFacts : Cert.Pre_finite_ReferenceIdeal.Facts := by
  constructor <;> decide

instance : Subsingleton Cert.Pre_finite_KernelIdeal.S_.Idx := ⟨fun _ _ => funext fun i => i.elim0⟩

/-- A magnitude below the infinity is a real number's. -/
theorem real_of_bit (x : EReal) (h : FloatOps.cmpf (F := Ideal) (φ := .f32) .olt (FloatOps.hostAbsf (F := Ideal) (φ := .f32) x) (Ideal.ofBits .f32 0x7F800000#32) = 1#1) : IsReal x := by
  have h' : Ideal.cmp .olt (max x (-x)) (Ideal.ofBits .f32 2139095040#32) = 1#1 := h
  rw [pos_inf] at h'
  induction x with
  | coe r => exact ⟨r, rfl⟩
  | bot => exact absurd h' (by simp [Ideal.cmp])
  | top => exact absurd h' (by simp [Ideal.cmp])

theorem real_of_pre (x : FVec Ideal Cert.Pre_finite_KernelIdeal.S1x1024x1024 .f32) (wq : FVec Ideal Cert.Pre_finite_KernelIdeal.S1024x1024 .f32)
    (k v : FVec Ideal Cert.Pre_finite_KernelIdeal.S4x1024x32x128 .f32) (wo : FVec Ideal Cert.Pre_finite_KernelIdeal.S1024x1024 .f32)
    (h : Cert.Pre_finite_KernelIdeal.fn (F := Ideal) x wq k v wo = fun _ => 1#1) :
    (∀ i, IsReal (x i)) ∧ (∀ i, IsReal (wq i)) ∧ ∀ i, IsReal (k i) := by
  have split : ∀ a b : BitVec 1, IntOp.andi a b = 1#1 → a = 1#1 ∧ b = 1#1 := by decide
  have h0 := congrFun h ix0
  unfold Cert.Pre_finite_KernelIdeal.fn at h0
  obtain ⟨h01, h2⟩ := split _ _ h0
  obtain ⟨hx, hw⟩ := split _ _ h01
  exact ⟨fun i => real_of_bit _ (Host.reduce_andi_all _ _ _ _ _ hx i), fun i => real_of_bit _ (Host.reduce_andi_all _ _ _ _ _ hw i),
    fun i => real_of_bit _ (Host.reduce_andi_all _ _ _ _ _ h2 i)⟩

end Cert.AttnValue

end
-- ==== Proof.Algebraic.lean ====
/-
The value claim: where the activations, the query projection and the keys are finite, each device ends with its block of the plain program's result.
-/
module

public import proofs.«01_k».proof.Proof.Frames
public import proofs.«01_k».proof.Proof.Value
public import proofs.«01_k».proof.Proof.Finite
public import Idealize.ShloMosaic.Lib.LayoutAt

@[expose] public section

set_option maxRecDepth 65536

noncomputable section

namespace Cert.AttnProof

open Idealize.ShloMosaic Idealize.SL.Sem Cert.AttnMath Cert.AttnValue

theorem frame_ideal_pre : Cert.quiescent_KernelIdeal_pre_finite_KernelIdeal := fun m ρ _ => frame_ideal m ρ trivial

theorem frame_reference_pre : Cert.quiescent_ReferenceIdeal_pre_finite_ReferenceIdeal := fun m ρ _ => frame_reference m ρ trivial

/-- An element of the activations' block of device `c`. -/
theorem block_x (c : Fin 4) (w : (⟨3, ![4, 1024, 1024]⟩ : Shape).Idx → EReal) (h : Layout.Tiles ⟨3, ![1, 1024, 1024]⟩ ⟨3, ![4, 1024, 1024]⟩ 0 4)
    (z : Fin 1) (i k : Fin 1024) :
    Layout.block ⟨3, ![1, 1024, 1024]⟩ ⟨3, ![4, 1024, 1024]⟩ 0 4 c w h (Idealize.ShloMosaic.ix3 z i k) = w (Idealize.ShloMosaic.ix3 c i k) := by
  rw [Layout.block_apply]
  refine congrArg w ?_
  have hz : z.val < 1 := z.isLt
  funext b
  match b with
  | 0 => exact Fin.ext (by rw [Layout.Tiles.idx_val]; show _ = c.val; simp [Idealize.ShloMosaic.ix3])
  | 1 => exact Fin.ext (by rw [Layout.Tiles.idx_val]; rfl)
  | 2 => exact Fin.ext (by rw [Layout.Tiles.idx_val]; rfl)

/-- An element of the query projection's block of device `c`. -/
theorem block_wq (c : Fin 4) (w : (⟨2, ![1024, 4096]⟩ : Shape).Idx → EReal) (h : Layout.Tiles ⟨2, ![1024, 1024]⟩ ⟨2, ![1024, 4096]⟩ 1 4) (i k : Fin 1024) :
    Layout.block ⟨2, ![1024, 1024]⟩ ⟨2, ![1024, 4096]⟩ 1 4 c w h (Idealize.ShloMosaic.ix2 i k) = w (Idealize.ShloMosaic.ix2 i (col c k)) := by
  rw [Layout.block_apply]
  refine congrArg w ?_
  funext b
  match b with
  | 0 => exact Fin.ext (by rw [Layout.Tiles.idx_val]; rfl)
  | 1 => exact Fin.ext (by rw [Layout.Tiles.idx_val]; exact congrArg (· + k.val) (Nat.mul_comm c.val 1024))

/-- An element of the output projection's block of device `c`. -/
theorem block_wo (c : Fin 4) (w : (⟨2, ![4096, 1024]⟩ : Shape).Idx → EReal) (h : Layout.Tiles ⟨2, ![1024, 1024]⟩ ⟨2, ![4096, 1024]⟩ 0 4) (i k : Fin 1024) :
    Layout.block ⟨2, ![1024, 1024]⟩ ⟨2, ![4096, 1024]⟩ 0 4 c w h (Idealize.ShloMosaic.ix2 i k) = w (Idealize.ShloMosaic.ix2 (col c i) k) := by
  rw [Layout.block_apply]
  refine congrArg w ?_
  funext b
  match b with
  | 0 => exact Fin.ext (by rw [Layout.Tiles.idx_val]; exact congrArg (· + i.val) (Nat.mul_comm c.val 1024))
  | 1 => exact Fin.ext (by rw [Layout.Tiles.idx_val]; rfl)

/-- Every column of the whole query projection is a column of some device's block. -/
theorem col_split (n : Fin 4096) : ∃ (c : Fin 4) (k : Fin 1024), n = col c k := by
  have hn := n.isLt
  exact ⟨⟨n.val / 1024, by omega⟩, ⟨n.val % 1024, Nat.mod_lt _ (by decide)⟩, Fin.ext (Nat.div_add_mod n.val 1024).symm⟩

/-- An index of three axes is its coordinates. -/
theorem idx3 (i : (⟨3, ![4, 1024, 1024]⟩ : Shape).Idx) : ∃ (c : Fin 4) (a b : Fin 1024), i = Idealize.ShloMosaic.ix3 c a b :=
  ⟨i 0, i 1, i 2, funext fun q => match q with
    | 0 => rfl
    | 1 => rfl
    | 2 => rfl⟩

theorem idx31 (i : (⟨3, ![1, 1024, 1024]⟩ : Shape).Idx) : ∃ a b : Fin 1024, i = Idealize.ShloMosaic.ix3 0 a b :=
  ⟨i 1, i 2, funext fun q => match q with
    | 0 => Fin.ext (by have := (i 0).isLt; show (i 0).val = 0; exact Nat.lt_one_iff.mp this)
    | 1 => rfl
    | 2 => rfl⟩

theorem idx2 (i : (⟨2, ![1024, 4096]⟩ : Shape).Idx) : ∃ (a : Fin 1024) (b : Fin 4096), i = Idealize.ShloMosaic.ix2 a b :=
  ⟨i 0, i 1, funext fun q => match q with
    | 0 => rfl
    | 1 => rfl⟩

variable [Cert.ReferenceIdeal.Facts]

/-- Where the devices' blocks are finite, so are the whole arrays. -/
theorem all_real {m : Mem} {X : FVec Ideal Cert.ReferenceIdeal.S4x1024x1024 .f32} {Wq : FVec Ideal Cert.ReferenceIdeal.S1024x4096 .f32}
    {K V : FVec Ideal Cert.ReferenceIdeal.S4x1024x32x128 .f32} {Wo : FVec Ideal Cert.ReferenceIdeal.S4096x1024 .f32}
    (H : Holds m X Wq K V Wo) (hp : Cert.Pre_KernelIdeal_finite_KernelIdeal m) : AllReal X Wq K where
  x i := by
    obtain ⟨c, a, b, rfl⟩ := idx3 i
    rw [← H.x c a b]
    exact (real_of_pre _ _ _ _ _ (hp c)).1 _
  wq i := by
    obtain ⟨a, n, rfl⟩ := idx2 i
    obtain ⟨c, k, rfl⟩ := col_split n
    rw [← H.wq c a k]
    exact (real_of_pre _ _ _ _ _ (hp c)).2.1 _
  k i := by
    rw [← H.k 0]
    exact (real_of_pre _ _ _ _ _ (hp 0)).2.2 _

theorem algebraic : Cert.algebraic_KernelIdeal_ReferenceIdeal_pre_finite_KernelIdeal := by
  intro m g m' g' hp hag
  have H : Holds m _ _ _ _ _ :=
    { x := fun c i k => (congrFun (hag c).1 _).trans (block_x c _ _ 0 i k)
      wq := fun c i k => (congrFun (hag c).2.1 _).trans (block_wq c _ _ i k)
      k := fun c => (hag c).2.2.1
      v := fun c => (hag c).2.2.2.1
      wo := fun c i k => (congrFun (hag c).2.2.2.2 _).trans (block_wo c _ _ i k) }
  have R := all_real H hp
  refine ⟨Cert.ReferenceIdeal.Value.res_main_v45 (F := Ideal) m' 0, ?_, ?_⟩
  · refine (θ_run Cert.KernelIdeal.defs _ _).mono (fun r h c => ⟨?_, (h.1 c).2⟩) (run_main (F := Ideal) m g)
    refine (h.1 c).1.trans (funext fun i => ?_)
    obtain ⟨a, b, rfl⟩ := idx31 i
    refine (OUT_at H R c a b).trans ?_
    rw [block_x]
    exact (congrFun (Cert.AttnRef.res_eq m' 0) _).symm
  · exact (θ_run Cert.ReferenceIdeal.defs _ _).mono (fun r h => h 0) (Cert.ReferenceIdeal.Value.run (F := Ideal) m' g')

end Cert.AttnProof

end
-- ==== Proof.lean ====
/- The certificate's claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.AttnValue.preFacts, Cert.AttnValue.preRefFacts,
  Cert.AttnProof.frame_kernel, Cert.AttnProof.frame_ideal, Cert.AttnProof.frame_ideal_pre, Cert.AttnProof.frame_reference, Cert.AttnProof.frame_reference_pre, Cert.AttnProof.preserves,
  letI := Cert.ReferenceIdeal.Gen.facts
  Cert.AttnProof.algebraic⟩

end Cert.Proof

end
